-- ==== Defs.lean ====
def Pre_KDx (m : (ℓ : Loc Cert.KDx.nD Cert.KDx.τ Cert.KDx.sig) → Buf (Elt Bits) ℓ) : Prop :=
  True

def Pre_KDxIdeal (m : (ℓ : Loc Cert.KDxIdeal.nD Cert.KDxIdeal.τ Cert.KDxIdeal.sig) → Buf (Elt Ideal) ℓ) : Prop :=
  True

def Pre_RDxIdeal (m : (ℓ : Loc Cert.RDxIdeal.nD Cert.RDxIdeal.τ Cert.RDxIdeal.sig) → Buf (Elt Ideal) ℓ) : Prop :=
  True

def Pre_KDw (m : (ℓ : Loc Cert.KDw.nD Cert.KDw.τ Cert.KDw.sig) → Buf (Elt Bits) ℓ) : Prop :=
  True

def Pre_KDwIdeal (m : (ℓ : Loc Cert.KDwIdeal.nD Cert.KDwIdeal.τ Cert.KDwIdeal.sig) → Buf (Elt Ideal) ℓ) : Prop :=
  True

def Pre_RDwIdeal (m : (ℓ : Loc Cert.RDwIdeal.nD Cert.RDwIdeal.τ Cert.RDwIdeal.sig) → Buf (Elt Ideal) ℓ) : Prop :=
  True

def Pre_KC (m : (ℓ : Loc Cert.KC.nD Cert.KC.τ Cert.KC.sig) → Buf (Elt Bits) ℓ) : Prop :=
  True

def Pre_KCIdeal (m : (ℓ : Loc Cert.KCIdeal.nD Cert.KCIdeal.τ Cert.KCIdeal.sig) → Buf (Elt Ideal) ℓ) : Prop :=
  True

def Pre_RCIdeal (m : (ℓ : Loc Cert.RCIdeal.nD Cert.RCIdeal.τ Cert.RCIdeal.sig) → Buf (Elt Ideal) ℓ) : Prop :=
  True

def Pre_KW (m : (ℓ : Loc Cert.KW.nD Cert.KW.τ Cert.KW.sig) → Buf (Elt Bits) ℓ) : Prop :=
  True

def Pre_KWIdeal (m : (ℓ : Loc Cert.KWIdeal.nD Cert.KWIdeal.τ Cert.KWIdeal.sig) → Buf (Elt Ideal) ℓ) : Prop :=
  True

def Pre_RWIdeal (m : (ℓ : Loc Cert.RWIdeal.nD Cert.RWIdeal.τ Cert.RWIdeal.sig) → Buf (Elt Ideal) ℓ) : Prop :=
  True

def quiescent_KDx [hKDx : Cert.KDx.Facts] : Prop :=
  ∀ (m : (ℓ : Loc Cert.KDx.nD Cert.KDx.τ Cert.KDx.sig) → Buf (Elt Bits) ℓ) (g : Dev Cert.KDx.nD → PrngReg), Pre_KDx m →
    θ_run (Cert.KDx.defs (F := Bits)) (onTc (τ := Cert.KDx.τ) (Cert.KDx.main (F := Bits))) ⟨m, fun _ => 0, g⟩ (fun r => (∀ c : Dev Cert.KDx.nD,
      r.2.mem ((c.tc : Thread Cert.KDx.nD Cert.KDx.τ).loc Cert.KDx.main_arg0) = m ((c.tc : Thread Cert.KDx.nD Cert.KDx.τ).loc Cert.KDx.main_arg0)
      ∧ r.2.mem ((c.tc : Thread Cert.KDx.nD Cert.KDx.τ).loc Cert.KDx.main_arg1) = m ((c.tc : Thread Cert.KDx.nD Cert.KDx.τ).loc Cert.KDx.main_arg1)
      ∧ r.2.mem ((c.tc : Thread Cert.KDx.nD Cert.KDx.τ).loc Cert.KDx.main_arg2) = m ((c.tc : Thread Cert.KDx.nD Cert.KDx.τ).loc Cert.KDx.main_arg2)
      ∧ r.2.mem ((c.tc : Thread Cert.KDx.nD Cert.KDx.τ).loc Cert.KDx.main_arg3) = m ((c.tc : Thread Cert.KDx.nD Cert.KDx.τ).loc Cert.KDx.main_arg3))
      ∧ r.2.sem = fun _ => 0)

def quiescent_KDxIdeal [hKDxIdeal : Cert.KDxIdeal.Facts] : Prop :=
  ∀ (m : (ℓ : Loc Cert.KDxIdeal.nD Cert.KDxIdeal.τ Cert.KDxIdeal.sig) → Buf (Elt Ideal) ℓ) (g : Dev Cert.KDxIdeal.nD → PrngReg), Pre_KDxIdeal m →
    θ_run (Cert.KDxIdeal.defs (F := Ideal)) (onTc (τ := Cert.KDxIdeal.τ) (Cert.KDxIdeal.main (F := Ideal))) ⟨m, fun _ => 0, g⟩ (fun r => (∀ c : Dev Cert.KDxIdeal.nD,
      r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
      ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
      ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2)
      ∧ r.2.mem ((c.tc : Thread Cert.KDxIdeal.nD Cert.KDxIdeal.τ).loc Cert.KDxIdeal.main_arg3) = m ((c.tc : Thread Cert.KDxIdeal.nD Cert.KDxIdeal.τ).loc Cert.KDxIdeal.main_arg3))
      ∧ r.2.sem = fun _ => 0)

def quiescent_RDxIdeal [hRDxIdeal : Cert.RDxIdeal.Facts] : Prop :=
  ∀ (m : (ℓ : Loc Cert.RDxIdeal.nD Cert.RDxIdeal.τ Cert.RDxIdeal.sig) → Buf (Elt Ideal) ℓ) (g : Dev Cert.RDxIdeal.nD → PrngReg), Pre_RDxIdeal m →
    θ_run (Cert.RDxIdeal.defs (F := Ideal)) (onTc (τ := Cert.RDxIdeal.τ) (Cert.RDxIdeal.main (F := Ideal))) ⟨m, fun _ => 0, g⟩ (fun r => (∀ c : Dev Cert.RDxIdeal.nD,
      r.2.mem ((c.tc : Thread Cert.RDxIdeal.nD Cert.RDxIdeal.τ).loc Cert.RDxIdeal.main_arg0) = m ((c.tc : Thread Cert.RDxIdeal.nD Cert.RDxIdeal.τ).loc Cert.RDxIdeal.main_arg0)
      ∧ r.2.mem ((c.tc : Thread Cert.RDxIdeal.nD Cert.RDxIdeal.τ).loc Cert.RDxIdeal.main_arg1) = m ((c.tc : Thread Cert.RDxIdeal.nD Cert.RDxIdeal.τ).loc Cert.RDxIdeal.main_arg1)
      ∧ r.2.mem ((c.tc : Thread Cert.RDxIdeal.nD Cert.RDxIdeal.τ).loc Cert.RDxIdeal.main_arg2) = m ((c.tc : Thread Cert.RDxIdeal.nD Cert.RDxIdeal.τ).loc Cert.RDxIdeal.main_arg2)
      ∧ r.2.mem ((c.tc : Thread Cert.RDxIdeal.nD Cert.RDxIdeal.τ).loc Cert.RDxIdeal.main_arg3) = m ((c.tc : Thread Cert.RDxIdeal.nD Cert.RDxIdeal.τ).loc Cert.RDxIdeal.main_arg3))
      ∧ r.2.sem = fun _ => 0)

def quiescent_KDw [hKDw : Cert.KDw.Facts] : Prop :=
  ∀ (m : (ℓ : Loc Cert.KDw.nD Cert.KDw.τ Cert.KDw.sig) → Buf (Elt Bits) ℓ) (g : Dev Cert.KDw.nD → PrngReg), Pre_KDw m →
    θ_run (Cert.KDw.defs (F := Bits)) (onTc (τ := Cert.KDw.τ) (Cert.KDw.main (F := Bits))) ⟨m, fun _ => 0, g⟩ (fun r => (∀ c : Dev Cert.KDw.nD,
      r.2.mem ((c.tc : Thread Cert.KDw.nD Cert.KDw.τ).loc Cert.KDw.main_arg0) = m ((c.tc : Thread Cert.KDw.nD Cert.KDw.τ).loc Cert.KDw.main_arg0)
      ∧ r.2.mem ((c.tc : Thread Cert.KDw.nD Cert.KDw.τ).loc Cert.KDw.main_arg1) = m ((c.tc : Thread Cert.KDw.nD Cert.KDw.τ).loc Cert.KDw.main_arg1)
      ∧ r.2.mem ((c.tc : Thread Cert.KDw.nD Cert.KDw.τ).loc Cert.KDw.main_arg2) = m ((c.tc : Thread Cert.KDw.nD Cert.KDw.τ).loc Cert.KDw.main_arg2)
      ∧ r.2.mem ((c.tc : Thread Cert.KDw.nD Cert.KDw.τ).loc Cert.KDw.main_arg3) = m ((c.tc : Thread Cert.KDw.nD Cert.KDw.τ).loc Cert.KDw.main_arg3))
      ∧ r.2.sem = fun _ => 0)

def quiescent_KDwIdeal [hKDwIdeal : Cert.KDwIdeal.Facts] : Prop :=
  ∀ (m : (ℓ : Loc Cert.KDwIdeal.nD Cert.KDwIdeal.τ Cert.KDwIdeal.sig) → Buf (Elt Ideal) ℓ) (g : Dev Cert.KDwIdeal.nD → PrngReg), Pre_KDwIdeal m →
    θ_run (Cert.KDwIdeal.defs (F := Ideal)) (onTc (τ := Cert.KDwIdeal.τ) (Cert.KDwIdeal.main (F := Ideal))) ⟨m, fun _ => 0, g⟩ (fun r => (∀ c : Dev Cert.KDwIdeal.nD,
      r.2.mem ((c.tc : Thread Cert.KDwIdeal.nD Cert.KDwIdeal.τ).loc Cert.KDwIdeal.main_arg0) = m ((c.tc : Thread Cert.KDwIdeal.nD Cert.KDwIdeal.τ).loc Cert.KDwIdeal.main_arg0)
      ∧ r.2.mem ((c.tc : Thread Cert.KDwIdeal.nD Cert.KDwIdeal.τ).loc Cert.KDwIdeal.main_arg1) = m ((c.tc : Thread Cert.KDwIdeal.nD Cert.KDwIdeal.τ).loc Cert.KDwIdeal.main_arg1)
      ∧ r.2.mem ((c.tc : Thread Cert.KDwIdeal.nD Cert.KDwIdeal.τ).loc Cert.KDwIdeal.main_arg2) = m ((c.tc : Thread Cert.KDwIdeal.nD Cert.KDwIdeal.τ).loc Cert.KDwIdeal.main_arg2)
      ∧ r.2.mem ((c.tc : Thread Cert.KDwIdeal.nD Cert.KDwIdeal.τ).loc Cert.KDwIdeal.main_arg3) = m ((c.tc : Thread Cert.KDwIdeal.nD Cert.KDwIdeal.τ).loc Cert.KDwIdeal.main_arg3))
      ∧ r.2.sem = fun _ => 0)

def quiescent_RDwIdeal [hRDwIdeal : Cert.RDwIdeal.Facts] : Prop :=
  ∀ (m : (ℓ : Loc Cert.RDwIdeal.nD Cert.RDwIdeal.τ Cert.RDwIdeal.sig) → Buf (Elt Ideal) ℓ) (g : Dev Cert.RDwIdeal.nD → PrngReg), Pre_RDwIdeal m →
    θ_run (Cert.RDwIdeal.defs (F := Ideal)) (onTc (τ := Cert.RDwIdeal.τ) (Cert.RDwIdeal.main (F := Ideal))) ⟨m, fun _ => 0, g⟩ (fun r => (∀ c : Dev Cert.RDwIdeal.nD,
      r.2.mem ((c.tc : Thread Cert.RDwIdeal.nD Cert.RDwIdeal.τ).loc Cert.RDwIdeal.main_arg0) = m ((c.tc : Thread Cert.RDwIdeal.nD Cert.RDwIdeal.τ).loc Cert.RDwIdeal.main_arg0)
      ∧ r.2.mem ((c.tc : Thread Cert.RDwIdeal.nD Cert.RDwIdeal.τ).loc Cert.RDwIdeal.main_arg1) = m ((c.tc : Thread Cert.RDwIdeal.nD Cert.RDwIdeal.τ).loc Cert.RDwIdeal.main_arg1)
      ∧ r.2.mem ((c.tc : Thread Cert.RDwIdeal.nD Cert.RDwIdeal.τ).loc Cert.RDwIdeal.main_arg2) = m ((c.tc : Thread Cert.RDwIdeal.nD Cert.RDwIdeal.τ).loc Cert.RDwIdeal.main_arg2)
      ∧ r.2.mem ((c.tc : Thread Cert.RDwIdeal.nD Cert.RDwIdeal.τ).loc Cert.RDwIdeal.main_arg3) = m ((c.tc : Thread Cert.RDwIdeal.nD Cert.RDwIdeal.τ).loc Cert.RDwIdeal.main_arg3))
      ∧ r.2.sem = fun _ => 0)

def quiescent_KC [hKC : Cert.KC.Facts] : Prop :=
  ∀ (m : (ℓ : Loc Cert.KC.nD Cert.KC.τ Cert.KC.sig) → Buf (Elt Bits) ℓ) (g : Dev Cert.KC.nD → PrngReg), Pre_KC m →
    θ_run (Cert.KC.defs (F := Bits)) (onTc (τ := Cert.KC.τ) (Cert.KC.main (F := Bits))) ⟨m, fun _ => 0, g⟩ (fun r => (∀ c : Dev Cert.KC.nD,
      r.2.mem ((c.tc : Thread Cert.KC.nD Cert.KC.τ).loc Cert.KC.main_arg0) = m ((c.tc : Thread Cert.KC.nD Cert.KC.τ).loc Cert.KC.main_arg0)
      ∧ r.2.mem ((c.tc : Thread Cert.KC.nD Cert.KC.τ).loc Cert.KC.main_arg1) = m ((c.tc : Thread Cert.KC.nD Cert.KC.τ).loc Cert.KC.main_arg1)
      ∧ r.2.mem ((c.tc : Thread Cert.KC.nD Cert.KC.τ).loc Cert.KC.main_arg2) = m ((c.tc : Thread Cert.KC.nD Cert.KC.τ).loc Cert.KC.main_arg2))
      ∧ r.2.sem = fun _ => 0)

def quiescent_KCIdeal [hKCIdeal : Cert.KCIdeal.Facts] : Prop :=
  ∀ (m : (ℓ : Loc Cert.KCIdeal.nD Cert.KCIdeal.τ Cert.KCIdeal.sig) → Buf (Elt Ideal) ℓ) (g : Dev Cert.KCIdeal.nD → PrngReg), Pre_KCIdeal m →
    θ_run (Cert.KCIdeal.defs (F := Ideal)) (onTc (τ := Cert.KCIdeal.τ) (Cert.KCIdeal.main (F := Ideal))) ⟨m, fun _ => 0, g⟩ (fun r => (∀ c : Dev Cert.KCIdeal.nD,
      r.2.mem ((c.tc : Thread Cert.KCIdeal.nD Cert.KCIdeal.τ).loc Cert.KCIdeal.main_arg0) = m ((c.tc : Thread Cert.KCIdeal.nD Cert.KCIdeal.τ).loc Cert.KCIdeal.main_arg0)
      ∧ r.2.mem ((c.tc : Thread Cert.KCIdeal.nD Cert.KCIdeal.τ).loc Cert.KCIdeal.main_arg1) = m ((c.tc : Thread Cert.KCIdeal.nD Cert.KCIdeal.τ).loc Cert.KCIdeal.main_arg1)
      ∧ r.2.mem ((c.tc : Thread Cert.KCIdeal.nD Cert.KCIdeal.τ).loc Cert.KCIdeal.main_arg2) = m ((c.tc : Thread Cert.KCIdeal.nD Cert.KCIdeal.τ).loc Cert.KCIdeal.main_arg2))
      ∧ r.2.sem = fun _ => 0)

def quiescent_RCIdeal [hRCIdeal : Cert.RCIdeal.Facts] : Prop :=
  ∀ (m : (ℓ : Loc Cert.RCIdeal.nD Cert.RCIdeal.τ Cert.RCIdeal.sig) → Buf (Elt Ideal) ℓ) (g : Dev Cert.RCIdeal.nD → PrngReg), Pre_RCIdeal m →
    θ_run (Cert.RCIdeal.defs (F := Ideal)) (onTc (τ := Cert.RCIdeal.τ) (Cert.RCIdeal.main (F := Ideal))) ⟨m, fun _ => 0, g⟩ (fun r => (∀ c : Dev Cert.RCIdeal.nD,
      r.2.mem ((c.tc : Thread Cert.RCIdeal.nD Cert.RCIdeal.τ).loc Cert.RCIdeal.main_arg0) = m ((c.tc : Thread Cert.RCIdeal.nD Cert.RCIdeal.τ).loc Cert.RCIdeal.main_arg0)
      ∧ r.2.mem ((c.tc : Thread Cert.RCIdeal.nD Cert.RCIdeal.τ).loc Cert.RCIdeal.main_arg1) = m ((c.tc : Thread Cert.RCIdeal.nD Cert.RCIdeal.τ).loc Cert.RCIdeal.main_arg1)
      ∧ r.2.mem ((c.tc : Thread Cert.RCIdeal.nD Cert.RCIdeal.τ).loc Cert.RCIdeal.main_arg2) = m ((c.tc : Thread Cert.RCIdeal.nD Cert.RCIdeal.τ).loc Cert.RCIdeal.main_arg2))
      ∧ r.2.sem = fun _ => 0)

def quiescent_KW [hKW : Cert.KW.Facts] : Prop :=
  ∀ (m : (ℓ : Loc Cert.KW.nD Cert.KW.τ Cert.KW.sig) → Buf (Elt Bits) ℓ) (g : Dev Cert.KW.nD → PrngReg), Pre_KW m →
    θ_run (Cert.KW.defs (F := Bits)) (onTc (τ := Cert.KW.τ) (Cert.KW.main (F := Bits))) ⟨m, fun _ => 0, g⟩ (fun r => (∀ c : Dev Cert.KW.nD,
      r.2.mem ((c.tc : Thread Cert.KW.nD Cert.KW.τ).loc Cert.KW.main_arg0) = m ((c.tc : Thread Cert.KW.nD Cert.KW.τ).loc Cert.KW.main_arg0))
      ∧ r.2.sem = fun _ => 0)

def quiescent_KWIdeal [hKWIdeal : Cert.KWIdeal.Facts] : Prop :=
  ∀ (m : (ℓ : Loc Cert.KWIdeal.nD Cert.KWIdeal.τ Cert.KWIdeal.sig) → Buf (Elt Ideal) ℓ) (g : Dev Cert.KWIdeal.nD → PrngReg), Pre_KWIdeal m →
    θ_run (Cert.KWIdeal.defs (F := Ideal)) (onTc (τ := Cert.KWIdeal.τ) (Cert.KWIdeal.main (F := Ideal))) ⟨m, fun _ => 0, g⟩ (fun r => (∀ c : Dev Cert.KWIdeal.nD,
      r.2.mem ((c.tc : Thread Cert.KWIdeal.nD Cert.KWIdeal.τ).loc Cert.KWIdeal.main_arg0) = m ((c.tc : Thread Cert.KWIdeal.nD Cert.KWIdeal.τ).loc Cert.KWIdeal.main_arg0))
      ∧ r.2.sem = fun _ => 0)

def quiescent_RWIdeal [hRWIdeal : Cert.RWIdeal.Facts] : Prop :=
  ∀ (m : (ℓ : Loc Cert.RWIdeal.nD Cert.RWIdeal.τ Cert.RWIdeal.sig) → Buf (Elt Ideal) ℓ) (g : Dev Cert.RWIdeal.nD → PrngReg), Pre_RWIdeal m →
    θ_run (Cert.RWIdeal.defs (F := Ideal)) (onTc (τ := Cert.RWIdeal.τ) (Cert.RWIdeal.main (F := Ideal))) ⟨m, fun _ => 0, g⟩ (fun r => (∀ c : Dev Cert.RWIdeal.nD,
      r.2.mem ((c.tc : Thread Cert.RWIdeal.nD Cert.RWIdeal.τ).loc Cert.RWIdeal.main_arg0) = m ((c.tc : Thread Cert.RWIdeal.nD Cert.RWIdeal.τ).loc Cert.RWIdeal.main_arg0))
      ∧ r.2.sem = fun _ => 0)

def preserves_KDx_KDxIdeal : Prop :=
  True

def algebraic_KDxIdeal_RDxIdeal [hKDxIdeal : Cert.KDxIdeal.Facts] [hRDxIdeal : Cert.RDxIdeal.Facts] : Prop :=
  ∀ (m : (ℓ : Loc Cert.KDxIdeal.nD Cert.KDxIdeal.τ Cert.KDxIdeal.sig) → Buf (Elt Ideal) ℓ) (g : Dev Cert.KDxIdeal.nD → PrngReg)
    (m' : (ℓ : Loc Cert.RDxIdeal.nD Cert.RDxIdeal.τ Cert.RDxIdeal.sig) → Buf (Elt Ideal) ℓ) (g' : Dev Cert.RDxIdeal.nD → PrngReg), Pre_KDxIdeal m →
    (∀ c : Dev Cert.KDxIdeal.nD,
      m' ((c.tc : Thread Cert.RDxIdeal.nD Cert.RDxIdeal.τ).loc Cert.RDxIdeal.main_arg0) = m ((c.tc : Thread Cert.KDxIdeal.nD Cert.KDxIdeal.τ).loc Cert.KDxIdeal.main_arg0)
      ∧ m' ((c.tc : Thread Cert.RDxIdeal.nD Cert.RDxIdeal.τ).loc Cert.RDxIdeal.main_arg1) = m ((c.tc : Thread Cert.KDxIdeal.nD Cert.KDxIdeal.τ).loc Cert.KDxIdeal.main_arg1)
      ∧ m' ((c.tc : Thread Cert.RDxIdeal.nD Cert.RDxIdeal.τ).loc Cert.RDxIdeal.main_arg2) = m ((c.tc : Thread Cert.KDxIdeal.nD Cert.KDxIdeal.τ).loc Cert.KDxIdeal.main_arg2)
      ∧ m' ((c.tc : Thread Cert.RDxIdeal.nD Cert.RDxIdeal.τ).loc Cert.RDxIdeal.main_arg3) = m ((c.tc : Thread Cert.KDxIdeal.nD Cert.KDxIdeal.τ).loc Cert.KDxIdeal.main_arg3)) →
    ∃ (v0 : (c : Dev Cert.KDxIdeal.nD) → Buf (Elt Ideal) ((c.tc : Thread Cert.KDxIdeal.nD Cert.KDxIdeal.τ).loc Cert.KDxIdeal.main_v0_0)) (v1 : (c : Dev Cert.KDxIdeal.nD) → Buf (Elt Ideal) ((c.tc : Thread Cert.KDxIdeal.nD Cert.KDxIdeal.τ).loc Cert.KDxIdeal.main_v0_1)) (v2 : (c : Dev Cert.KDxIdeal.nD) → Buf (Elt Ideal) ((c.tc : Thread Cert.KDxIdeal.nD Cert.KDxIdeal.τ).loc Cert.KDxIdeal.main_v0_2)) (v3 : (c : Dev Cert.KDxIdeal.nD) → Buf (Elt Ideal) ((c.tc : Thread Cert.KDxIdeal.nD Cert.KDxIdeal.τ).loc Cert.KDxIdeal.main_v0_3)),
      θ_run (Cert.KDxIdeal.defs (F := Ideal)) (onTc (τ := Cert.KDxIdeal.τ) (Cert.KDxIdeal.main (F := Ideal))) ⟨m, fun _ => 0, g⟩ (fun r => ∀ c : Dev Cert.KDxIdeal.nD,
          r.2.mem ((c.tc : Thread Cert.KDxIdeal.nD Cert.KDxIdeal.τ).loc Cert.KDxIdeal.main_v0_0) = v0 c
          ∧ r.2.mem ((c.tc : Thread Cert.KDxIdeal.nD Cert.KDxIdeal.τ).loc Cert.KDxIdeal.main_v0_1) = v1 c
          ∧ r.2.mem ((c.tc : Thread Cert.KDxIdeal.nD Cert.KDxIdeal.τ).loc Cert.KDxIdeal.main_v0_2) = v2 c
          ∧ r.2.mem ((c.tc : Thread Cert.KDxIdeal.nD Cert.KDxIdeal.τ).loc Cert.KDxIdeal.main_v0_3) = v3 c
          ∧ r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
          ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
          ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2)
          ∧ r.2.mem ((c.tc : Thread Cert.KDxIdeal.nD Cert.KDxIdeal.τ).loc Cert.KDxIdeal.main_arg3) = m ((c.tc : Thread Cert.KDxIdeal.nD Cert.KDxIdeal.τ).loc Cert.KDxIdeal.main_arg3))
      ∧ θ_run (Cert.RDxIdeal.defs (F := Ideal)) (onTc (τ := Cert.RDxIdeal.τ) (Cert.RDxIdeal.main (F := Ideal))) ⟨m', fun _ => 0, g'⟩ (fun r => ∀ c : Dev Cert.RDxIdeal.nD,
          r.2.mem ((c.tc : Thread Cert.RDxIdeal.nD Cert.RDxIdeal.τ).loc Cert.RDxIdeal.main_v0_0) = v0 c
          ∧ r.2.mem ((c.tc : Thread Cert.RDxIdeal.nD Cert.RDxIdeal.τ).loc Cert.RDxIdeal.main_v0_1) = v1 c
          ∧ r.2.mem ((c.tc : Thread Cert.RDxIdeal.nD Cert.RDxIdeal.τ).loc Cert.RDxIdeal.main_v0_2) = v2 c
          ∧ r.2.mem ((c.tc : Thread Cert.RDxIdeal.nD Cert.RDxIdeal.τ).loc Cert.RDxIdeal.main_v0_3) = v3 c
          ∧ r.2.mem ((c.tc : Thread Cert.RDxIdeal.nD Cert.RDxIdeal.τ).loc Cert.RDxIdeal.main_arg0) = m' ((c.tc : Thread Cert.RDxIdeal.nD Cert.RDxIdeal.τ).loc Cert.RDxIdeal.main_arg0)
          ∧ r.2.mem ((c.tc : Thread Cert.RDxIdeal.nD Cert.RDxIdeal.τ).loc Cert.RDxIdeal.main_arg1) = m' ((c.tc : Thread Cert.RDxIdeal.nD Cert.RDxIdeal.τ).loc Cert.RDxIdeal.main_arg1)
          ∧ r.2.mem ((c.tc : Thread Cert.RDxIdeal.nD Cert.RDxIdeal.τ).loc Cert.RDxIdeal.main_arg2) = m' ((c.tc : Thread Cert.RDxIdeal.nD Cert.RDxIdeal.τ).loc Cert.RDxIdeal.main_arg2)
          ∧ r.2.mem ((c.tc : Thread Cert.RDxIdeal.nD Cert.RDxIdeal.τ).loc Cert.RDxIdeal.main_arg3) = m' ((c.tc : Thread Cert.RDxIdeal.nD Cert.RDxIdeal.τ).loc Cert.RDxIdeal.main_arg3))

def preserves_KDw_KDwIdeal : Prop :=
  True

def algebraic_KDwIdeal_RDwIdeal [hKDwIdeal : Cert.KDwIdeal.Facts] [hRDwIdeal : Cert.RDwIdeal.Facts] : Prop :=
  ∀ (m : (ℓ : Loc Cert.KDwIdeal.nD Cert.KDwIdeal.τ Cert.KDwIdeal.sig) → Buf (Elt Ideal) ℓ) (g : Dev Cert.KDwIdeal.nD → PrngReg)
    (m' : (ℓ : Loc Cert.RDwIdeal.nD Cert.RDwIdeal.τ Cert.RDwIdeal.sig) → Buf (Elt Ideal) ℓ) (g' : Dev Cert.RDwIdeal.nD → PrngReg), Pre_KDwIdeal m →
    (∀ c : Dev Cert.KDwIdeal.nD,
      m' ((c.tc : Thread Cert.RDwIdeal.nD Cert.RDwIdeal.τ).loc Cert.RDwIdeal.main_arg0) = m ((c.tc : Thread Cert.KDwIdeal.nD Cert.KDwIdeal.τ).loc Cert.KDwIdeal.main_arg0)
      ∧ m' ((c.tc : Thread Cert.RDwIdeal.nD Cert.RDwIdeal.τ).loc Cert.RDwIdeal.main_arg1) = m ((c.tc : Thread Cert.KDwIdeal.nD Cert.KDwIdeal.τ).loc Cert.KDwIdeal.main_arg1)
      ∧ m' ((c.tc : Thread Cert.RDwIdeal.nD Cert.RDwIdeal.τ).loc Cert.RDwIdeal.main_arg2) = m ((c.tc : Thread Cert.KDwIdeal.nD Cert.KDwIdeal.τ).loc Cert.KDwIdeal.main_arg2)
      ∧ m' ((c.tc : Thread Cert.RDwIdeal.nD Cert.RDwIdeal.τ).loc Cert.RDwIdeal.main_arg3) = m ((c.tc : Thread Cert.KDwIdeal.nD Cert.KDwIdeal.τ).loc Cert.KDwIdeal.main_arg3)) →
    ∃ (v0 : (c : Dev Cert.KDwIdeal.nD) → Buf (Elt Ideal) ((c.tc : Thread Cert.KDwIdeal.nD Cert.KDwIdeal.τ).loc Cert.KDwIdeal.main_v0)),
      θ_run (Cert.KDwIdeal.defs (F := Ideal)) (onTc (τ := Cert.KDwIdeal.τ) (Cert.KDwIdeal.main (F := Ideal))) ⟨m, fun _ => 0, g⟩ (fun r => ∀ c : Dev Cert.KDwIdeal.nD,
          r.2.mem ((c.tc : Thread Cert.KDwIdeal.nD Cert.KDwIdeal.τ).loc Cert.KDwIdeal.main_v0) = v0 c
          ∧ r.2.mem ((c.tc : Thread Cert.KDwIdeal.nD Cert.KDwIdeal.τ).loc Cert.KDwIdeal.main_arg0) = m ((c.tc : Thread Cert.KDwIdeal.nD Cert.KDwIdeal.τ).loc Cert.KDwIdeal.main_arg0)
          ∧ r.2.mem ((c.tc : Thread Cert.KDwIdeal.nD Cert.KDwIdeal.τ).loc Cert.KDwIdeal.main_arg1) = m ((c.tc : Thread Cert.KDwIdeal.nD Cert.KDwIdeal.τ).loc Cert.KDwIdeal.main_arg1)
          ∧ r.2.mem ((c.tc : Thread Cert.KDwIdeal.nD Cert.KDwIdeal.τ).loc Cert.KDwIdeal.main_arg2) = m ((c.tc : Thread Cert.KDwIdeal.nD Cert.KDwIdeal.τ).loc Cert.KDwIdeal.main_arg2)
          ∧ r.2.mem ((c.tc : Thread Cert.KDwIdeal.nD Cert.KDwIdeal.τ).loc Cert.KDwIdeal.main_arg3) = m ((c.tc : Thread Cert.KDwIdeal.nD Cert.KDwIdeal.τ).loc Cert.KDwIdeal.main_arg3))
      ∧ θ_run (Cert.RDwIdeal.defs (F := Ideal)) (onTc (τ := Cert.RDwIdeal.τ) (Cert.RDwIdeal.main (F := Ideal))) ⟨m', fun _ => 0, g'⟩ (fun r => ∀ c : Dev Cert.RDwIdeal.nD,
          r.2.mem ((c.tc : Thread Cert.RDwIdeal.nD Cert.RDwIdeal.τ).loc Cert.RDwIdeal.main_v0) = v0 c
          ∧ r.2.mem ((c.tc : Thread Cert.RDwIdeal.nD Cert.RDwIdeal.τ).loc Cert.RDwIdeal.main_arg0) = m' ((c.tc : Thread Cert.RDwIdeal.nD Cert.RDwIdeal.τ).loc Cert.RDwIdeal.main_arg0)
          ∧ r.2.mem ((c.tc : Thread Cert.RDwIdeal.nD Cert.RDwIdeal.τ).loc Cert.RDwIdeal.main_arg1) = m' ((c.tc : Thread Cert.RDwIdeal.nD Cert.RDwIdeal.τ).loc Cert.RDwIdeal.main_arg1)
          ∧ r.2.mem ((c.tc : Thread Cert.RDwIdeal.nD Cert.RDwIdeal.τ).loc Cert.RDwIdeal.main_arg2) = m' ((c.tc : Thread Cert.RDwIdeal.nD Cert.RDwIdeal.τ).loc Cert.RDwIdeal.main_arg2)
          ∧ r.2.mem ((c.tc : Thread Cert.RDwIdeal.nD Cert.RDwIdeal.τ).loc Cert.RDwIdeal.main_arg3) = m' ((c.tc : Thread Cert.RDwIdeal.nD Cert.RDwIdeal.τ).loc Cert.RDwIdeal.main_arg3))

def preserves_KC_KCIdeal : Prop :=
  True

def algebraic_KCIdeal_RCIdeal [hKCIdeal : Cert.KCIdeal.Facts] [hRCIdeal : Cert.RCIdeal.Facts] : Prop :=
  ∀ (m : (ℓ : Loc Cert.KCIdeal.nD Cert.KCIdeal.τ Cert.KCIdeal.sig) → Buf (Elt Ideal) ℓ) (g : Dev Cert.KCIdeal.nD → PrngReg)
    (m' : (ℓ : Loc Cert.RCIdeal.nD Cert.RCIdeal.τ Cert.RCIdeal.sig) → Buf (Elt Ideal) ℓ) (g' : Dev Cert.RCIdeal.nD → PrngReg), Pre_KCIdeal m →
    (∀ c : Dev Cert.KCIdeal.nD,
      m' ((c.tc : Thread Cert.RCIdeal.nD Cert.RCIdeal.τ).loc Cert.RCIdeal.main_arg0) = m ((c.tc : Thread Cert.KCIdeal.nD Cert.KCIdeal.τ).loc Cert.KCIdeal.main_arg0)
      ∧ m' ((c.tc : Thread Cert.RCIdeal.nD Cert.RCIdeal.τ).loc Cert.RCIdeal.main_arg1) = m ((c.tc : Thread Cert.KCIdeal.nD Cert.KCIdeal.τ).loc Cert.KCIdeal.main_arg1)
      ∧ m' ((c.tc : Thread Cert.RCIdeal.nD Cert.RCIdeal.τ).loc Cert.RCIdeal.main_arg2) = m ((c.tc : Thread Cert.KCIdeal.nD Cert.KCIdeal.τ).loc Cert.KCIdeal.main_arg2)) →
    ∃ (v0 : (c : Dev Cert.KCIdeal.nD) → Buf (Elt Ideal) ((c.tc : Thread Cert.KCIdeal.nD Cert.KCIdeal.τ).loc Cert.KCIdeal.main_v0)),
      θ_run (Cert.KCIdeal.defs (F := Ideal)) (onTc (τ := Cert.KCIdeal.τ) (Cert.KCIdeal.main (F := Ideal))) ⟨m, fun _ => 0, g⟩ (fun r => ∀ c : Dev Cert.KCIdeal.nD,
          r.2.mem ((c.tc : Thread Cert.KCIdeal.nD Cert.KCIdeal.τ).loc Cert.KCIdeal.main_v0) = v0 c
          ∧ r.2.mem ((c.tc : Thread Cert.KCIdeal.nD Cert.KCIdeal.τ).loc Cert.KCIdeal.main_arg0) = m ((c.tc : Thread Cert.KCIdeal.nD Cert.KCIdeal.τ).loc Cert.KCIdeal.main_arg0)
          ∧ r.2.mem ((c.tc : Thread Cert.KCIdeal.nD Cert.KCIdeal.τ).loc Cert.KCIdeal.main_arg1) = m ((c.tc : Thread Cert.KCIdeal.nD Cert.KCIdeal.τ).loc Cert.KCIdeal.main_arg1)
          ∧ r.2.mem ((c.tc : Thread Cert.KCIdeal.nD Cert.KCIdeal.τ).loc Cert.KCIdeal.main_arg2) = m ((c.tc : Thread Cert.KCIdeal.nD Cert.KCIdeal.τ).loc Cert.KCIdeal.main_arg2))
      ∧ θ_run (Cert.RCIdeal.defs (F := Ideal)) (onTc (τ := Cert.RCIdeal.τ) (Cert.RCIdeal.main (F := Ideal))) ⟨m', fun _ => 0, g'⟩ (fun r => ∀ c : Dev Cert.RCIdeal.nD,
          r.2.mem ((c.tc : Thread Cert.RCIdeal.nD Cert.RCIdeal.τ).loc Cert.RCIdeal.main_v22) = v0 c
          ∧ r.2.mem ((c.tc : Thread Cert.RCIdeal.nD Cert.RCIdeal.τ).loc Cert.RCIdeal.main_arg0) = m' ((c.tc : Thread Cert.RCIdeal.nD Cert.RCIdeal.τ).loc Cert.RCIdeal.main_arg0)
          ∧ r.2.mem ((c.tc : Thread Cert.RCIdeal.nD Cert.RCIdeal.τ).loc Cert.RCIdeal.main_arg1) = m' ((c.tc : Thread Cert.RCIdeal.nD Cert.RCIdeal.τ).loc Cert.RCIdeal.main_arg1)
          ∧ r.2.mem ((c.tc : Thread Cert.RCIdeal.nD Cert.RCIdeal.τ).loc Cert.RCIdeal.main_arg2) = m' ((c.tc : Thread Cert.RCIdeal.nD Cert.RCIdeal.τ).loc Cert.RCIdeal.main_arg2))

def preserves_KW_KWIdeal : Prop :=
  True

def algebraic_KWIdeal_RWIdeal [hKWIdeal : Cert.KWIdeal.Facts] [hRWIdeal : Cert.RWIdeal.Facts] : Prop :=
  ∀ (m : (ℓ : Loc Cert.KWIdeal.nD Cert.KWIdeal.τ Cert.KWIdeal.sig) → Buf (Elt Ideal) ℓ) (g : Dev Cert.KWIdeal.nD → PrngReg)
    (m' : (ℓ : Loc Cert.RWIdeal.nD Cert.RWIdeal.τ Cert.RWIdeal.sig) → Buf (Elt Ideal) ℓ) (g' : Dev Cert.RWIdeal.nD → PrngReg), Pre_KWIdeal m →
    (∀ c : Dev Cert.KWIdeal.nD,
      m' ((c.tc : Thread Cert.RWIdeal.nD Cert.RWIdeal.τ).loc Cert.RWIdeal.main_arg0) = m ((c.tc : Thread Cert.KWIdeal.nD Cert.KWIdeal.τ).loc Cert.KWIdeal.main_arg0)) →
    ∃ (v0 : (c : Dev Cert.KWIdeal.nD) → Buf (Elt Ideal) ((c.tc : Thread Cert.KWIdeal.nD Cert.KWIdeal.τ).loc Cert.KWIdeal.main_v0)),
      θ_run (Cert.KWIdeal.defs (F := Ideal)) (onTc (τ := Cert.KWIdeal.τ) (Cert.KWIdeal.main (F := Ideal))) ⟨m, fun _ => 0, g⟩ (fun r => ∀ c : Dev Cert.KWIdeal.nD,
          r.2.mem ((c.tc : Thread Cert.KWIdeal.nD Cert.KWIdeal.τ).loc Cert.KWIdeal.main_v0) = v0 c
          ∧ r.2.mem ((c.tc : Thread Cert.KWIdeal.nD Cert.KWIdeal.τ).loc Cert.KWIdeal.main_arg0) = m ((c.tc : Thread Cert.KWIdeal.nD Cert.KWIdeal.τ).loc Cert.KWIdeal.main_arg0))
      ∧ θ_run (Cert.RWIdeal.defs (F := Ideal)) (onTc (τ := Cert.RWIdeal.τ) (Cert.RWIdeal.main (F := Ideal))) ⟨m', fun _ => 0, g'⟩ (fun r => ∀ c : Dev Cert.RWIdeal.nD,
          r.2.mem ((c.tc : Thread Cert.RWIdeal.nD Cert.RWIdeal.τ).loc Cert.RWIdeal.main_v0) = v0 c
          ∧ r.2.mem ((c.tc : Thread Cert.RWIdeal.nD Cert.RWIdeal.τ).loc Cert.RWIdeal.main_arg0) = m' ((c.tc : Thread Cert.RWIdeal.nD Cert.RWIdeal.τ).loc Cert.RWIdeal.main_arg0))

def Claim : Prop :=
  ∃ (hKDx : Cert.KDx.Facts) (hKDxIdeal : Cert.KDxIdeal.Facts) (hRDxIdeal : Cert.RDxIdeal.Facts) (hKDw : Cert.KDw.Facts) (hKDwIdeal : Cert.KDwIdeal.Facts) (hRDwIdeal : Cert.RDwIdeal.Facts) (hKC : Cert.KC.Facts) (hKCIdeal : Cert.KCIdeal.Facts) (hRCIdeal : Cert.RCIdeal.Facts) (hKW : Cert.KW.Facts) (hKWIdeal : Cert.KWIdeal.Facts) (hRWIdeal : Cert.RWIdeal.Facts),
    quiescent_KDx (hKDx := hKDx)
    ∧ quiescent_KDxIdeal (hKDxIdeal := hKDxIdeal)
    ∧ quiescent_RDxIdeal (hRDxIdeal := hRDxIdeal)
    ∧ quiescent_KDw (hKDw := hKDw)
    ∧ quiescent_KDwIdeal (hKDwIdeal := hKDwIdeal)
    ∧ quiescent_RDwIdeal (hRDwIdeal := hRDwIdeal)
    ∧ quiescent_KC (hKC := hKC)
    ∧ quiescent_KCIdeal (hKCIdeal := hKCIdeal)
    ∧ quiescent_RCIdeal (hRCIdeal := hRCIdeal)
    ∧ quiescent_KW (hKW := hKW)
    ∧ quiescent_KWIdeal (hKWIdeal := hKWIdeal)
    ∧ quiescent_RWIdeal (hRWIdeal := hRWIdeal)
    ∧ preserves_KDx_KDxIdeal
    ∧ algebraic_KDxIdeal_RDxIdeal (hKDxIdeal := hKDxIdeal) (hRDxIdeal := hRDxIdeal)
    ∧ preserves_KDw_KDwIdeal
    ∧ algebraic_KDwIdeal_RDwIdeal (hKDwIdeal := hKDwIdeal) (hRDwIdeal := hRDwIdeal)
    ∧ preserves_KC_KCIdeal
    ∧ algebraic_KCIdeal_RCIdeal (hKCIdeal := hKCIdeal) (hRCIdeal := hRCIdeal)
    ∧ preserves_KW_KWIdeal
    ∧ algebraic_KWIdeal_RWIdeal (hKWIdeal := hKWIdeal) (hRWIdeal := hRWIdeal)
-- ==== KDx.lean ====
abbrev S32768x4864 : Shape := ⟨2, ![32768, 4864]⟩
abbrev S32768x448 : Shape := ⟨2, ![32768, 448]⟩
abbrev S4864x896 : Shape := ⟨2, ![4864, 896]⟩
abbrev S1x896 : Shape := ⟨2, ![1, 896]⟩
abbrev S32768x896 : Shape := ⟨2, ![32768, 896]⟩
abbrev S128x8x256 : Shape := ⟨3, ![128, 8, 256]⟩
abbrev S256x4864 : Shape := ⟨2, ![256, 4864]⟩
abbrev S256x448 : Shape := ⟨2, ![256, 448]⟩
abbrev S256x896 : Shape := ⟨2, ![256, 896]⟩
abbrev S1x8x256 : Shape := ⟨3, ![1, 8, 256]⟩
abbrev S2x256x4864 : Shape := ⟨3, ![2, 256, 4864]⟩
abbrev S2x256x128 : Shape := ⟨3, ![2, 256, 128]⟩
abbrev S2x32x4864 : Shape := ⟨3, ![2, 32, 4864]⟩
abbrev S1x256x4864 : Shape := ⟨3, ![1, 256, 4864]⟩
abbrev S256x128 : Shape := ⟨2, ![256, 128]⟩
abbrev S1x256x128 : Shape := ⟨3, ![1, 256, 128]⟩
abbrev S256x1 : Shape := ⟨2, ![256, 1]⟩
abbrev S32x128 : Shape := ⟨2, ![32, 128]⟩
abbrev S32 : Shape := ⟨1, ![32]⟩
abbrev S32x1 : Shape := ⟨2, ![32, 1]⟩
abbrev S1x32x128 : Shape := ⟨3, ![1, 32, 128]⟩
abbrev S256 : Shape := ⟨1, ![256]⟩
abbrev S128x256 : Shape := ⟨2, ![128, 256]⟩
abbrev S8x256 : Shape := ⟨2, ![8, 256]⟩

abbrev nBuf : Space → Nat
  | .hbm => 8
  | .vmem => 19
  | .smem => 0
  | _ => 0

abbrev bufTy : (tb : Table) → Fin (tcTables nBuf tb) → BufTy
  | .hbm, ⟨0, _⟩ => ⟨S32768x4864, .bf16⟩
  | .hbm, ⟨1, _⟩ => ⟨S32768x448, .i8⟩
  | .hbm, ⟨2, _⟩ => ⟨S4864x896, .fp8e4m3⟩
  | .hbm, ⟨3, _⟩ => ⟨S1x896, .f32⟩
  | .hbm, ⟨4, _⟩ => ⟨S32768x896, .bf16⟩
  | .hbm, ⟨5, _⟩ => ⟨S32768x4864, .i8⟩
  | .hbm, ⟨6, _⟩ => ⟨S32768x4864, .i8⟩
  | .hbm, ⟨7, _⟩ => ⟨S128x8x256, .f32⟩
  | .local _ .vmem, ⟨0, _⟩ => ⟨S256x4864, .bf16⟩
  | .local _ .vmem, ⟨1, _⟩ => ⟨S256x4864, .bf16⟩
  | .local _ .vmem, ⟨2, _⟩ => ⟨S256x448, .i8⟩
  | .local _ .vmem, ⟨3, _⟩ => ⟨S256x448, .i8⟩
  | .local _ .vmem, ⟨4, _⟩ => ⟨S4864x896, .fp8e4m3⟩
  | .local _ .vmem, ⟨5, _⟩ => ⟨S1x896, .f32⟩
  | .local _ .vmem, ⟨6, _⟩ => ⟨S256x896, .bf16⟩
  | .local _ .vmem, ⟨7, _⟩ => ⟨S256x896, .bf16⟩
  | .local _ .vmem, ⟨8, _⟩ => ⟨S256x4864, .i8⟩
  | .local _ .vmem, ⟨9, _⟩ => ⟨S256x4864, .i8⟩
  | .local _ .vmem, ⟨10, _⟩ => ⟨S256x4864, .i8⟩
  | .local _ .vmem, ⟨11, _⟩ => ⟨S256x4864, .i8⟩
  | .local _ .vmem, ⟨12, _⟩ => ⟨S1x8x256, .f32⟩
  | .local _ .vmem, ⟨13, _⟩ => ⟨S1x8x256, .f32⟩
  | .local _ .vmem, ⟨14, _⟩ => ⟨S2x256x4864, .fp8e4m3⟩
  | .local _ .vmem, ⟨15, _⟩ => ⟨S2x256x4864, .fp8e4m3⟩
  | .local _ .vmem, ⟨16, _⟩ => ⟨S2x256x128, .f32⟩
  | .local _ .vmem, ⟨17, _⟩ => ⟨S2x256x128, .f32⟩
  | .local _ .vmem, ⟨18, _⟩ => ⟨S2x32x4864, .f32⟩
  | _, _ => ⟨S32768x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v6 : Index := Scalar.indexCast v1
  let c0_2 : Index := 0#32
  let c0_3 : Index := 0#32
  ![v6.toNat, 0, 0]
def k0_off2 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v14 : Index := Scalar.indexCast v1
  let c0_7 : Index := 0#32
  let c0_8 : Index := 0#32
  ![v14.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v181 : Index := Scalar.indexCast v0
  let c0_70 : Index := 0#32
  let c0_71 : Index := 0#32
  ![v181.toNat, 0, 0]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v208 : Index := Scalar.indexCast v0
  let c0_81 : Index := 0#32
  let c128_82 : Index := 128#32
  ![v208.toNat, 0, 128]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v235 : Index := Scalar.indexCast v0
  let c0_92 : Index := 0#32
  let c256_93 : Index := 256#32
  ![v235.toNat, 0, 256]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v262 : Index := Scalar.indexCast v0
  let c0_103 : Index := 0#32
  let c384_104 : Index := 384#32
  ![v262.toNat, 0, 384]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v289 : Index := Scalar.indexCast v0
  let c0_114 : Index := 0#32
  let c512_115 : Index := 512#32
  ![v289.toNat, 0, 512]
def k0_off8 (i : grid0.Coords) : Fin 3 → Nat :=
  let arg0 : BitVec 32 := BitVec.ofNat 32 (i 0).val
  let c2_i32 : BitVec 32 := 2#32
  let v0 : BitVec 32 := Scalar.remsi arg0 c2_i32
  let v316 : Index := Scalar.indexCast v0
  let c0_125 : Index := 0#32
  let c640_126 : Index := 640#32
  ![v316.toNat, 0, 640]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v343 : Index := Scalar.indexCast v0
  let c0_136 : Index := 0#32
  let c768_137 : Index := 768#32
  ![v343.toNat, 0, 768]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v370 : Index := Scalar.indexCast v0
  let c0_147 : Index := 0#32
  let c896_148 : Index := 896#32
  ![v370.toNat, 0, 896]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v397 : Index := Scalar.indexCast v0
  let c0_158 : Index := 0#32
  let c1024_159 : Index := 1024#32
  ![v397.toNat, 0, 1024]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v424 : Index := Scalar.indexCast v0
  let c0_169 : Index := 0#32
  let c1152_170 : Index := 1152#32
  ![v424.toNat, 0, 1152]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v451 : Index := Scalar.indexCast v0
  let c0_180 : Index := 0#32
  let c1280_181 : Index := 1280#32
  ![v451.toNat, 0, 1280]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v478 : Index := Scalar.indexCast v0
  let c0_191 : Index := 0#32
  let c1408_192 : Index := 1408#32
  ![v478.toNat, 0, 1408]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v505 : Index := Scalar.indexCast v0
  let c0_202 : Index := 0#32
  let c1536_203 : Index := 1536#32
  ![v505.toNat, 0, 1536]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v532 : Index := Scalar.indexCast v0
  let c0_213 : Index := 0#32
  let c1664_214 : Index := 1664#32
  ![v532.toNat, 0, 1664]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v559 : Index := Scalar.indexCast v0
  let c0_224 : Index := 0#32
  let c1792_225 : Index := 1792#32
  ![v559.toNat, 0, 1792]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v586 : Index := Scalar.indexCast v0
  let c0_235 : Index := 0#32
  let c1920_236 : Index := 1920#32
  ![v586.toNat, 0, 1920]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v613 : Index := Scalar.indexCast v0
  let c0_246 : Index := 0#32
  let c2048_247 : Index := 2048#32
  ![v613.toNat, 0, 2048]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v640 : Index := Scalar.indexCast v0
  let c0_257 : Index := 0#32
  let c2176_258 : Index := 2176#32
  ![v640.toNat, 0, 2176]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v667 : Index := Scalar.indexCast v0
  let c0_268 : Index := 0#32
  let c2304_269 : Index := 2304#32
  ![v667.toNat, 0, 2304]
def k0_off22 (i : grid0.Coords) : Fin 3 → Nat :=
  let arg0 : BitVec 32 := BitVec.ofNat 32 (i 0).val
  let c2_i32 : BitVec 32 := 2#32
  let v0 : BitVec 32 := Scalar.remsi arg0 c2_i32
  let v694 : Index := Scalar.indexCast v0
  let c0_279 : Index := 0#32
  let c2432_280 : Index := 2432#32
  ![v694.toNat, 0, 2432]
def k0_off23 (i : grid0.Coords) : Fin 3 → Nat :=
  let arg0 : BitVec 32 := BitVec.ofNat 32 (i 0).val
  let c2_i32 : BitVec 32 := 2#32
  let v0 : BitVec 32 := Scalar.remsi arg0 c2_i32
  let v721 : Index := Scalar.indexCast v0
  let c0_290 : Index := 0#32
  let c2560_291 : Index := 2560#32
  ![v721.toNat, 0, 2560]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v748 : Index := Scalar.indexCast v0
  let c0_301 : Index := 0#32
  let c2688_302 : Index := 2688#32
  ![v748.toNat, 0, 2688]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v775 : Index := Scalar.indexCast v0
  let c0_312 : Index := 0#32
  let c2816_313 : Index := 2816#32
  ![v775.toNat, 0, 2816]
def k0_off26 (i : grid0.Coords) : Fin 3 → Nat :=
  let arg0 : BitVec 32 := BitVec.ofNat 32 (i 0).val
  let c2_i32 : BitVec 32 := 2#32
  let v0 : BitVec 32 := Scalar.remsi arg0 c2_i32
  let v802 : Index := Scalar.indexCast v0
  let c0_323 : Index := 0#32
  let c2944_324 : Index := 2944#32
  ![v802.toNat, 0, 2944]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v829 : Index := Scalar.indexCast v0
  let c0_334 : Index := 0#32
  let c3072_335 : Index := 3072#32
  ![v829.toNat, 0, 3072]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v856 : Index := Scalar.indexCast v0
  let c0_345 : Index := 0#32
  let c3200_346 : Index := 3200#32
  ![v856.toNat, 0, 3200]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v883 : Index := Scalar.indexCast v0
  let c0_356 : Index := 0#32
  let c3328_357 : Index := 3328#32
  ![v883.toNat, 0, 3328]
def k0_off30 (i : grid0.Coords) : Fin 3 → Nat :=
  let arg0 : BitVec 32 := BitVec.ofNat 32 (i 0).val
  let c2_i32 : BitVec 32 := 2#32
  let v0 : BitVec 32 := Scalar.remsi arg0 c2_i32
  let v910 : Index := Scalar.indexCast v0
  let c0_367 : Index := 0#32
  let c3456_368 : Index := 3456#32
  ![v910.toNat, 0, 3456]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v937 : Index := Scalar.indexCast v0
  let c0_378 : Index := 0#32
  let c3584_379 : Index := 3584#32
  ![v937.toNat, 0, 3584]
def k0_off32 (i : grid0.Coords) : Fin 3 → Nat :=
  let arg0 : BitVec 32 := BitVec.ofNat 32 (i 0).val
  let c2_i32 : BitVec 32 := 2#32
  let v0 : BitVec 32 := Scalar.remsi arg0 c2_i32
  let v964 : Index := Scalar.indexCast v0
  let c0_389 : Index := 0#32
  let c3712_390 : Index := 3712#32
  ![v964.toNat, 0, 3712]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v991 : Index := Scalar.indexCast v0
  let c0_400 : Index := 0#32
  let c3840_401 : Index := 3840#32
  ![v991.toNat, 0, 3840]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v1018 : Index := Scalar.indexCast v0
  let c0_411 : Index := 0#32
  let c3968_412 : Index := 3968#32
  ![v1018.toNat, 0, 3968]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v1045 : Index := Scalar.indexCast v0
  let c0_422 : Index := 0#32
  let c4096_423 : Index := 4096#32
  ![v1045.toNat, 0, 4096]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v1072 : Index := Scalar.indexCast v0
  let c0_433 : Index := 0#32
  let c4224_434 : Index := 4224#32
  ![v1072.toNat, 0, 4224]
def k0_off37 (i : grid0.Coords) : Fin 3 → Nat :=
  let arg0 : BitVec 32 := BitVec.ofNat 32 (i 0).val
  let c2_i32 : BitVec 32 := 2#32
  let v0 : BitVec 32 := Scalar.remsi arg0 c2_i32
  let v1099 : Index := Scalar.indexCast v0
  let c0_444 : Index := 0#32
  let c4352_445 : Index := 4352#32
  ![v1099.toNat, 0, 4352]
def k0_off38 (i : grid0.Coords) : Fin 3 → Nat :=
  let arg0 : BitVec 32 := BitVec.ofNat 32 (i 0).val
  let c2_i32 : BitVec 32 := 2#32
  let v0 : BitVec 32 := Scalar.remsi arg0 c2_i32
  let v1126 : Index := Scalar.indexCast v0
  let c0_455 : Index := 0#32
  let c4480_456 : Index := 4480#32
  ![v1126.toNat, 0, 4480]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v1153 : Index := Scalar.indexCast v0
  let c0_466 : Index := 0#32
  let c4608_467 : Index := 4608#32
  ![v1153.toNat, 0, 4608]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v1180 : Index := Scalar.indexCast v0
  let c0_477 : Index := 0#32
  let c4736_478 : Index := 4736#32
  ![v1180.toNat, 0, 4736]
def k0_off41 (i : grid0.Coords) : Fin 3 → Nat :=
  let arg0 : BitVec 32 := BitVec.ofNat 32 (i 0).val
  let c2_i32 : BitVec 32 := 2#32
  let v0 : BitVec 32 := Scalar.remsi arg0 c2_i32
  let v1965 : Index := Scalar.indexCast v0
  let c0_829 : Index := 0#32
  let c0_830 : Index := 0#32
  ![v1965.toNat, 0, 0]
def k0_off42 (i : grid0.Coords) : Fin 3 → Nat :=
  let arg0 : BitVec 32 := BitVec.ofNat 32 (i 0).val
  let c2_i32 : BitVec 32 := 2#32
  let v0 : BitVec 32 := Scalar.remsi arg0 c2_i32
  let v2124 : Index := Scalar.indexCast v0
  let c32_923 : Index := 32#32
  let c0_924 : Index := 0#32
  ![v2124.toNat, 32, 0]
def k0_off43 (i : grid0.Coords) : Fin 3 → Nat :=
  let arg0 : BitVec 32 := BitVec.ofNat 32 (i 0).val
  let c2_i32 : BitVec 32 := 2#32
  let v0 : BitVec 32 := Scalar.remsi arg0 c2_i32
  let v2151 : Index := Scalar.indexCast v0
  let c32_934 : Index := 32#32
  let c128_935 : Index := 128#32
  ![v2151.toNat, 32, 128]
def k0_off44 (i : grid0.Coords) : Fin 3 → Nat :=
  let arg0 : BitVec 32 := BitVec.ofNat 32 (i 0).val
  let c2_i32 : BitVec 32 := 2#32
  let v0 : BitVec 32 := Scalar.remsi arg0 c2_i32
  let v2178 : Index := Scalar.indexCast v0
  let c32_945 : Index := 32#32
  let c256_946 : Index := 256#32
  ![v2178.toNat, 32, 256]
def k0_off45 (i : grid0.Coords) : Fin 3 → Nat :=
  let arg0 : BitVec 32 := BitVec.ofNat 32 (i 0).val
  let c2_i32 : BitVec 32 := 2#32
  let v0 : BitVec 32 := Scalar.remsi arg0 c2_i32
  let v2205 : Index := Scalar.indexCast v0
  let c32_956 : Index := 32#32
  let c384_957 : Index := 384#32
  ![v2205.toNat, 32, 384]
def k0_off46 (i : grid0.Coords) : Fin 3 → Nat :=
  let arg0 : BitVec 32 := BitVec.ofNat 32 (i 0).val
  let c2_i32 : BitVec 32 := 2#32
  let v0 : BitVec 32 := Scalar.remsi arg0 c2_i32
  let v2232 : Index := Scalar.indexCast v0
  let c32_967 : Index := 32#32
  let c512_968 : Index := 512#32
  ![v2232.toNat, 32, 512]
def k0_off47 (i : grid0.Coords) : Fin 3 → Nat :=
  let arg0 : BitVec 32 := BitVec.ofNat 32 (i 0).val
  let c2_i32 : BitVec 32 := 2#32
  let v0 : BitVec 32 := Scalar.remsi arg0 c2_i32
  let v2259 : Index := Scalar.indexCast v0
  let c32_978 : Index := 32#32
  let c640_979 : Index := 640#32
  ![v2259.toNat, 32, 640]
def k0_off48 (i : grid0.Coords) : Fin 3 → Nat :=
  let arg0 : BitVec 32 := BitVec.ofNat 32 (i 0).val
  let c2_i32 : BitVec 32 := 2#32
  let v0 : BitVec 32 := Scalar.remsi arg0 c2_i32
  let v2286 : Index := Scalar.indexCast v0
  let c32_989 : Index := 32#32
  let c768_990 : Index := 768#32
  ![v2286.toNat, 32, 768]
def k0_off49 (i : grid0.Coords) : Fin 3 → Nat :=
  let arg0 : BitVec 32 := BitVec.ofNat 32 (i 0).val
  let c2_i32 : BitVec 32 := 2#32
  let v0 : BitVec 32 := Scalar.remsi arg0 c2_i32
  let v2313 : Index := Scalar.indexCast v0
  let c32_1000 : Index := 32#32
  let c896_1001 : Index := 896#32
  ![v2313.toNat, 32, 896]
def k0_off50 (i : grid0.Coords) : Fin 3 → Nat :=
  let arg0 : BitVec 32 := BitVec.ofNat 32 (i 0).val
  let c2_i32 : BitVec 32 := 2#32
  let v0 : BitVec 32 := Scalar.remsi arg0 c2_i32
  let v2340 : Index := Scalar.indexCast v0
  let c32_1011 : Index := 32#32
  let c1024_1012 : Index := 1024#32
  ![v2340.toNat, 32, 1024]
def k0_off51 (i : grid0.Coords) : Fin 3 → Nat :=
  let arg0 : BitVec 32 := BitVec.ofNat 32 (i 0).val
  let c2_i32 : BitVec 32 := 2#32
  let v0 : BitVec 32 := Scalar.remsi arg0 c2_i32
  let v2367 : Index := Scalar.indexCast v0
  let c32_1022 : Index := 32#32
  let c1152_1023 : Index := 1152#32
  ![v2367.toNat, 32, 1152]
def k0_off52 (i : grid0.Coords) : Fin 3 → Nat :=
  let arg0 : BitVec 32 := BitVec.ofNat 32 (i 0).val
  let c2_i32 : BitVec 32 := 2#32
  let v0 : BitVec 32 := Scalar.remsi arg0 c2_i32
  let v2394 : Index := Scalar.indexCast v0
  let c32_1033 : Index := 32#32
  let c1280_1034 : Index := 1280#32
  ![v2394.toNat, 32, 1280]
def k0_off53 (i : grid0.Coords) : Fin 3 → Nat :=
  let arg0 : BitVec 32 := BitVec.ofNat 32 (i 0).val
  let c2_i32 : BitVec 32 := 2#32
  let v0 : BitVec 32 := Scalar.remsi arg0 c2_i32
  let v2421 : Index := Scalar.indexCast v0
  let c32_1044 : Index := 32#32
  let c1408_1045 : Index := 1408#32
  ![v2421.toNat, 32, 1408]
def k0_off54 (i : grid0.Coords) : Fin 3 → Nat :=
  let arg0 : BitVec 32 := BitVec.ofNat 32 (i 0).val
  let c2_i32 : BitVec 32 := 2#32
  let v0 : BitVec 32 := Scalar.remsi arg0 c2_i32
  let v2448 : Index := Scalar.indexCast v0
  let c32_1055 : Index := 32#32
  let c1536_1056 : Index := 1536#32
  ![v2448.toNat, 32, 1536]
def k0_off55 (i : grid0.Coords) : Fin 3 → Nat :=
  let arg0 : BitVec 32 := BitVec.ofNat 32 (i 0).val
  let c2_i32 : BitVec 32 := 2#32
  let v0 : BitVec 32 := Scalar.remsi arg0 c2_i32
  let v2475 : Index := Scalar.indexCast v0
  let c32_1066 : Index := 32#32
  let c1664_1067 : Index := 1664#32
  ![v2475.toNat, 32, 1664]
def k0_off56 (i : grid0.Coords) : Fin 3 → Nat :=
  let arg0 : BitVec 32 := BitVec.ofNat 32 (i 0).val
  let c2_i32 : BitVec 32 := 2#32
  let v0 : BitVec 32 := Scalar.remsi arg0 c2_i32
  let v2502 : Index := Scalar.indexCast v0
  let c32_1077 : Index := 32#32
  let c1792_1078 : Index := 1792#32
  ![v2502.toNat, 32, 1792]
def k0_off57 (i : grid0.Coords) : Fin 3 → Nat :=
  let arg0 : BitVec 32 := BitVec.ofNat 32 (i 0).val
  let c2_i32 : BitVec 32 := 2#32
  let v0 : BitVec 32 := Scalar.remsi arg0 c2_i32
  let v2529 : Index := Scalar.indexCast v0
  let c32_1088 : Index := 32#32
  let c1920_1089 : Index := 1920#32
  ![v2529.toNat, 32, 1920]
def k0_off58 (i : grid0.Coords) : Fin 3 → Nat :=
  let arg0 : BitVec 32 := BitVec.ofNat 32 (i 0).val
  let c2_i32 : BitVec 32 := 2#32
  let v0 : BitVec 32 := Scalar.remsi arg0 c2_i32
  let v2556 : Index := Scalar.indexCast v0
  let c32_1099 : Index := 32#32
  let c2048_1100 : Index := 2048#32
  ![v2556.toNat, 32, 2048]
def k0_off59 (i : grid0.Coords) : Fin 3 → Nat :=
  let arg0 : BitVec 32 := BitVec.ofNat 32 (i 0).val
  let c2_i32 : BitVec 32 := 2#32
  let v0 : BitVec 32 := Scalar.remsi arg0 c2_i32
  let v2583 : Index := Scalar.indexCast v0
  let c32_1110 : Index := 32#32
  let c2176_1111 : Index := 2176#32
  ![v2583.toNat, 32, 2176]
def k0_off60 (i : grid0.Coords) : Fin 3 → Nat :=
  let arg0 : BitVec 32 := BitVec.ofNat 32 (i 0).val
  let c2_i32 : BitVec 32 := 2#32
  let v0 : BitVec 32 := Scalar.remsi arg0 c2_i32
  let v2610 : Index := Scalar.indexCast v0
  let c32_1121 : Index := 32#32
  let c2304_1122 : Index := 2304#32
  ![v2610.toNat, 32, 2304]
def k0_off61 (i : grid0.Coords) : Fin 3 → Nat :=
  let arg0 : BitVec 32 := BitVec.ofNat 32 (i 0).val
  let c2_i32 : BitVec 32 := 2#32
  let v0 : BitVec 32 := Scalar.remsi arg0 c2_i32
  let v2637 : Index := Scalar.indexCast v0
  let c32_1132 : Index := 32#32
  let c2432_1133 : Index := 2432#32
  ![v2637.toNat, 32, 2432]
def k0_off62 (i : grid0.Coords) : Fin 3 → Nat :=
  let arg0 : BitVec 32 := BitVec.ofNat 32 (i 0).val
  let c2_i32 : BitVec 32 := 2#32
  let v0 : BitVec 32 := Scalar.remsi arg0 c2_i32
  let v2664 : Index := Scalar.indexCast v0
  let c32_1143 : Index := 32#32
  let c2560_1144 : Index := 2560#32
  ![v2664.toNat, 32, 2560]
def k0_off63 (i : grid0.Coords) : Fin 3 → Nat :=
  let arg0 : BitVec 32 := BitVec.ofNat 32 (i 0).val
  let c2_i32 : BitVec 32 := 2#32
  let v0 : BitVec 32 := Scalar.remsi arg0 c2_i32
  let v2691 : Index := Scalar.indexCast v0
  let c32_1154 : Index := 32#32
  let c2688_1155 : Index := 2688#32
  ![v2691.toNat, 32, 2688]
def k0_off64 (i : grid0.Coords) : Fin 3 → Nat :=
  let arg0 : BitVec 32 := BitVec.ofNat 32 (i 0).val
  let c2_i32 : BitVec 32 := 2#32
  let v0 : BitVec 32 := Scalar.remsi arg0 c2_i32
  let v2718 : Index := Scalar.indexCast v0
  let c32_1165 : Index := 32#32
  let c2816_1166 : Index := 2816#32
  ![v2718.toNat, 32, 2816]
def k0_off65 (i : grid0.Coords) : Fin 3 → Nat :=
  let arg0 : BitVec 32 := BitVec.ofNat 32 (i 0).val
  let c2_i32 : BitVec 32 := 2#32
  let v0 : BitVec 32 := Scalar.remsi arg0 c2_i32
  let v2745 : Index := Scalar.indexCast v0
  let c32_1176 : Index := 32#32
  let c2944_1177 : Index := 2944#32
  ![v2745.toNat, 32, 2944]
def k0_off66 (i : grid0.Coords) : Fin 3 → Nat :=
  let arg0 : BitVec 32 := BitVec.ofNat 32 (i 0).val
  let c2_i32 : BitVec 32 := 2#32
  let v0 : BitVec 32 := Scalar.remsi arg0 c2_i32
  let v2772 : Index := Scalar.indexCast v0
  let c32_1187 : Index := 32#32
  let c3072_1188 : Index := 3072#32
  ![v2772.toNat, 32, 3072]
def k0_off67 (i : grid0.Coords) : Fin 3 → Nat :=
  let arg0 : BitVec 32 := BitVec.ofNat 32 (i 0).val
  let c2_i32 : BitVec 32 := 2#32
  let v0 : BitVec 32 := Scalar.remsi arg0 c2_i32
  let v2799 : Index := Scalar.indexCast v0
  let c32_1198 : Index := 32#32
  let c3200_1199 : Index := 3200#32
  ![v2799.toNat, 32, 3200]
def k0_off68 (i : grid0.Coords) : Fin 3 → Nat :=
  let arg0 : BitVec 32 := BitVec.ofNat 32 (i 0).val
  let c2_i32 : BitVec 32 := 2#32
  let v0 : BitVec 32 := Scalar.remsi arg0 c2_i32
  let v2826 : Index := Scalar.indexCast v0
  let c32_1209 : Index := 32#32
  let c3328_1210 : Index := 3328#32
  ![v2826.toNat, 32, 3328]
def k0_off69 (i : grid0.Coords) : Fin 3 → Nat :=
  let arg0 : BitVec 32 := BitVec.ofNat 32 (i 0).val
  let c2_i32 : BitVec 32 := 2#32
  let v0 : BitVec 32 := Scalar.remsi arg0 c2_i32
  let v2853 : Index := Scalar.indexCast v0
  let c32_1220 : Index := 32#32
  let c3456_1221 : Index := 3456#32
  ![v2853.toNat, 32, 3456]
def k0_off70 (i : grid0.Coords) : Fin 3 → Nat :=
  let arg0 : BitVec 32 := BitVec.ofNat 32 (i 0).val
  let c2_i32 : BitVec 32 := 2#32
  let v0 : BitVec 32 := Scalar.remsi arg0 c2_i32
  let v2880 : Index := Scalar.indexCast v0
  let c32_1231 : Index := 32#32
  let c3584_1232 : Index := 3584#32
  ![v2880.toNat, 32, 3584]
def k0_off71 (i : grid0.Coords) : Fin 3 → Nat :=
  let arg0 : BitVec 32 := BitVec.ofNat 32 (i 0).val
  let c2_i32 : BitVec 32 := 2#32
  let v0 : BitVec 32 := Scalar.remsi arg0 c2_i32
  let v2907 : Index := Scalar.indexCast v0
  let c32_1242 : Index := 32#32
  let c3712_1243 : Index := 3712#32
  ![v2907.toNat, 32, 3712]
def k0_off72 (i : grid0.Coords) : Fin 3 → Nat :=
  let arg0 : BitVec 32 := BitVec.ofNat 32 (i 0).val
  let c2_i32 : BitVec 32 := 2#32
  let v0 : BitVec 32 := Scalar.remsi arg0 c2_i32
  let v2934 : Index := Scalar.indexCast v0
  let c32_1253 : Index := 32#32
  let c3840_1254 : Index := 3840#32
  ![v2934.toNat, 32, 3840]
def k0_off73 (i : grid0.Coords) : Fin 3 → Nat :=
  let arg0 : BitVec 32 := BitVec.ofNat 32 (i 0).val
  let c2_i32 : BitVec 32 := 2#32
  let v0 : BitVec 32 := Scalar.remsi arg0 c2_i32
  let v2961 : Index := Scalar.indexCast v0
  let c32_1264 : Index := 32#32
  let c3968_1265 : Index := 3968#32
  ![v2961.toNat, 32, 3968]
def k0_off74 (i : grid0.Coords) : Fin 3 → Nat :=
  let arg0 : BitVec 32 := BitVec.ofNat 32 (i 0).val
  let c2_i32 : BitVec 32 := 2#32
  let v0 : BitVec 32 := Scalar.remsi arg0 c2_i32
  let v2988 : Index := Scalar.indexCast v0
  let c32_1275 : Index := 32#32
  let c4096_1276 : Index := 4096#32
  ![v2988.toNat, 32, 4096]
def k0_off75 (i : grid0.Coords) : Fin 3 → Nat :=
  let arg0 : BitVec 32 := BitVec.ofNat 32 (i 0).val
  let c2_i32 : BitVec 32 := 2#32
  let v0 : BitVec 32 := Scalar.remsi arg0 c2_i32
  let v3015 : Index := Scalar.indexCast v0
  let c32_1286 : Index := 32#32
  let c4224_1287 : Index := 4224#32
  ![v3015.toNat, 32, 4224]
def k0_off76 (i : grid0.Coords) : Fin 3 → Nat :=
  let arg0 : BitVec 32 := BitVec.ofNat 32 (i 0).val
  let c2_i32 : BitVec 32 := 2#32
  let v0 : BitVec 32 := Scalar.remsi arg0 c2_i32
  let v3042 : Index := Scalar.indexCast v0
  let c32_1297 : Index := 32#32
  let c4352_1298 : Index := 4352#32
  ![v3042.toNat, 32, 4352]
def k0_off77 (i : grid0.Coords) : Fin 3 → Nat :=
  let arg0 : BitVec 32 := BitVec.ofNat 32 (i 0).val
  let c2_i32 : BitVec 32 := 2#32
  let v0 : BitVec 32 := Scalar.remsi arg0 c2_i32
  let v3069 : Index := Scalar.indexCast v0
  let c32_1308 : Index := 32#32
  let c4480_1309 : Index := 4480#32
  ![v3069.toNat, 32, 4480]
def k0_off78 (i : grid0.Coords) : Fin 3 → Nat :=
  let arg0 : BitVec 32 := BitVec.ofNat 32 (i 0).val
  let c2_i32 : BitVec 32 := 2#32
  let v0 : BitVec 32 := Scalar.remsi arg0 c2_i32
  let v3096 : Index := Scalar.indexCast v0
  let c32_1319 : Index := 32#32
  let c4608_1320 : Index := 4608#32
  ![v3096.toNat, 32, 4608]
def k0_off79 (i : grid0.Coords) : Fin 3 → Nat :=
  let arg0 : BitVec 32 := BitVec.ofNat 32 (i 0).val
  let c2_i32 : BitVec 32 := 2#32
  let v0 : BitVec 32 := Scalar.remsi arg0 c2_i32
  let v3123 : Index := Scalar.indexCast v0
  let c32_1330 : Index := 32#32
  let c4736_1331 : Index := 4736#32
  ![v3123.toNat, 32, 4736]
def k0_off80 (i : grid0.Coords) : Fin 3 → Nat :=
  let arg0 : BitVec 32 := BitVec.ofNat 32 (i 0).val
  let c2_i32 : BitVec 32 := 2#32
  let v0 : BitVec 32 := Scalar.remsi arg0 c2_i32
  let v3908 : Index := Scalar.indexCast v0
  let c32_1682 : Index := 32#32
  let c0_1683 : Index := 0#32
  ![v3908.toNat, 32, 0]
def k0_off81 (i : grid0.Coords) : Fin 3 → Nat :=
  let arg0 : BitVec 32 := BitVec.ofNat 32 (i 0).val
  let c2_i32 : BitVec 32 := 2#32
  let v0 : BitVec 32 := Scalar.remsi arg0 c2_i32
  let v4067 : Index := Scalar.indexCast v0
  let c64_1777 : Index := 64#32
  let c0_1778 : Index := 0#32
  ![v4067.toNat, 64, 0]
def k0_off82 (i : grid0.Coords) : Fin 3 → Nat :=
  let arg0 : BitVec 32 := BitVec.ofNat 32 (i 0).val
  let c2_i32 : BitVec 32 := 2#32
  let v0 : BitVec 32 := Scalar.remsi arg0 c2_i32
  let v4094 : Index := Scalar.indexCast v0
  let c64_1788 : Index := 64#32
  let c128_1789 : Index := 128#32
  ![v4094.toNat, 64, 128]
def k0_off83 (i : grid0.Coords) : Fin 3 → Nat :=
  let arg0 : BitVec 32 := BitVec.ofNat 32 (i 0).val
  let c2_i32 : BitVec 32 := 2#32
  let v0 : BitVec 32 := Scalar.remsi arg0 c2_i32
  let v4121 : Index := Scalar.indexCast v0
  let c64_1799 : Index := 64#32
  let c256_1800 : Index := 256#32
  ![v4121.toNat, 64, 256]
def k0_off84 (i : grid0.Coords) : Fin 3 → Nat :=
  let arg0 : BitVec 32 := BitVec.ofNat 32 (i 0).val
  let c2_i32 : BitVec 32 := 2#32
  let v0 : BitVec 32 := Scalar.remsi arg0 c2_i32
  let v4148 : Index := Scalar.indexCast v0
  let c64_1810 : Index := 64#32
  let c384_1811 : Index := 384#32
  ![v4148.toNat, 64, 384]
def k0_off85 (i : grid0.Coords) : Fin 3 → Nat :=
  let arg0 : BitVec 32 := BitVec.ofNat 32 (i 0).val
  let c2_i32 : BitVec 32 := 2#32
  let v0 : BitVec 32 := Scalar.remsi arg0 c2_i32
  let v4175 : Index := Scalar.indexCast v0
  let c64_1821 : Index := 64#32
  let c512_1822 : Index := 512#32
  ![v4175.toNat, 64, 512]
def k0_off86 (i : grid0.Coords) : Fin 3 → Nat :=
  let arg0 : BitVec 32 := BitVec.ofNat 32 (i 0).val
  let c2_i32 : BitVec 32 := 2#32
  let v0 : BitVec 32 := Scalar.remsi arg0 c2_i32
  let v4202 : Index := Scalar.indexCast v0
  let c64_1832 : Index := 64#32
  let c640_1833 : Index := 640#32
  ![v4202.toNat, 64, 640]
def k0_off87 (i : grid0.Coords) : Fin 3 → Nat :=
  let arg0 : BitVec 32 := BitVec.ofNat 32 (i 0).val
  let c2_i32 : BitVec 32 := 2#32
  let v0 : BitVec 32 := Scalar.remsi arg0 c2_i32
  let v4229 : Index := Scalar.indexCast v0
  let c64_1843 : Index := 64#32
  let c768_1844 : Index := 768#32
  ![v4229.toNat, 64, 768]
def k0_off88 (i : grid0.Coords) : Fin 3 → Nat :=
  let arg0 : BitVec 32 := BitVec.ofNat 32 (i 0).val
  let c2_i32 : BitVec 32 := 2#32
  let v0 : BitVec 32 := Scalar.remsi arg0 c2_i32
  let v4256 : Index := Scalar.indexCast v0
  let c64_1854 : Index := 64#32
  let c896_1855 : Index := 896#32
  ![v4256.toNat, 64, 896]
def k0_off89 (i : grid0.Coords) : Fin 3 → Nat :=
  let arg0 : BitVec 32 := BitVec.ofNat 32 (i 0).val
  let c2_i32 : BitVec 32 := 2#32
  let v0 : BitVec 32 := Scalar.remsi arg0 c2_i32
  let v4283 : Index := Scalar.indexCast v0
  let c64_1865 : Index := 64#32
  let c1024_1866 : Index := 1024#32
  ![v4283.toNat, 64, 1024]
def k0_off90 (i : grid0.Coords) : Fin 3 → Nat :=
  let arg0 : BitVec 32 := BitVec.ofNat 32 (i 0).val
  let c2_i32 : BitVec 32 := 2#32
  let v0 : BitVec 32 := Scalar.remsi arg0 c2_i32
  let v4310 : Index := Scalar.indexCast v0
  let c64_1876 : Index := 64#32
  let c1152_1877 : Index := 1152#32
  ![v4310.toNat, 64, 1152]
def k0_off91 (i : grid0.Coords) : Fin 3 → Nat :=
  let arg0 : BitVec 32 := BitVec.ofNat 32 (i 0).val
  let c2_i32 : BitVec 32 := 2#32
  let v0 : BitVec 32 := Scalar.remsi arg0 c2_i32
  let v4337 : Index := Scalar.indexCast v0
  let c64_1887 : Index := 64#32
  let c1280_1888 : Index := 1280#32
  ![v4337.toNat, 64, 1280]
def k0_off92 (i : grid0.Coords) : Fin 3 → Nat :=
  let arg0 : BitVec 32 := BitVec.ofNat 32 (i 0).val
  let c2_i32 : BitVec 32 := 2#32
  let v0 : BitVec 32 := Scalar.remsi arg0 c2_i32
  let v4364 : Index := Scalar.indexCast v0
  let c64_1898 : Index := 64#32
  let c1408_1899 : Index := 1408#32
  ![v4364.toNat, 64, 1408]
def k0_off93 (i : grid0.Coords) : Fin 3 → Nat :=
  let arg0 : BitVec 32 := BitVec.ofNat 32 (i 0).val
  let c2_i32 : BitVec 32 := 2#32
  let v0 : BitVec 32 := Scalar.remsi arg0 c2_i32
  let v4391 : Index := Scalar.indexCast v0
  let c64_1909 : Index := 64#32
  let c1536_1910 : Index := 1536#32
  ![v4391.toNat, 64, 1536]
def k0_off94 (i : grid0.Coords) : Fin 3 → Nat :=
  let arg0 : BitVec 32 := BitVec.ofNat 32 (i 0).val
  let c2_i32 : BitVec 32 := 2#32
  let v0 : BitVec 32 := Scalar.remsi arg0 c2_i32
  let v4418 : Index := Scalar.indexCast v0
  let c64_1920 : Index := 64#32
  let c1664_1921 : Index := 1664#32
  ![v4418.toNat, 64, 1664]
def k0_off95 (i : grid0.Coords) : Fin 3 → Nat :=
  let arg0 : BitVec 32 := BitVec.ofNat 32 (i 0).val
  let c2_i32 : BitVec 32 := 2#32
  let v0 : BitVec 32 := Scalar.remsi arg0 c2_i32
  let v4445 : Index := Scalar.indexCast v0
  let c64_1931 : Index := 64#32
  let c1792_1932 : Index := 1792#32
  ![v4445.toNat, 64, 1792]
def k0_off96 (i : grid0.Coords) : Fin 3 → Nat :=
  let arg0 : BitVec 32 := BitVec.ofNat 32 (i 0).val
  let c2_i32 : BitVec 32 := 2#32
  let v0 : BitVec 32 := Scalar.remsi arg0 c2_i32
  let v4472 : Index := Scalar.indexCast v0
  let c64_1942 : Index := 64#32
  let c1920_1943 : Index := 1920#32
  ![v4472.toNat, 64, 1920]
def k0_off97 (i : grid0.Coords) : Fin 3 → Nat :=
  let arg0 : BitVec 32 := BitVec.ofNat 32 (i 0).val
  let c2_i32 : BitVec 32 := 2#32
  let v0 : BitVec 32 := Scalar.remsi arg0 c2_i32
  let v4499 : Index := Scalar.indexCast v0
  let c64_1953 : Index := 64#32
  let c2048_1954 : Index := 2048#32
  ![v4499.toNat, 64, 2048]
def k0_off98 (i : grid0.Coords) : Fin 3 → Nat :=
  let arg0 : BitVec 32 := BitVec.ofNat 32 (i 0).val
  let c2_i32 : BitVec 32 := 2#32
  let v0 : BitVec 32 := Scalar.remsi arg0 c2_i32
  let v4526 : Index := Scalar.indexCast v0
  let c64_1964 : Index := 64#32
  let c2176_1965 : Index := 2176#32
  ![v4526.toNat, 64, 2176]
def k0_off99 (i : grid0.Coords) : Fin 3 → Nat :=
  let arg0 : BitVec 32 := BitVec.ofNat 32 (i 0).val
  let c2_i32 : BitVec 32 := 2#32
  let v0 : BitVec 32 := Scalar.remsi arg0 c2_i32
  let v4553 : Index := Scalar.indexCast v0
  let c64_1975 : Index := 64#32
  let c2304_1976 : Index := 2304#32
  ![v4553.toNat, 64, 2304]
def k0_off100 (i : grid0.Coords) : Fin 3 → Nat :=
  let arg0 : BitVec 32 := BitVec.ofNat 32 (i 0).val
  let c2_i32 : BitVec 32 := 2#32
  let v0 : BitVec 32 := Scalar.remsi arg0 c2_i32
  let v4580 : Index := Scalar.indexCast v0
  let c64_1986 : Index := 64#32
  let c2432_1987 : Index := 2432#32
  ![v4580.toNat, 64, 2432]
def k0_off101 (i : grid0.Coords) : Fin 3 → Nat :=
  let arg0 : BitVec 32 := BitVec.ofNat 32 (i 0).val
  let c2_i32 : BitVec 32 := 2#32
  let v0 : BitVec 32 := Scalar.remsi arg0 c2_i32
  let v4607 : Index := Scalar.indexCast v0
  let c64_1997 : Index := 64#32
  let c2560_1998 : Index := 2560#32
  ![v4607.toNat, 64, 2560]
def k0_off102 (i : grid0.Coords) : Fin 3 → Nat :=
  let arg0 : BitVec 32 := BitVec.ofNat 32 (i 0).val
  let c2_i32 : BitVec 32 := 2#32
  let v0 : BitVec 32 := Scalar.remsi arg0 c2_i32
  let v4634 : Index := Scalar.indexCast v0
  let c64_2008 : Index := 64#32
  let c2688_2009 : Index := 2688#32
  ![v4634.toNat, 64, 2688]
def k0_off103 (i : grid0.Coords) : Fin 3 → Nat :=
  let arg0 : BitVec 32 := BitVec.ofNat 32 (i 0).val
  let c2_i32 : BitVec 32 := 2#32
  let v0 : BitVec 32 := Scalar.remsi arg0 c2_i32
  let v4661 : Index := Scalar.indexCast v0
  let c64_2019 : Index := 64#32
  let c2816_2020 : Index := 2816#32
  ![v4661.toNat, 64, 2816]
def k0_off104 (i : grid0.Coords) : Fin 3 → Nat :=
  let arg0 : BitVec 32 := BitVec.ofNat 32 (i 0).val
  let c2_i32 : BitVec 32 := 2#32
  let v0 : BitVec 32 := Scalar.remsi arg0 c2_i32
  let v4688 : Index := Scalar.indexCast v0
  let c64_2030 : Index := 64#32
  let c2944_2031 : Index := 2944#32
  ![v4688.toNat, 64, 2944]
def k0_off105 (i : grid0.Coords) : Fin 3 → Nat :=
  let arg0 : BitVec 32 := BitVec.ofNat 32 (i 0).val
  let c2_i32 : BitVec 32 := 2#32
  let v0 : BitVec 32 := Scalar.remsi arg0 c2_i32
  let v4715 : Index := Scalar.indexCast v0
  let c64_2041 : Index := 64#32
  let c3072_2042 : Index := 3072#32
  ![v4715.toNat, 64, 3072]
def k0_off106 (i : grid0.Coords) : Fin 3 → Nat :=
  let arg0 : BitVec 32 := BitVec.ofNat 32 (i 0).val
  let c2_i32 : BitVec 32 := 2#32
  let v0 : BitVec 32 := Scalar.remsi arg0 c2_i32
  let v4742 : Index := Scalar.indexCast v0
  let c64_2052 : Index := 64#32
  let c3200_2053 : Index := 3200#32
  ![v4742.toNat, 64, 3200]
def k0_off107 (i : grid0.Coords) : Fin 3 → Nat :=
  let arg0 : BitVec 32 := BitVec.ofNat 32 (i 0).val
  let c2_i32 : BitVec 32 := 2#32
  let v0 : BitVec 32 := Scalar.remsi arg0 c2_i32
  let v4769 : Index := Scalar.indexCast v0
  let c64_2063 : Index := 64#32
  let c3328_2064 : Index := 3328#32
  ![v4769.toNat, 64, 3328]
def k0_off108 (i : grid0.Coords) : Fin 3 → Nat :=
  let arg0 : BitVec 32 := BitVec.ofNat 32 (i 0).val
  let c2_i32 : BitVec 32 := 2#32
  let v0 : BitVec 32 := Scalar.remsi arg0 c2_i32
  let v4796 : Index := Scalar.indexCast v0
  let c64_2074 : Index := 64#32
  let c3456_2075 : Index := 3456#32
  ![v4796.toNat, 64, 3456]
def k0_off109 (i : grid0.Coords) : Fin 3 → Nat :=
  let arg0 : BitVec 32 := BitVec.ofNat 32 (i 0).val
  let c2_i32 : BitVec 32 := 2#32
  let v0 : BitVec 32 := Scalar.remsi arg0 c2_i32
  let v4823 : Index := Scalar.indexCast v0
  let c64_2085 : Index := 64#32
  let c3584_2086 : Index := 3584#32
  ![v4823.toNat, 64, 3584]
def k0_off110 (i : grid0.Coords) : Fin 3 → Nat :=
  let arg0 : BitVec 32 := BitVec.ofNat 32 (i 0).val
  let c2_i32 : BitVec 32 := 2#32
  let v0 : BitVec 32 := Scalar.remsi arg0 c2_i32
  let v4850 : Index := Scalar.indexCast v0
  let c64_2096 : Index := 64#32
  let c3712_2097 : Index := 3712#32
  ![v4850.toNat, 64, 3712]
def k0_off111 (i : grid0.Coords) : Fin 3 → Nat :=
  let arg0 : BitVec 32 := BitVec.ofNat 32 (i 0).val
  let c2_i32 : BitVec 32 := 2#32
  let v0 : BitVec 32 := Scalar.remsi arg0 c2_i32
  let v4877 : Index := Scalar.indexCast v0
  let c64_2107 : Index := 64#32
  let c3840_2108 : Index := 3840#32
  ![v4877.toNat, 64, 3840]
def k0_off112 (i : grid0.Coords) : Fin 3 → Nat :=
  let arg0 : BitVec 32 := BitVec.ofNat 32 (i 0).val
  let c2_i32 : BitVec 32 := 2#32
  let v0 : BitVec 32 := Scalar.remsi arg0 c2_i32
  let v4904 : Index := Scalar.indexCast v0
  let c64_2118 : Index := 64#32
  let c3968_2119 : Index := 3968#32
  ![v4904.toNat, 64, 3968]
def k0_off113 (i : grid0.Coords) : Fin 3 → Nat :=
  let arg0 : BitVec 32 := BitVec.ofNat 32 (i 0).val
  let c2_i32 : BitVec 32 := 2#32
  let v0 : BitVec 32 := Scalar.remsi arg0 c2_i32
  let v4931 : Index := Scalar.indexCast v0
  let c64_2129 : Index := 64#32
  let c4096_2130 : Index := 4096#32
  ![v4931.toNat, 64, 4096]
def k0_off114 (i : grid0.Coords) : Fin 3 → Nat :=
  let arg0 : BitVec 32 := BitVec.ofNat 32 (i 0).val
  let c2_i32 : BitVec 32 := 2#32
  let v0 : BitVec 32 := Scalar.remsi arg0 c2_i32
  let v4958 : Index := Scalar.indexCast v0
  let c64_2140 : Index := 64#32
  let c4224_2141 : Index := 4224#32
  ![v4958.toNat, 64, 4224]
def k0_off115 (i : grid0.Coords) : Fin 3 → Nat :=
  let arg0 : BitVec 32 := BitVec.ofNat 32 (i 0).val
  let c2_i32 : BitVec 32 := 2#32
  let v0 : BitVec 32 := Scalar.remsi arg0 c2_i32
  let v4985 : Index := Scalar.indexCast v0
  let c64_2151 : Index := 64#32
  let c4352_2152 : Index := 4352#32
  ![v4985.toNat, 64, 4352]
def k0_off116 (i : grid0.Coords) : Fin 3 → Nat :=
  let arg0 : BitVec 32 := BitVec.ofNat 32 (i 0).val
  let c2_i32 : BitVec 32 := 2#32
  let v0 : BitVec 32 := Scalar.remsi arg0 c2_i32
  let v5012 : Index := Scalar.indexCast v0
  let c64_2162 : Index := 64#32
  let c4480_2163 : Index := 4480#32
  ![v5012.toNat, 64, 4480]
def k0_off117 (i : grid0.Coords) : Fin 3 → Nat :=
  let arg0 : BitVec 32 := BitVec.ofNat 32 (i 0).val
  let c2_i32 : BitVec 32 := 2#32
  let v0 : BitVec 32 := Scalar.remsi arg0 c2_i32
  let v5039 : Index := Scalar.indexCast v0
  let c64_2173 : Index := 64#32
  let c4608_2174 : Index := 4608#32
  ![v5039.toNat, 64, 4608]
def k0_off118 (i : grid0.Coords) : Fin 3 → Nat :=
  let arg0 : BitVec 32 := BitVec.ofNat 32 (i 0).val
  let c2_i32 : BitVec 32 := 2#32
  let v0 : BitVec 32 := Scalar.remsi arg0 c2_i32
  let v5066 : Index := Scalar.indexCast v0
  let c64_2184 : Index := 64#32
  let c4736_2185 : Index := 4736#32
  ![v5066.toNat, 64, 4736]
def k0_off119 (i : grid0.Coords) : Fin 3 → Nat :=
  let arg0 : BitVec 32 := BitVec.ofNat 32 (i 0).val
  let c2_i32 : BitVec 32 := 2#32
  let v0 : BitVec 32 := Scalar.remsi arg0 c2_i32
  let v5851 : Index := Scalar.indexCast v0
  let c64_2536 : Index := 64#32
  let c0_2537 : Index := 0#32
  ![v5851.toNat, 64, 0]
def k0_off120 (i : grid0.Coords) : Fin 3 → Nat :=
  let arg0 : BitVec 32 := BitVec.ofNat 32 (i 0).val
  let c2_i32 : BitVec 32 := 2#32
  let v0 : BitVec 32 := Scalar.remsi arg0 c2_i32
  let v6010 : Index := Scalar.indexCast v0
  let c96_2631 : Index := 96#32
  let c0_2632 : Index := 0#32
  ![v6010.toNat, 96, 0]
def k0_off121 (i : grid0.Coords) : Fin 3 → Nat :=
  let arg0 : BitVec 32 := BitVec.ofNat 32 (i 0).val
  let c2_i32 : BitVec 32 := 2#32
  let v0 : BitVec 32 := Scalar.remsi arg0 c2_i32
  let v6037 : Index := Scalar.indexCast v0
  let c96_2642 : Index := 96#32
  let c128_2643 : Index := 128#32
  ![v6037.toNat, 96, 128]
def k0_off122 (i : grid0.Coords) : Fin 3 → Nat :=
  let arg0 : BitVec 32 := BitVec.ofNat 32 (i 0).val
  let c2_i32 : BitVec 32 := 2#32
  let v0 : BitVec 32 := Scalar.remsi arg0 c2_i32
  let v6064 : Index := Scalar.indexCast v0
  let c96_2653 : Index := 96#32
  let c256_2654 : Index := 256#32
  ![v6064.toNat, 96, 256]
def k0_off123 (i : grid0.Coords) : Fin 3 → Nat :=
  let arg0 : BitVec 32 := BitVec.ofNat 32 (i 0).val
  let c2_i32 : BitVec 32 := 2#32
  let v0 : BitVec 32 := Scalar.remsi arg0 c2_i32
  let v6091 : Index := Scalar.indexCast v0
  let c96_2664 : Index := 96#32
  let c384_2665 : Index := 384#32
  ![v6091.toNat, 96, 384]
def k0_off124 (i : grid0.Coords) : Fin 3 → Nat :=
  let arg0 : BitVec 32 := BitVec.ofNat 32 (i 0).val
  let c2_i32 : BitVec 32 := 2#32
  let v0 : BitVec 32 := Scalar.remsi arg0 c2_i32
  let v6118 : Index := Scalar.indexCast v0
  let c96_2675 : Index := 96#32
  let c512_2676 : Index := 512#32
  ![v6118.toNat, 96, 512]
def k0_off125 (i : grid0.Coords) : Fin 3 → Nat :=
  let arg0 : BitVec 32 := BitVec.ofNat 32 (i 0).val
  let c2_i32 : BitVec 32 := 2#32
  let v0 : BitVec 32 := Scalar.remsi arg0 c2_i32
  let v6145 : Index := Scalar.indexCast v0
  let c96_2686 : Index := 96#32
  let c640_2687 : Index := 640#32
  ![v6145.toNat, 96, 640]
def k0_off126 (i : grid0.Coords) : Fin 3 → Nat :=
  let arg0 : BitVec 32 := BitVec.ofNat 32 (i 0).val
  let c2_i32 : BitVec 32 := 2#32
  let v0 : BitVec 32 := Scalar.remsi arg0 c2_i32
  let v6172 : Index := Scalar.indexCast v0
  let c96_2697 : Index := 96#32
  let c768_2698 : Index := 768#32
  ![v6172.toNat, 96, 768]
def k0_off127 (i : grid0.Coords) : Fin 3 → Nat :=
  let arg0 : BitVec 32 := BitVec.ofNat 32 (i 0).val
  let c2_i32 : BitVec 32 := 2#32
  let v0 : BitVec 32 := Scalar.remsi arg0 c2_i32
  let v6199 : Index := Scalar.indexCast v0
  let c96_2708 : Index := 96#32
  let c896_2709 : Index := 896#32
  ![v6199.toNat, 96, 896]
def k0_off128 (i : grid0.Coords) : Fin 3 → Nat :=
  let arg0 : BitVec 32 := BitVec.ofNat 32 (i 0).val
  let c2_i32 : BitVec 32 := 2#32
  let v0 : BitVec 32 := Scalar.remsi arg0 c2_i32
  let v6226 : Index := Scalar.indexCast v0
  let c96_2719 : Index := 96#32
  let c1024_2720 : Index := 1024#32
  ![v6226.toNat, 96, 1024]
def k0_off129 (i : grid0.Coords) : Fin 3 → Nat :=
  let arg0 : BitVec 32 := BitVec.ofNat 32 (i 0).val
  let c2_i32 : BitVec 32 := 2#32
  let v0 : BitVec 32 := Scalar.remsi arg0 c2_i32
  let v6253 : Index := Scalar.indexCast v0
  let c96_2730 : Index := 96#32
  let c1152_2731 : Index := 1152#32
  ![v6253.toNat, 96, 1152]
def k0_off130 (i : grid0.Coords) : Fin 3 → Nat :=
  let arg0 : BitVec 32 := BitVec.ofNat 32 (i 0).val
  let c2_i32 : BitVec 32 := 2#32
  let v0 : BitVec 32 := Scalar.remsi arg0 c2_i32
  let v6280 : Index := Scalar.indexCast v0
  let c96_2741 : Index := 96#32
  let c1280_2742 : Index := 1280#32
  ![v6280.toNat, 96, 1280]
def k0_off131 (i : grid0.Coords) : Fin 3 → Nat :=
  let arg0 : BitVec 32 := BitVec.ofNat 32 (i 0).val
  let c2_i32 : BitVec 32 := 2#32
  let v0 : BitVec 32 := Scalar.remsi arg0 c2_i32
  let v6307 : Index := Scalar.indexCast v0
  let c96_2752 : Index := 96#32
  let c1408_2753 : Index := 1408#32
  ![v6307.toNat, 96, 1408]
def k0_off132 (i : grid0.Coords) : Fin 3 → Nat :=
  let arg0 : BitVec 32 := BitVec.ofNat 32 (i 0).val
  let c2_i32 : BitVec 32 := 2#32
  let v0 : BitVec 32 := Scalar.remsi arg0 c2_i32
  let v6334 : Index := Scalar.indexCast v0
  let c96_2763 : Index := 96#32
  let c1536_2764 : Index := 1536#32
  ![v6334.toNat, 96, 1536]
def k0_off133 (i : grid0.Coords) : Fin 3 → Nat :=
  let arg0 : BitVec 32 := BitVec.ofNat 32 (i 0).val
  let c2_i32 : BitVec 32 := 2#32
  let v0 : BitVec 32 := Scalar.remsi arg0 c2_i32
  let v6361 : Index := Scalar.indexCast v0
  let c96_2774 : Index := 96#32
  let c1664_2775 : Index := 1664#32
  ![v6361.toNat, 96, 1664]
def k0_off134 (i : grid0.Coords) : Fin 3 → Nat :=
  let arg0 : BitVec 32 := BitVec.ofNat 32 (i 0).val
  let c2_i32 : BitVec 32 := 2#32
  let v0 : BitVec 32 := Scalar.remsi arg0 c2_i32
  let v6388 : Index := Scalar.indexCast v0
  let c96_2785 : Index := 96#32
  let c1792_2786 : Index := 1792#32
  ![v6388.toNat, 96, 1792]
def k0_off135 (i : grid0.Coords) : Fin 3 → Nat :=
  let arg0 : BitVec 32 := BitVec.ofNat 32 (i 0).val
  let c2_i32 : BitVec 32 := 2#32
  let v0 : BitVec 32 := Scalar.remsi arg0 c2_i32
  let v6415 : Index := Scalar.indexCast v0
  let c96_2796 : Index := 96#32
  let c1920_2797 : Index := 1920#32
  ![v6415.toNat, 96, 1920]
def k0_off136 (i : grid0.Coords) : Fin 3 → Nat :=
  let arg0 : BitVec 32 := BitVec.ofNat 32 (i 0).val
  let c2_i32 : BitVec 32 := 2#32
  let v0 : BitVec 32 := Scalar.remsi arg0 c2_i32
  let v6442 : Index := Scalar.indexCast v0
  let c96_2807 : Index := 96#32
  let c2048_2808 : Index := 2048#32
  ![v6442.toNat, 96, 2048]
def k0_off137 (i : grid0.Coords) : Fin 3 → Nat :=
  let arg0 : BitVec 32 := BitVec.ofNat 32 (i 0).val
  let c2_i32 : BitVec 32 := 2#32
  let v0 : BitVec 32 := Scalar.remsi arg0 c2_i32
  let v6469 : Index := Scalar.indexCast v0
  let c96_2818 : Index := 96#32
  let c2176_2819 : Index := 2176#32
  ![v6469.toNat, 96, 2176]
def k0_off138 (i : grid0.Coords) : Fin 3 → Nat :=
  let arg0 : BitVec 32 := BitVec.ofNat 32 (i 0).val
  let c2_i32 : BitVec 32 := 2#32
  let v0 : BitVec 32 := Scalar.remsi arg0 c2_i32
  let v6496 : Index := Scalar.indexCast v0
  let c96_2829 : Index := 96#32
  let c2304_2830 : Index := 2304#32
  ![v6496.toNat, 96, 2304]
def k0_off139 (i : grid0.Coords) : Fin 3 → Nat :=
  let arg0 : BitVec 32 := BitVec.ofNat 32 (i 0).val
  let c2_i32 : BitVec 32 := 2#32
  let v0 : BitVec 32 := Scalar.remsi arg0 c2_i32
  let v6523 : Index := Scalar.indexCast v0
  let c96_2840 : Index := 96#32
  let c2432_2841 : Index := 2432#32
  ![v6523.toNat, 96, 2432]
def k0_off140 (i : grid0.Coords) : Fin 3 → Nat :=
  let arg0 : BitVec 32 := BitVec.ofNat 32 (i 0).val
  let c2_i32 : BitVec 32 := 2#32
  let v0 : BitVec 32 := Scalar.remsi arg0 c2_i32
  let v6550 : Index := Scalar.indexCast v0
  let c96_2851 : Index := 96#32
  let c2560_2852 : Index := 2560#32
  ![v6550.toNat, 96, 2560]
def k0_off141 (i : grid0.Coords) : Fin 3 → Nat :=
  let arg0 : BitVec 32 := BitVec.ofNat 32 (i 0).val
  let c2_i32 : BitVec 32 := 2#32
  let v0 : BitVec 32 := Scalar.remsi arg0 c2_i32
  let v6577 : Index := Scalar.indexCast v0
  let c96_2862 : Index := 96#32
  let c2688_2863 : Index := 2688#32
  ![v6577.toNat, 96, 2688]
def k0_off142 (i : grid0.Coords) : Fin 3 → Nat :=
  let arg0 : BitVec 32 := BitVec.ofNat 32 (i 0).val
  let c2_i32 : BitVec 32 := 2#32
  let v0 : BitVec 32 := Scalar.remsi arg0 c2_i32
  let v6604 : Index := Scalar.indexCast v0
  let c96_2873 : Index := 96#32
  let c2816_2874 : Index := 2816#32
  ![v6604.toNat, 96, 2816]
def k0_off143 (i : grid0.Coords) : Fin 3 → Nat :=
  let arg0 : BitVec 32 := BitVec.ofNat 32 (i 0).val
  let c2_i32 : BitVec 32 := 2#32
  let v0 : BitVec 32 := Scalar.remsi arg0 c2_i32
  let v6631 : Index := Scalar.indexCast v0
  let c96_2884 : Index := 96#32
  let c2944_2885 : Index := 2944#32
  ![v6631.toNat, 96, 2944]
def k0_off144 (i : grid0.Coords) : Fin 3 → Nat :=
  let arg0 : BitVec 32 := BitVec.ofNat 32 (i 0).val
  let c2_i32 : BitVec 32 := 2#32
  let v0 : BitVec 32 := Scalar.remsi arg0 c2_i32
  let v6658 : Index := Scalar.indexCast v0
  let c96_2895 : Index := 96#32
  let c3072_2896 : Index := 3072#32
  ![v6658.toNat, 96, 3072]
def k0_off145 (i : grid0.Coords) : Fin 3 → Nat :=
  let arg0 : BitVec 32 := BitVec.ofNat 32 (i 0).val
  let c2_i32 : BitVec 32 := 2#32
  let v0 : BitVec 32 := Scalar.remsi arg0 c2_i32
  let v6685 : Index := Scalar.indexCast v0
  let c96_2906 : Index := 96#32
  let c3200_2907 : Index := 3200#32
  ![v6685.toNat, 96, 3200]
def k0_off146 (i : grid0.Coords) : Fin 3 → Nat :=
  let arg0 : BitVec 32 := BitVec.ofNat 32 (i 0).val
  let c2_i32 : BitVec 32 := 2#32
  let v0 : BitVec 32 := Scalar.remsi arg0 c2_i32
  let v6712 : Index := Scalar.indexCast v0
  let c96_2917 : Index := 96#32
  let c3328_2918 : Index := 3328#32
  ![v6712.toNat, 96, 3328]
def k0_off147 (i : grid0.Coords) : Fin 3 → Nat :=
  let arg0 : BitVec 32 := BitVec.ofNat 32 (i 0).val
  let c2_i32 : BitVec 32 := 2#32
  let v0 : BitVec 32 := Scalar.remsi arg0 c2_i32
  let v6739 : Index := Scalar.indexCast v0
  let c96_2928 : Index := 96#32
  let c3456_2929 : Index := 3456#32
  ![v6739.toNat, 96, 3456]
def k0_off148 (i : grid0.Coords) : Fin 3 → Nat :=
  let arg0 : BitVec 32 := BitVec.ofNat 32 (i 0).val
  let c2_i32 : BitVec 32 := 2#32
  let v0 : BitVec 32 := Scalar.remsi arg0 c2_i32
  let v6766 : Index := Scalar.indexCast v0
  let c96_2939 : Index := 96#32
  let c3584_2940 : Index := 3584#32
  ![v6766.toNat, 96, 3584]
def k0_off149 (i : grid0.Coords) : Fin 3 → Nat :=
  let arg0 : BitVec 32 := BitVec.ofNat 32 (i 0).val
  let c2_i32 : BitVec 32 := 2#32
  let v0 : BitVec 32 := Scalar.remsi arg0 c2_i32
  let v6793 : Index := Scalar.indexCast v0
  let c96_2950 : Index := 96#32
  let c3712_2951 : Index := 3712#32
  ![v6793.toNat, 96, 3712]
def k0_off150 (i : grid0.Coords) : Fin 3 → Nat :=
  let arg0 : BitVec 32 := BitVec.ofNat 32 (i 0).val
  let c2_i32 : BitVec 32 := 2#32
  let v0 : BitVec 32 := Scalar.remsi arg0 c2_i32
  let v6820 : Index := Scalar.indexCast v0
  let c96_2961 : Index := 96#32
  let c3840_2962 : Index := 3840#32
  ![v6820.toNat, 96, 3840]
def k0_off151 (i : grid0.Coords) : Fin 3 → Nat :=
  let arg0 : BitVec 32 := BitVec.ofNat 32 (i 0).val
  let c2_i32 : BitVec 32 := 2#32
  let v0 : BitVec 32 := Scalar.remsi arg0 c2_i32
  let v6847 : Index := Scalar.indexCast v0
  let c96_2972 : Index := 96#32
  let c3968_2973 : Index := 3968#32
  ![v6847.toNat, 96, 3968]
def k0_off152 (i : grid0.Coords) : Fin 3 → Nat :=
  let arg0 : BitVec 32 := BitVec.ofNat 32 (i 0).val
  let c2_i32 : BitVec 32 := 2#32
  let v0 : BitVec 32 := Scalar.remsi arg0 c2_i32
  let v6874 : Index := Scalar.indexCast v0
  let c96_2983 : Index := 96#32
  let c4096_2984 : Index := 4096#32
  ![v6874.toNat, 96, 4096]
def k0_off153 (i : grid0.Coords) : Fin 3 → Nat :=
  let arg0 : BitVec 32 := BitVec.ofNat 32 (i 0).val
  let c2_i32 : BitVec 32 := 2#32
  let v0 : BitVec 32 := Scalar.remsi arg0 c2_i32
  let v6901 : Index := Scalar.indexCast v0
  let c96_2994 : Index := 96#32
  let c4224_2995 : Index := 4224#32
  ![v6901.toNat, 96, 4224]
def k0_off154 (i : grid0.Coords) : Fin 3 → Nat :=
  let arg0 : BitVec 32 := BitVec.ofNat 32 (i 0).val
  let c2_i32 : BitVec 32 := 2#32
  let v0 : BitVec 32 := Scalar.remsi arg0 c2_i32
  let v6928 : Index := Scalar.indexCast v0
  let c96_3005 : Index := 96#32
  let c4352_3006 : Index := 4352#32
  ![v6928.toNat, 96, 4352]
def k0_off155 (i : grid0.Coords) : Fin 3 → Nat :=
  let arg0 : BitVec 32 := BitVec.ofNat 32 (i 0).val
  let c2_i32 : BitVec 32 := 2#32
  let v0 : BitVec 32 := Scalar.remsi arg0 c2_i32
  let v6955 : Index := Scalar.indexCast v0
  let c96_3016 : Index := 96#32
  let c4480_3017 : Index := 4480#32
  ![v6955.toNat, 96, 4480]
def k0_off156 (i : grid0.Coords) : Fin 3 → Nat :=
  let arg0 : BitVec 32 := BitVec.ofNat 32 (i 0).val
  let c2_i32 : BitVec 32 := 2#32
  let v0 : BitVec 32 := Scalar.remsi arg0 c2_i32
  let v6982 : Index := Scalar.indexCast v0
  let c96_3027 : Index := 96#32
  let c4608_3028 : Index := 4608#32
  ![v6982.toNat, 96, 4608]
def k0_off157 (i : grid0.Coords) : Fin 3 → Nat :=
  let arg0 : BitVec 32 := BitVec.ofNat 32 (i 0).val
  let c2_i32 : BitVec 32 := 2#32
  let v0 : BitVec 32 := Scalar.remsi arg0 c2_i32
  let v7009 : Index := Scalar.indexCast v0
  let c96_3038 : Index := 96#32
  let c4736_3039 : Index := 4736#32
  ![v7009.toNat, 96, 4736]
def k0_off158 (i : grid0.Coords) : Fin 3 → Nat :=
  let arg0 : BitVec 32 := BitVec.ofNat 32 (i 0).val
  let c2_i32 : BitVec 32 := 2#32
  let v0 : BitVec 32 := Scalar.remsi arg0 c2_i32
  let v7794 : Index := Scalar.indexCast v0
  let c96_3390 : Index := 96#32
  let c0_3391 : Index := 0#32
  ![v7794.toNat, 96, 0]
def k0_off159 (i : grid0.Coords) : Fin 3 → Nat :=
  let arg0 : BitVec 32 := BitVec.ofNat 32 (i 0).val
  let c2_i32 : BitVec 32 := 2#32
  let v0 : BitVec 32 := Scalar.remsi arg0 c2_i32
  let v7953 : Index := Scalar.indexCast v0
  let c128_3486 : Index := 128#32
  let c0_3487 : Index := 0#32
  ![v7953.toNat, 128, 0]
def k0_off160 (i : grid0.Coords) : Fin 3 → Nat :=
  let arg0 : BitVec 32 := BitVec.ofNat 32 (i 0).val
  let c2_i32 : BitVec 32 := 2#32
  let v0 : BitVec 32 := Scalar.remsi arg0 c2_i32
  let v7980 : Index := Scalar.indexCast v0
  let c128_3497 : Index := 128#32
  let c128_3498 : Index := 128#32
  ![v7980.toNat, 128, 128]
def k0_off161 (i : grid0.Coords) : Fin 3 → Nat :=
  let arg0 : BitVec 32 := BitVec.ofNat 32 (i 0).val
  let c2_i32 : BitVec 32 := 2#32
  let v0 : BitVec 32 := Scalar.remsi arg0 c2_i32
  let v8007 : Index := Scalar.indexCast v0
  let c128_3508 : Index := 128#32
  let c256_3509 : Index := 256#32
  ![v8007.toNat, 128, 256]
def k0_off162 (i : grid0.Coords) : Fin 3 → Nat :=
  let arg0 : BitVec 32 := BitVec.ofNat 32 (i 0).val
  let c2_i32 : BitVec 32 := 2#32
  let v0 : BitVec 32 := Scalar.remsi arg0 c2_i32
  let v8034 : Index := Scalar.indexCast v0
  let c128_3519 : Index := 128#32
  let c384_3520 : Index := 384#32
  ![v8034.toNat, 128, 384]
def k0_off163 (i : grid0.Coords) : Fin 3 → Nat :=
  let arg0 : BitVec 32 := BitVec.ofNat 32 (i 0).val
  let c2_i32 : BitVec 32 := 2#32
  let v0 : BitVec 32 := Scalar.remsi arg0 c2_i32
  let v8061 : Index := Scalar.indexCast v0
  let c128_3530 : Index := 128#32
  let c512_3531 : Index := 512#32
  ![v8061.toNat, 128, 512]
def k0_off164 (i : grid0.Coords) : Fin 3 → Nat :=
  let arg0 : BitVec 32 := BitVec.ofNat 32 (i 0).val
  let c2_i32 : BitVec 32 := 2#32
  let v0 : BitVec 32 := Scalar.remsi arg0 c2_i32
  let v8088 : Index := Scalar.indexCast v0
  let c128_3541 : Index := 128#32
  let c640_3542 : Index := 640#32
  ![v8088.toNat, 128, 640]
def k0_off165 (i : grid0.Coords) : Fin 3 → Nat :=
  let arg0 : BitVec 32 := BitVec.ofNat 32 (i 0).val
  let c2_i32 : BitVec 32 := 2#32
  let v0 : BitVec 32 := Scalar.remsi arg0 c2_i32
  let v8115 : Index := Scalar.indexCast v0
  let c128_3552 : Index := 128#32
  let c768_3553 : Index := 768#32
  ![v8115.toNat, 128, 768]
def k0_off166 (i : grid0.Coords) : Fin 3 → Nat :=
  let arg0 : BitVec 32 := BitVec.ofNat 32 (i 0).val
  let c2_i32 : BitVec 32 := 2#32
  let v0 : BitVec 32 := Scalar.remsi arg0 c2_i32
  let v8142 : Index := Scalar.indexCast v0
  let c128_3563 : Index := 128#32
  let c896_3564 : Index := 896#32
  ![v8142.toNat, 128, 896]
def k0_off167 (i : grid0.Coords) : Fin 3 → Nat :=
  let arg0 : BitVec 32 := BitVec.ofNat 32 (i 0).val
  let c2_i32 : BitVec 32 := 2#32
  let v0 : BitVec 32 := Scalar.remsi arg0 c2_i32
  let v8169 : Index := Scalar.indexCast v0
  let c128_3574 : Index := 128#32
  let c1024_3575 : Index := 1024#32
  ![v8169.toNat, 128, 1024]
def k0_off168 (i : grid0.Coords) : Fin 3 → Nat :=
  let arg0 : BitVec 32 := BitVec.ofNat 32 (i 0).val
  let c2_i32 : BitVec 32 := 2#32
  let v0 : BitVec 32 := Scalar.remsi arg0 c2_i32
  let v8196 : Index := Scalar.indexCast v0
  let c128_3585 : Index := 128#32
  let c1152_3586 : Index := 1152#32
  ![v8196.toNat, 128, 1152]
def k0_off169 (i : grid0.Coords) : Fin 3 → Nat :=
  let arg0 : BitVec 32 := BitVec.ofNat 32 (i 0).val
  let c2_i32 : BitVec 32 := 2#32
  let v0 : BitVec 32 := Scalar.remsi arg0 c2_i32
  let v8223 : Index := Scalar.indexCast v0
  let c128_3596 : Index := 128#32
  let c1280_3597 : Index := 1280#32
  ![v8223.toNat, 128, 1280]
def k0_off170 (i : grid0.Coords) : Fin 3 → Nat :=
  let arg0 : BitVec 32 := BitVec.ofNat 32 (i 0).val
  let c2_i32 : BitVec 32 := 2#32
  let v0 : BitVec 32 := Scalar.remsi arg0 c2_i32
  let v8250 : Index := Scalar.indexCast v0
  let c128_3607 : Index := 128#32
  let c1408_3608 : Index := 1408#32
  ![v8250.toNat, 128, 1408]
def k0_off171 (i : grid0.Coords) : Fin 3 → Nat :=
  let arg0 : BitVec 32 := BitVec.ofNat 32 (i 0).val
  let c2_i32 : BitVec 32 := 2#32
  let v0 : BitVec 32 := Scalar.remsi arg0 c2_i32
  let v8277 : Index := Scalar.indexCast v0
  let c128_3618 : Index := 128#32
  let c1536_3619 : Index := 1536#32
  ![v8277.toNat, 128, 1536]
def k0_off172 (i : grid0.Coords) : Fin 3 → Nat :=
  let arg0 : BitVec 32 := BitVec.ofNat 32 (i 0).val
  let c2_i32 : BitVec 32 := 2#32
  let v0 : BitVec 32 := Scalar.remsi arg0 c2_i32
  let v8304 : Index := Scalar.indexCast v0
  let c128_3629 : Index := 128#32
  let c1664_3630 : Index := 1664#32
  ![v8304.toNat, 128, 1664]
def k0_off173 (i : grid0.Coords) : Fin 3 → Nat :=
  let arg0 : BitVec 32 := BitVec.ofNat 32 (i 0).val
  let c2_i32 : BitVec 32 := 2#32
  let v0 : BitVec 32 := Scalar.remsi arg0 c2_i32
  let v8331 : Index := Scalar.indexCast v0
  let c128_3640 : Index := 128#32
  let c1792_3641 : Index := 1792#32
  ![v8331.toNat, 128, 1792]
def k0_off174 (i : grid0.Coords) : Fin 3 → Nat :=
  let arg0 : BitVec 32 := BitVec.ofNat 32 (i 0).val
  let c2_i32 : BitVec 32 := 2#32
  let v0 : BitVec 32 := Scalar.remsi arg0 c2_i32
  let v8358 : Index := Scalar.indexCast v0
  let c128_3651 : Index := 128#32
  let c1920_3652 : Index := 1920#32
  ![v8358.toNat, 128, 1920]
def k0_off175 (i : grid0.Coords) : Fin 3 → Nat :=
  let arg0 : BitVec 32 := BitVec.ofNat 32 (i 0).val
  let c2_i32 : BitVec 32 := 2#32
  let v0 : BitVec 32 := Scalar.remsi arg0 c2_i32
  let v8385 : Index := Scalar.indexCast v0
  let c128_3662 : Index := 128#32
  let c2048_3663 : Index := 2048#32
  ![v8385.toNat, 128, 2048]
def k0_off176 (i : grid0.Coords) : Fin 3 → Nat :=
  let arg0 : BitVec 32 := BitVec.ofNat 32 (i 0).val
  let c2_i32 : BitVec 32 := 2#32
  let v0 : BitVec 32 := Scalar.remsi arg0 c2_i32
  let v8412 : Index := Scalar.indexCast v0
  let c128_3673 : Index := 128#32
  let c2176_3674 : Index := 2176#32
  ![v8412.toNat, 128, 2176]
def k0_off177 (i : grid0.Coords) : Fin 3 → Nat :=
  let arg0 : BitVec 32 := BitVec.ofNat 32 (i 0).val
  let c2_i32 : BitVec 32 := 2#32
  let v0 : BitVec 32 := Scalar.remsi arg0 c2_i32
  let v8439 : Index := Scalar.indexCast v0
  let c128_3684 : Index := 128#32
  let c2304_3685 : Index := 2304#32
  ![v8439.toNat, 128, 2304]
def k0_off178 (i : grid0.Coords) : Fin 3 → Nat :=
  let arg0 : BitVec 32 := BitVec.ofNat 32 (i 0).val
  let c2_i32 : BitVec 32 := 2#32
  let v0 : BitVec 32 := Scalar.remsi arg0 c2_i32
  let v8466 : Index := Scalar.indexCast v0
  let c128_3695 : Index := 128#32
  let c2432_3696 : Index := 2432#32
  ![v8466.toNat, 128, 2432]
def k0_off179 (i : grid0.Coords) : Fin 3 → Nat :=
  let arg0 : BitVec 32 := BitVec.ofNat 32 (i 0).val
  let c2_i32 : BitVec 32 := 2#32
  let v0 : BitVec 32 := Scalar.remsi arg0 c2_i32
  let v8493 : Index := Scalar.indexCast v0
  let c128_3706 : Index := 128#32
  let c2560_3707 : Index := 2560#32
  ![v8493.toNat, 128, 2560]
def k0_off180 (i : grid0.Coords) : Fin 3 → Nat :=
  let arg0 : BitVec 32 := BitVec.ofNat 32 (i 0).val
  let c2_i32 : BitVec 32 := 2#32
  let v0 : BitVec 32 := Scalar.remsi arg0 c2_i32
  let v8520 : Index := Scalar.indexCast v0
  let c128_3717 : Index := 128#32
  let c2688_3718 : Index := 2688#32
  ![v8520.toNat, 128, 2688]
def k0_off181 (i : grid0.Coords) : Fin 3 → Nat :=
  let arg0 : BitVec 32 := BitVec.ofNat 32 (i 0).val
  let c2_i32 : BitVec 32 := 2#32
  let v0 : BitVec 32 := Scalar.remsi arg0 c2_i32
  let v8547 : Index := Scalar.indexCast v0
  let c128_3728 : Index := 128#32
  let c2816_3729 : Index := 2816#32
  ![v8547.toNat, 128, 2816]
def k0_off182 (i : grid0.Coords) : Fin 3 → Nat :=
  let arg0 : BitVec 32 := BitVec.ofNat 32 (i 0).val
  let c2_i32 : BitVec 32 := 2#32
  let v0 : BitVec 32 := Scalar.remsi arg0 c2_i32
  let v8574 : Index := Scalar.indexCast v0
  let c128_3739 : Index := 128#32
  let c2944_3740 : Index := 2944#32
  ![v8574.toNat, 128, 2944]
def k0_off183 (i : grid0.Coords) : Fin 3 → Nat :=
  let arg0 : BitVec 32 := BitVec.ofNat 32 (i 0).val
  let c2_i32 : BitVec 32 := 2#32
  let v0 : BitVec 32 := Scalar.remsi arg0 c2_i32
  let v8601 : Index := Scalar.indexCast v0
  let c128_3750 : Index := 128#32
  let c3072_3751 : Index := 3072#32
  ![v8601.toNat, 128, 3072]
def k0_off184 (i : grid0.Coords) : Fin 3 → Nat :=
  let arg0 : BitVec 32 := BitVec.ofNat 32 (i 0).val
  let c2_i32 : BitVec 32 := 2#32
  let v0 : BitVec 32 := Scalar.remsi arg0 c2_i32
  let v8628 : Index := Scalar.indexCast v0
  let c128_3761 : Index := 128#32
  let c3200_3762 : Index := 3200#32
  ![v8628.toNat, 128, 3200]
def k0_off185 (i : grid0.Coords) : Fin 3 → Nat :=
  let arg0 : BitVec 32 := BitVec.ofNat 32 (i 0).val
  let c2_i32 : BitVec 32 := 2#32
  let v0 : BitVec 32 := Scalar.remsi arg0 c2_i32
  let v8655 : Index := Scalar.indexCast v0
  let c128_3772 : Index := 128#32
  let c3328_3773 : Index := 3328#32
  ![v8655.toNat, 128, 3328]
def k0_off186 (i : grid0.Coords) : Fin 3 → Nat :=
  let arg0 : BitVec 32 := BitVec.ofNat 32 (i 0).val
  let c2_i32 : BitVec 32 := 2#32
  let v0 : BitVec 32 := Scalar.remsi arg0 c2_i32
  let v8682 : Index := Scalar.indexCast v0
  let c128_3783 : Index := 128#32
  let c3456_3784 : Index := 3456#32
  ![v8682.toNat, 128, 3456]
def k0_off187 (i : grid0.Coords) : Fin 3 → Nat :=
  let arg0 : BitVec 32 := BitVec.ofNat 32 (i 0).val
  let c2_i32 : BitVec 32 := 2#32
  let v0 : BitVec 32 := Scalar.remsi arg0 c2_i32
  let v8709 : Index := Scalar.indexCast v0
  let c128_3794 : Index := 128#32
  let c3584_3795 : Index := 3584#32
  ![v8709.toNat, 128, 3584]
def k0_off188 (i : grid0.Coords) : Fin 3 → Nat :=
  let arg0 : BitVec 32 := BitVec.ofNat 32 (i 0).val
  let c2_i32 : BitVec 32 := 2#32
  let v0 : BitVec 32 := Scalar.remsi arg0 c2_i32
  let v8736 : Index := Scalar.indexCast v0
  let c128_3805 : Index := 128#32
  let c3712_3806 : Index := 3712#32
  ![v8736.toNat, 128, 3712]
def k0_off189 (i : grid0.Coords) : Fin 3 → Nat :=
  let arg0 : BitVec 32 := BitVec.ofNat 32 (i 0).val
  let c2_i32 : BitVec 32 := 2#32
  let v0 : BitVec 32 := Scalar.remsi arg0 c2_i32
  let v8763 : Index := Scalar.indexCast v0
  let c128_3816 : Index := 128#32
  let c3840_3817 : Index := 3840#32
  ![v8763.toNat, 128, 3840]
def k0_off190 (i : grid0.Coords) : Fin 3 → Nat :=
  let arg0 : BitVec 32 := BitVec.ofNat 32 (i 0).val
  let c2_i32 : BitVec 32 := 2#32
  let v0 : BitVec 32 := Scalar.remsi arg0 c2_i32
  let v8790 : Index := Scalar.indexCast v0
  let c128_3827 : Index := 128#32
  let c3968_3828 : Index := 3968#32
  ![v8790.toNat, 128, 3968]
def k0_off191 (i : grid0.Coords) : Fin 3 → Nat :=
  let arg0 : BitVec 32 := BitVec.ofNat 32 (i 0).val
  let c2_i32 : BitVec 32 := 2#32
  let v0 : BitVec 32 := Scalar.remsi arg0 c2_i32
  let v8817 : Index := Scalar.indexCast v0
  let c128_3838 : Index := 128#32
  let c4096_3839 : Index := 4096#32
  ![v8817.toNat, 128, 4096]
def k0_off192 (i : grid0.Coords) : Fin 3 → Nat :=
  let arg0 : BitVec 32 := BitVec.ofNat 32 (i 0).val
  let c2_i32 : BitVec 32 := 2#32
  let v0 : BitVec 32 := Scalar.remsi arg0 c2_i32
  let v8844 : Index := Scalar.indexCast v0
  let c128_3849 : Index := 128#32
  let c4224_3850 : Index := 4224#32
  ![v8844.toNat, 128, 4224]
def k0_off193 (i : grid0.Coords) : Fin 3 → Nat :=
  let arg0 : BitVec 32 := BitVec.ofNat 32 (i 0).val
  let c2_i32 : BitVec 32 := 2#32
  let v0 : BitVec 32 := Scalar.remsi arg0 c2_i32
  let v8871 : Index := Scalar.indexCast v0
  let c128_3860 : Index := 128#32
  let c4352_3861 : Index := 4352#32
  ![v8871.toNat, 128, 4352]
def k0_off194 (i : grid0.Coords) : Fin 3 → Nat :=
  let arg0 : BitVec 32 := BitVec.ofNat 32 (i 0).val
  let c2_i32 : BitVec 32 := 2#32
  let v0 : BitVec 32 := Scalar.remsi arg0 c2_i32
  let v8898 : Index := Scalar.indexCast v0
  let c128_3871 : Index := 128#32
  let c4480_3872 : Index := 4480#32
  ![v8898.toNat, 128, 4480]
def k0_off195 (i : grid0.Coords) : Fin 3 → Nat :=
  let arg0 : BitVec 32 := BitVec.ofNat 32 (i 0).val
  let c2_i32 : BitVec 32 := 2#32
  let v0 : BitVec 32 := Scalar.remsi arg0 c2_i32
  let v8925 : Index := Scalar.indexCast v0
  let c128_3882 : Index := 128#32
  let c4608_3883 : Index := 4608#32
  ![v8925.toNat, 128, 4608]
def k0_off196 (i : grid0.Coords) : Fin 3 → Nat :=
  let arg0 : BitVec 32 := BitVec.ofNat 32 (i 0).val
  let c2_i32 : BitVec 32 := 2#32
  let v0 : BitVec 32 := Scalar.remsi arg0 c2_i32
  let v8952 : Index := Scalar.indexCast v0
  let c128_3893 : Index := 128#32
  let c4736_3894 : Index := 4736#32
  ![v8952.toNat, 128, 4736]
def k0_off197 (i : grid0.Coords) : Fin 3 → Nat :=
  let arg0 : BitVec 32 := BitVec.ofNat 32 (i 0).val
  let c2_i32 : BitVec 32 := 2#32
  let v0 : BitVec 32 := Scalar.remsi arg0 c2_i32
  let v9737 : Index := Scalar.indexCast v0
  let c128_4245 : Index := 128#32
  let c0_4246 : Index := 0#32
  ![v9737.toNat, 128, 0]
def k0_off198 (i : grid0.Coords) : Fin 3 → Nat :=
  let arg0 : BitVec 32 := BitVec.ofNat 32 (i 0).val
  let c2_i32 : BitVec 32 := 2#32
  let v0 : BitVec 32 := Scalar.remsi arg0 c2_i32
  let v9896 : Index := Scalar.indexCast v0
  let c160_4340 : Index := 160#32
  let c0_4341 : Index := 0#32
  ![v9896.toNat, 160, 0]
def k0_off199 (i : grid0.Coords) : Fin 3 → Nat :=
  let arg0 : BitVec 32 := BitVec.ofNat 32 (i 0).val
  let c2_i32 : BitVec 32 := 2#32
  let v0 : BitVec 32 := Scalar.remsi arg0 c2_i32
  let v9923 : Index := Scalar.indexCast v0
  let c160_4351 : Index := 160#32
  let c128_4352 : Index := 128#32
  ![v9923.toNat, 160, 128]
def k0_off200 (i : grid0.Coords) : Fin 3 → Nat :=
  let arg0 : BitVec 32 := BitVec.ofNat 32 (i 0).val
  let c2_i32 : BitVec 32 := 2#32
  let v0 : BitVec 32 := Scalar.remsi arg0 c2_i32
  let v9950 : Index := Scalar.indexCast v0
  let c160_4362 : Index := 160#32
  let c256_4363 : Index := 256#32
  ![v9950.toNat, 160, 256]
def k0_off201 (i : grid0.Coords) : Fin 3 → Nat :=
  let arg0 : BitVec 32 := BitVec.ofNat 32 (i 0).val
  let c2_i32 : BitVec 32 := 2#32
  let v0 : BitVec 32 := Scalar.remsi arg0 c2_i32
  let v9977 : Index := Scalar.indexCast v0
  let c160_4373 : Index := 160#32
  let c384_4374 : Index := 384#32
  ![v9977.toNat, 160, 384]
def k0_off202 (i : grid0.Coords) : Fin 3 → Nat :=
  let arg0 : BitVec 32 := BitVec.ofNat 32 (i 0).val
  let c2_i32 : BitVec 32 := 2#32
  let v0 : BitVec 32 := Scalar.remsi arg0 c2_i32
  let v10004 : Index := Scalar.indexCast v0
  let c160_4384 : Index := 160#32
  let c512_4385 : Index := 512#32
  ![v10004.toNat, 160, 512]
def k0_off203 (i : grid0.Coords) : Fin 3 → Nat :=
  let arg0 : BitVec 32 := BitVec.ofNat 32 (i 0).val
  let c2_i32 : BitVec 32 := 2#32
  let v0 : BitVec 32 := Scalar.remsi arg0 c2_i32
  let v10031 : Index := Scalar.indexCast v0
  let c160_4395 : Index := 160#32
  let c640_4396 : Index := 640#32
  ![v10031.toNat, 160, 640]
def k0_off204 (i : grid0.Coords) : Fin 3 → Nat :=
  let arg0 : BitVec 32 := BitVec.ofNat 32 (i 0).val
  let c2_i32 : BitVec 32 := 2#32
  let v0 : BitVec 32 := Scalar.remsi arg0 c2_i32
  let v10058 : Index := Scalar.indexCast v0
  let c160_4406 : Index := 160#32
  let c768_4407 : Index := 768#32
  ![v10058.toNat, 160, 768]
def k0_off205 (i : grid0.Coords) : Fin 3 → Nat :=
  let arg0 : BitVec 32 := BitVec.ofNat 32 (i 0).val
  let c2_i32 : BitVec 32 := 2#32
  let v0 : BitVec 32 := Scalar.remsi arg0 c2_i32
  let v10085 : Index := Scalar.indexCast v0
  let c160_4417 : Index := 160#32
  let c896_4418 : Index := 896#32
  ![v10085.toNat, 160, 896]
def k0_off206 (i : grid0.Coords) : Fin 3 → Nat :=
  let arg0 : BitVec 32 := BitVec.ofNat 32 (i 0).val
  let c2_i32 : BitVec 32 := 2#32
  let v0 : BitVec 32 := Scalar.remsi arg0 c2_i32
  let v10112 : Index := Scalar.indexCast v0
  let c160_4428 : Index := 160#32
  let c1024_4429 : Index := 1024#32
  ![v10112.toNat, 160, 1024]
def k0_off207 (i : grid0.Coords) : Fin 3 → Nat :=
  let arg0 : BitVec 32 := BitVec.ofNat 32 (i 0).val
  let c2_i32 : BitVec 32 := 2#32
  let v0 : BitVec 32 := Scalar.remsi arg0 c2_i32
  let v10139 : Index := Scalar.indexCast v0
  let c160_4439 : Index := 160#32
  let c1152_4440 : Index := 1152#32
  ![v10139.toNat, 160, 1152]
def k0_off208 (i : grid0.Coords) : Fin 3 → Nat :=
  let arg0 : BitVec 32 := BitVec.ofNat 32 (i 0).val
  let c2_i32 : BitVec 32 := 2#32
  let v0 : BitVec 32 := Scalar.remsi arg0 c2_i32
  let v10166 : Index := Scalar.indexCast v0
  let c160_4450 : Index := 160#32
  let c1280_4451 : Index := 1280#32
  ![v10166.toNat, 160, 1280]
def k0_off209 (i : grid0.Coords) : Fin 3 → Nat :=
  let arg0 : BitVec 32 := BitVec.ofNat 32 (i 0).val
  let c2_i32 : BitVec 32 := 2#32
  let v0 : BitVec 32 := Scalar.remsi arg0 c2_i32
  let v10193 : Index := Scalar.indexCast v0
  let c160_4461 : Index := 160#32
  let c1408_4462 : Index := 1408#32
  ![v10193.toNat, 160, 1408]
def k0_off210 (i : grid0.Coords) : Fin 3 → Nat :=
  let arg0 : BitVec 32 := BitVec.ofNat 32 (i 0).val
  let c2_i32 : BitVec 32 := 2#32
  let v0 : BitVec 32 := Scalar.remsi arg0 c2_i32
  let v10220 : Index := Scalar.indexCast v0
  let c160_4472 : Index := 160#32
  let c1536_4473 : Index := 1536#32
  ![v10220.toNat, 160, 1536]
def k0_off211 (i : grid0.Coords) : Fin 3 → Nat :=
  let arg0 : BitVec 32 := BitVec.ofNat 32 (i 0).val
  let c2_i32 : BitVec 32 := 2#32
  let v0 : BitVec 32 := Scalar.remsi arg0 c2_i32
  let v10247 : Index := Scalar.indexCast v0
  let c160_4483 : Index := 160#32
  let c1664_4484 : Index := 1664#32
  ![v10247.toNat, 160, 1664]
def k0_off212 (i : grid0.Coords) : Fin 3 → Nat :=
  let arg0 : BitVec 32 := BitVec.ofNat 32 (i 0).val
  let c2_i32 : BitVec 32 := 2#32
  let v0 : BitVec 32 := Scalar.remsi arg0 c2_i32
  let v10274 : Index := Scalar.indexCast v0
  let c160_4494 : Index := 160#32
  let c1792_4495 : Index := 1792#32
  ![v10274.toNat, 160, 1792]
def k0_off213 (i : grid0.Coords) : Fin 3 → Nat :=
  let arg0 : BitVec 32 := BitVec.ofNat 32 (i 0).val
  let c2_i32 : BitVec 32 := 2#32
  let v0 : BitVec 32 := Scalar.remsi arg0 c2_i32
  let v10301 : Index := Scalar.indexCast v0
  let c160_4505 : Index := 160#32
  let c1920_4506 : Index := 1920#32
  ![v10301.toNat, 160, 1920]
def k0_off214 (i : grid0.Coords) : Fin 3 → Nat :=
  let arg0 : BitVec 32 := BitVec.ofNat 32 (i 0).val
  let c2_i32 : BitVec 32 := 2#32
  let v0 : BitVec 32 := Scalar.remsi arg0 c2_i32
  let v10328 : Index := Scalar.indexCast v0
  let c160_4516 : Index := 160#32
  let c2048_4517 : Index := 2048#32
  ![v10328.toNat, 160, 2048]
def k0_off215 (i : grid0.Coords) : Fin 3 → Nat :=
  let arg0 : BitVec 32 := BitVec.ofNat 32 (i 0).val
  let c2_i32 : BitVec 32 := 2#32
  let v0 : BitVec 32 := Scalar.remsi arg0 c2_i32
  let v10355 : Index := Scalar.indexCast v0
  let c160_4527 : Index := 160#32
  let c2176_4528 : Index := 2176#32
  ![v10355.toNat, 160, 2176]
def k0_off216 (i : grid0.Coords) : Fin 3 → Nat :=
  let arg0 : BitVec 32 := BitVec.ofNat 32 (i 0).val
  let c2_i32 : BitVec 32 := 2#32
  let v0 : BitVec 32 := Scalar.remsi arg0 c2_i32
  let v10382 : Index := Scalar.indexCast v0
  let c160_4538 : Index := 160#32
  let c2304_4539 : Index := 2304#32
  ![v10382.toNat, 160, 2304]
def k0_off217 (i : grid0.Coords) : Fin 3 → Nat :=
  let arg0 : BitVec 32 := BitVec.ofNat 32 (i 0).val
  let c2_i32 : BitVec 32 := 2#32
  let v0 : BitVec 32 := Scalar.remsi arg0 c2_i32
  let v10409 : Index := Scalar.indexCast v0
  let c160_4549 : Index := 160#32
  let c2432_4550 : Index := 2432#32
  ![v10409.toNat, 160, 2432]
def k0_off218 (i : grid0.Coords) : Fin 3 → Nat :=
  let arg0 : BitVec 32 := BitVec.ofNat 32 (i 0).val
  let c2_i32 : BitVec 32 := 2#32
  let v0 : BitVec 32 := Scalar.remsi arg0 c2_i32
  let v10436 : Index := Scalar.indexCast v0
  let c160_4560 : Index := 160#32
  let c2560_4561 : Index := 2560#32
  ![v10436.toNat, 160, 2560]
def k0_off219 (i : grid0.Coords) : Fin 3 → Nat :=
  let arg0 : BitVec 32 := BitVec.ofNat 32 (i 0).val
  let c2_i32 : BitVec 32 := 2#32
  let v0 : BitVec 32 := Scalar.remsi arg0 c2_i32
  let v10463 : Index := Scalar.indexCast v0
  let c160_4571 : Index := 160#32
  let c2688_4572 : Index := 2688#32
  ![v10463.toNat, 160, 2688]
def k0_off220 (i : grid0.Coords) : Fin 3 → Nat :=
  let arg0 : BitVec 32 := BitVec.ofNat 32 (i 0).val
  let c2_i32 : BitVec 32 := 2#32
  let v0 : BitVec 32 := Scalar.remsi arg0 c2_i32
  let v10490 : Index := Scalar.indexCast v0
  let c160_4582 : Index := 160#32
  let c2816_4583 : Index := 2816#32
  ![v10490.toNat, 160, 2816]
def k0_off221 (i : grid0.Coords) : Fin 3 → Nat :=
  let arg0 : BitVec 32 := BitVec.ofNat 32 (i 0).val
  let c2_i32 : BitVec 32 := 2#32
  let v0 : BitVec 32 := Scalar.remsi arg0 c2_i32
  let v10517 : Index := Scalar.indexCast v0
  let c160_4593 : Index := 160#32
  let c2944_4594 : Index := 2944#32
  ![v10517.toNat, 160, 2944]
def k0_off222 (i : grid0.Coords) : Fin 3 → Nat :=
  let arg0 : BitVec 32 := BitVec.ofNat 32 (i 0).val
  let c2_i32 : BitVec 32 := 2#32
  let v0 : BitVec 32 := Scalar.remsi arg0 c2_i32
  let v10544 : Index := Scalar.indexCast v0
  let c160_4604 : Index := 160#32
  let c3072_4605 : Index := 3072#32
  ![v10544.toNat, 160, 3072]
def k0_off223 (i : grid0.Coords) : Fin 3 → Nat :=
  let arg0 : BitVec 32 := BitVec.ofNat 32 (i 0).val
  let c2_i32 : BitVec 32 := 2#32
  let v0 : BitVec 32 := Scalar.remsi arg0 c2_i32
  let v10571 : Index := Scalar.indexCast v0
  let c160_4615 : Index := 160#32
  let c3200_4616 : Index := 3200#32
  ![v10571.toNat, 160, 3200]
def k0_off224 (i : grid0.Coords) : Fin 3 → Nat :=
  let arg0 : BitVec 32 := BitVec.ofNat 32 (i 0).val
  let c2_i32 : BitVec 32 := 2#32
  let v0 : BitVec 32 := Scalar.remsi arg0 c2_i32
  let v10598 : Index := Scalar.indexCast v0
  let c160_4626 : Index := 160#32
  let c3328_4627 : Index := 3328#32
  ![v10598.toNat, 160, 3328]
def k0_off225 (i : grid0.Coords) : Fin 3 → Nat :=
  let arg0 : BitVec 32 := BitVec.ofNat 32 (i 0).val
  let c2_i32 : BitVec 32 := 2#32
  let v0 : BitVec 32 := Scalar.remsi arg0 c2_i32
  let v10625 : Index := Scalar.indexCast v0
  let c160_4637 : Index := 160#32
  let c3456_4638 : Index := 3456#32
  ![v10625.toNat, 160, 3456]
def k0_off226 (i : grid0.Coords) : Fin 3 → Nat :=
  let arg0 : BitVec 32 := BitVec.ofNat 32 (i 0).val
  let c2_i32 : BitVec 32 := 2#32
  let v0 : BitVec 32 := Scalar.remsi arg0 c2_i32
  let v10652 : Index := Scalar.indexCast v0
  let c160_4648 : Index := 160#32
  let c3584_4649 : Index := 3584#32
  ![v10652.toNat, 160, 3584]
def k0_off227 (i : grid0.Coords) : Fin 3 → Nat :=
  let arg0 : BitVec 32 := BitVec.ofNat 32 (i 0).val
  let c2_i32 : BitVec 32 := 2#32
  let v0 : BitVec 32 := Scalar.remsi arg0 c2_i32
  let v10679 : Index := Scalar.indexCast v0
  let c160_4659 : Index := 160#32
  let c3712_4660 : Index := 3712#32
  ![v10679.toNat, 160, 3712]
def k0_off228 (i : grid0.Coords) : Fin 3 → Nat :=
  let arg0 : BitVec 32 := BitVec.ofNat 32 (i 0).val
  let c2_i32 : BitVec 32 := 2#32
  let v0 : BitVec 32 := Scalar.remsi arg0 c2_i32
  let v10706 : Index := Scalar.indexCast v0
  let c160_4670 : Index := 160#32
  let c3840_4671 : Index := 3840#32
  ![v10706.toNat, 160, 3840]
def k0_off229 (i : grid0.Coords) : Fin 3 → Nat :=
  let arg0 : BitVec 32 := BitVec.ofNat 32 (i 0).val
  let c2_i32 : BitVec 32 := 2#32
  let v0 : BitVec 32 := Scalar.remsi arg0 c2_i32
  let v10733 : Index := Scalar.indexCast v0
  let c160_4681 : Index := 160#32
  let c3968_4682 : Index := 3968#32
  ![v10733.toNat, 160, 3968]
def k0_off230 (i : grid0.Coords) : Fin 3 → Nat :=
  let arg0 : BitVec 32 := BitVec.ofNat 32 (i 0).val
  let c2_i32 : BitVec 32 := 2#32
  let v0 : BitVec 32 := Scalar.remsi arg0 c2_i32
  let v10760 : Index := Scalar.indexCast v0
  let c160_4692 : Index := 160#32
  let c4096_4693 : Index := 4096#32
  ![v10760.toNat, 160, 4096]
def k0_off231 (i : grid0.Coords) : Fin 3 → Nat :=
  let arg0 : BitVec 32 := BitVec.ofNat 32 (i 0).val
  let c2_i32 : BitVec 32 := 2#32
  let v0 : BitVec 32 := Scalar.remsi arg0 c2_i32
  let v10787 : Index := Scalar.indexCast v0
  let c160_4703 : Index := 160#32
  let c4224_4704 : Index := 4224#32
  ![v10787.toNat, 160, 4224]
def k0_off232 (i : grid0.Coords) : Fin 3 → Nat :=
  let arg0 : BitVec 32 := BitVec.ofNat 32 (i 0).val
  let c2_i32 : BitVec 32 := 2#32
  let v0 : BitVec 32 := Scalar.remsi arg0 c2_i32
  let v10814 : Index := Scalar.indexCast v0
  let c160_4714 : Index := 160#32
  let c4352_4715 : Index := 4352#32
  ![v10814.toNat, 160, 4352]
def k0_off233 (i : grid0.Coords) : Fin 3 → Nat :=
  let arg0 : BitVec 32 := BitVec.ofNat 32 (i 0).val
  let c2_i32 : BitVec 32 := 2#32
  let v0 : BitVec 32 := Scalar.remsi arg0 c2_i32
  let v10841 : Index := Scalar.indexCast v0
  let c160_4725 : Index := 160#32
  let c4480_4726 : Index := 4480#32
  ![v10841.toNat, 160, 4480]
def k0_off234 (i : grid0.Coords) : Fin 3 → Nat :=
  let arg0 : BitVec 32 := BitVec.ofNat 32 (i 0).val
  let c2_i32 : BitVec 32 := 2#32
  let v0 : BitVec 32 := Scalar.remsi arg0 c2_i32
  let v10868 : Index := Scalar.indexCast v0
  let c160_4736 : Index := 160#32
  let c4608_4737 : Index := 4608#32
  ![v10868.toNat, 160, 4608]
def k0_off235 (i : grid0.Coords) : Fin 3 → Nat :=
  let arg0 : BitVec 32 := BitVec.ofNat 32 (i 0).val
  let c2_i32 : BitVec 32 := 2#32
  let v0 : BitVec 32 := Scalar.remsi arg0 c2_i32
  let v10895 : Index := Scalar.indexCast v0
  let c160_4747 : Index := 160#32
  let c4736_4748 : Index := 4736#32
  ![v10895.toNat, 160, 4736]
def k0_off236 (i : grid0.Coords) : Fin 3 → Nat :=
  let arg0 : BitVec 32 := BitVec.ofNat 32 (i 0).val
  let c2_i32 : BitVec 32 := 2#32
  let v0 : BitVec 32 := Scalar.remsi arg0 c2_i32
  let v11680 : Index := Scalar.indexCast v0
  let c160_5099 : Index := 160#32
  let c0_5100 : Index := 0#32
  ![v11680.toNat, 160, 0]
def k0_off237 (i : grid0.Coords) : Fin 3 → Nat :=
  let arg0 : BitVec 32 := BitVec.ofNat 32 (i 0).val
  let c2_i32 : BitVec 32 := 2#32
  let v0 : BitVec 32 := Scalar.remsi arg0 c2_i32
  let v11839 : Index := Scalar.indexCast v0
  let c192_5194 : Index := 192#32
  let c0_5195 : Index := 0#32
  ![v11839.toNat, 192, 0]
def k0_off238 (i : grid0.Coords) : Fin 3 → Nat :=
  let arg0 : BitVec 32 := BitVec.ofNat 32 (i 0).val
  let c2_i32 : BitVec 32 := 2#32
  let v0 : BitVec 32 := Scalar.remsi arg0 c2_i32
  let v11866 : Index := Scalar.indexCast v0
  let c192_5205 : Index := 192#32
  let c128_5206 : Index := 128#32
  ![v11866.toNat, 192, 128]
def k0_off239 (i : grid0.Coords) : Fin 3 → Nat :=
  let arg0 : BitVec 32 := BitVec.ofNat 32 (i 0).val
  let c2_i32 : BitVec 32 := 2#32
  let v0 : BitVec 32 := Scalar.remsi arg0 c2_i32
  let v11893 : Index := Scalar.indexCast v0
  let c192_5216 : Index := 192#32
  let c256_5217 : Index := 256#32
  ![v11893.toNat, 192, 256]
def k0_off240 (i : grid0.Coords) : Fin 3 → Nat :=
  let arg0 : BitVec 32 := BitVec.ofNat 32 (i 0).val
  let c2_i32 : BitVec 32 := 2#32
  let v0 : BitVec 32 := Scalar.remsi arg0 c2_i32
  let v11920 : Index := Scalar.indexCast v0
  let c192_5227 : Index := 192#32
  let c384_5228 : Index := 384#32
  ![v11920.toNat, 192, 384]
def k0_off241 (i : grid0.Coords) : Fin 3 → Nat :=
  let arg0 : BitVec 32 := BitVec.ofNat 32 (i 0).val
  let c2_i32 : BitVec 32 := 2#32
  let v0 : BitVec 32 := Scalar.remsi arg0 c2_i32
  let v11947 : Index := Scalar.indexCast v0
  let c192_5238 : Index := 192#32
  let c512_5239 : Index := 512#32
  ![v11947.toNat, 192, 512]
def k0_off242 (i : grid0.Coords) : Fin 3 → Nat :=
  let arg0 : BitVec 32 := BitVec.ofNat 32 (i 0).val
  let c2_i32 : BitVec 32 := 2#32
  let v0 : BitVec 32 := Scalar.remsi arg0 c2_i32
  let v11974 : Index := Scalar.indexCast v0
  let c192_5249 : Index := 192#32
  let c640_5250 : Index := 640#32
  ![v11974.toNat, 192, 640]
def k0_off243 (i : grid0.Coords) : Fin 3 → Nat :=
  let arg0 : BitVec 32 := BitVec.ofNat 32 (i 0).val
  let c2_i32 : BitVec 32 := 2#32
  let v0 : BitVec 32 := Scalar.remsi arg0 c2_i32
  let v12001 : Index := Scalar.indexCast v0
  let c192_5260 : Index := 192#32
  let c768_5261 : Index := 768#32
  ![v12001.toNat, 192, 768]
def k0_off244 (i : grid0.Coords) : Fin 3 → Nat :=
  let arg0 : BitVec 32 := BitVec.ofNat 32 (i 0).val
  let c2_i32 : BitVec 32 := 2#32
  let v0 : BitVec 32 := Scalar.remsi arg0 c2_i32
  let v12028 : Index := Scalar.indexCast v0
  let c192_5271 : Index := 192#32
  let c896_5272 : Index := 896#32
  ![v12028.toNat, 192, 896]
def k0_off245 (i : grid0.Coords) : Fin 3 → Nat :=
  let arg0 : BitVec 32 := BitVec.ofNat 32 (i 0).val
  let c2_i32 : BitVec 32 := 2#32
  let v0 : BitVec 32 := Scalar.remsi arg0 c2_i32
  let v12055 : Index := Scalar.indexCast v0
  let c192_5282 : Index := 192#32
  let c1024_5283 : Index := 1024#32
  ![v12055.toNat, 192, 1024]
def k0_off246 (i : grid0.Coords) : Fin 3 → Nat :=
  let arg0 : BitVec 32 := BitVec.ofNat 32 (i 0).val
  let c2_i32 : BitVec 32 := 2#32
  let v0 : BitVec 32 := Scalar.remsi arg0 c2_i32
  let v12082 : Index := Scalar.indexCast v0
  let c192_5293 : Index := 192#32
  let c1152_5294 : Index := 1152#32
  ![v12082.toNat, 192, 1152]
def k0_off247 (i : grid0.Coords) : Fin 3 → Nat :=
  let arg0 : BitVec 32 := BitVec.ofNat 32 (i 0).val
  let c2_i32 : BitVec 32 := 2#32
  let v0 : BitVec 32 := Scalar.remsi arg0 c2_i32
  let v12109 : Index := Scalar.indexCast v0
  let c192_5304 : Index := 192#32
  let c1280_5305 : Index := 1280#32
  ![v12109.toNat, 192, 1280]
def k0_off248 (i : grid0.Coords) : Fin 3 → Nat :=
  let arg0 : BitVec 32 := BitVec.ofNat 32 (i 0).val
  let c2_i32 : BitVec 32 := 2#32
  let v0 : BitVec 32 := Scalar.remsi arg0 c2_i32
  let v12136 : Index := Scalar.indexCast v0
  let c192_5315 : Index := 192#32
  let c1408_5316 : Index := 1408#32
  ![v12136.toNat, 192, 1408]
def k0_off249 (i : grid0.Coords) : Fin 3 → Nat :=
  let arg0 : BitVec 32 := BitVec.ofNat 32 (i 0).val
  let c2_i32 : BitVec 32 := 2#32
  let v0 : BitVec 32 := Scalar.remsi arg0 c2_i32
  let v12163 : Index := Scalar.indexCast v0
  let c192_5326 : Index := 192#32
  let c1536_5327 : Index := 1536#32
  ![v12163.toNat, 192, 1536]
def k0_off250 (i : grid0.Coords) : Fin 3 → Nat :=
  let arg0 : BitVec 32 := BitVec.ofNat 32 (i 0).val
  let c2_i32 : BitVec 32 := 2#32
  let v0 : BitVec 32 := Scalar.remsi arg0 c2_i32
  let v12190 : Index := Scalar.indexCast v0
  let c192_5337 : Index := 192#32
  let c1664_5338 : Index := 1664#32
  ![v12190.toNat, 192, 1664]
def k0_off251 (i : grid0.Coords) : Fin 3 → Nat :=
  let arg0 : BitVec 32 := BitVec.ofNat 32 (i 0).val
  let c2_i32 : BitVec 32 := 2#32
  let v0 : BitVec 32 := Scalar.remsi arg0 c2_i32
  let v12217 : Index := Scalar.indexCast v0
  let c192_5348 : Index := 192#32
  let c1792_5349 : Index := 1792#32
  ![v12217.toNat, 192, 1792]
def k0_off252 (i : grid0.Coords) : Fin 3 → Nat :=
  let arg0 : BitVec 32 := BitVec.ofNat 32 (i 0).val
  let c2_i32 : BitVec 32 := 2#32
  let v0 : BitVec 32 := Scalar.remsi arg0 c2_i32
  let v12244 : Index := Scalar.indexCast v0
  let c192_5359 : Index := 192#32
  let c1920_5360 : Index := 1920#32
  ![v12244.toNat, 192, 1920]
def k0_off253 (i : grid0.Coords) : Fin 3 → Nat :=
  let arg0 : BitVec 32 := BitVec.ofNat 32 (i 0).val
  let c2_i32 : BitVec 32 := 2#32
  let v0 : BitVec 32 := Scalar.remsi arg0 c2_i32
  let v12271 : Index := Scalar.indexCast v0
  let c192_5370 : Index := 192#32
  let c2048_5371 : Index := 2048#32
  ![v12271.toNat, 192, 2048]
def k0_off254 (i : grid0.Coords) : Fin 3 → Nat :=
  let arg0 : BitVec 32 := BitVec.ofNat 32 (i 0).val
  let c2_i32 : BitVec 32 := 2#32
  let v0 : BitVec 32 := Scalar.remsi arg0 c2_i32
  let v12298 : Index := Scalar.indexCast v0
  let c192_5381 : Index := 192#32
  let c2176_5382 : Index := 2176#32
  ![v12298.toNat, 192, 2176]
def k0_off255 (i : grid0.Coords) : Fin 3 → Nat :=
  let arg0 : BitVec 32 := BitVec.ofNat 32 (i 0).val
  let c2_i32 : BitVec 32 := 2#32
  let v0 : BitVec 32 := Scalar.remsi arg0 c2_i32
  let v12325 : Index := Scalar.indexCast v0
  let c192_5392 : Index := 192#32
  let c2304_5393 : Index := 2304#32
  ![v12325.toNat, 192, 2304]
def k0_off256 (i : grid0.Coords) : Fin 3 → Nat :=
  let arg0 : BitVec 32 := BitVec.ofNat 32 (i 0).val
  let c2_i32 : BitVec 32 := 2#32
  let v0 : BitVec 32 := Scalar.remsi arg0 c2_i32
  let v12352 : Index := Scalar.indexCast v0
  let c192_5403 : Index := 192#32
  let c2432_5404 : Index := 2432#32
  ![v12352.toNat, 192, 2432]
def k0_off257 (i : grid0.Coords) : Fin 3 → Nat :=
  let arg0 : BitVec 32 := BitVec.ofNat 32 (i 0).val
  let c2_i32 : BitVec 32 := 2#32
  let v0 : BitVec 32 := Scalar.remsi arg0 c2_i32
  let v12379 : Index := Scalar.indexCast v0
  let c192_5414 : Index := 192#32
  let c2560_5415 : Index := 2560#32
  ![v12379.toNat, 192, 2560]
def k0_off258 (i : grid0.Coords) : Fin 3 → Nat :=
  let arg0 : BitVec 32 := BitVec.ofNat 32 (i 0).val
  let c2_i32 : BitVec 32 := 2#32
  let v0 : BitVec 32 := Scalar.remsi arg0 c2_i32
  let v12406 : Index := Scalar.indexCast v0
  let c192_5425 : Index := 192#32
  let c2688_5426 : Index := 2688#32
  ![v12406.toNat, 192, 2688]
def k0_off259 (i : grid0.Coords) : Fin 3 → Nat :=
  let arg0 : BitVec 32 := BitVec.ofNat 32 (i 0).val
  let c2_i32 : BitVec 32 := 2#32
  let v0 : BitVec 32 := Scalar.remsi arg0 c2_i32
  let v12433 : Index := Scalar.indexCast v0
  let c192_5436 : Index := 192#32
  let c2816_5437 : Index := 2816#32
  ![v12433.toNat, 192, 2816]
def k0_off260 (i : grid0.Coords) : Fin 3 → Nat :=
  let arg0 : BitVec 32 := BitVec.ofNat 32 (i 0).val
  let c2_i32 : BitVec 32 := 2#32
  let v0 : BitVec 32 := Scalar.remsi arg0 c2_i32
  let v12460 : Index := Scalar.indexCast v0
  let c192_5447 : Index := 192#32
  let c2944_5448 : Index := 2944#32
  ![v12460.toNat, 192, 2944]
def k0_off261 (i : grid0.Coords) : Fin 3 → Nat :=
  let arg0 : BitVec 32 := BitVec.ofNat 32 (i 0).val
  let c2_i32 : BitVec 32 := 2#32
  let v0 : BitVec 32 := Scalar.remsi arg0 c2_i32
  let v12487 : Index := Scalar.indexCast v0
  let c192_5458 : Index := 192#32
  let c3072_5459 : Index := 3072#32
  ![v12487.toNat, 192, 3072]
def k0_off262 (i : grid0.Coords) : Fin 3 → Nat :=
  let arg0 : BitVec 32 := BitVec.ofNat 32 (i 0).val
  let c2_i32 : BitVec 32 := 2#32
  let v0 : BitVec 32 := Scalar.remsi arg0 c2_i32
  let v12514 : Index := Scalar.indexCast v0
  let c192_5469 : Index := 192#32
  let c3200_5470 : Index := 3200#32
  ![v12514.toNat, 192, 3200]
def k0_off263 (i : grid0.Coords) : Fin 3 → Nat :=
  let arg0 : BitVec 32 := BitVec.ofNat 32 (i 0).val
  let c2_i32 : BitVec 32 := 2#32
  let v0 : BitVec 32 := Scalar.remsi arg0 c2_i32
  let v12541 : Index := Scalar.indexCast v0
  let c192_5480 : Index := 192#32
  let c3328_5481 : Index := 3328#32
  ![v12541.toNat, 192, 3328]
def k0_off264 (i : grid0.Coords) : Fin 3 → Nat :=
  let arg0 : BitVec 32 := BitVec.ofNat 32 (i 0).val
  let c2_i32 : BitVec 32 := 2#32
  let v0 : BitVec 32 := Scalar.remsi arg0 c2_i32
  let v12568 : Index := Scalar.indexCast v0
  let c192_5491 : Index := 192#32
  let c3456_5492 : Index := 3456#32
  ![v12568.toNat, 192, 3456]
def k0_off265 (i : grid0.Coords) : Fin 3 → Nat :=
  let arg0 : BitVec 32 := BitVec.ofNat 32 (i 0).val
  let c2_i32 : BitVec 32 := 2#32
  let v0 : BitVec 32 := Scalar.remsi arg0 c2_i32
  let v12595 : Index := Scalar.indexCast v0
  let c192_5502 : Index := 192#32
  let c3584_5503 : Index := 3584#32
  ![v12595.toNat, 192, 3584]
def k0_off266 (i : grid0.Coords) : Fin 3 → Nat :=
  let arg0 : BitVec 32 := BitVec.ofNat 32 (i 0).val
  let c2_i32 : BitVec 32 := 2#32
  let v0 : BitVec 32 := Scalar.remsi arg0 c2_i32
  let v12622 : Index := Scalar.indexCast v0
  let c192_5513 : Index := 192#32
  let c3712_5514 : Index := 3712#32
  ![v12622.toNat, 192, 3712]
def k0_off267 (i : grid0.Coords) : Fin 3 → Nat :=
  let arg0 : BitVec 32 := BitVec.ofNat 32 (i 0).val
  let c2_i32 : BitVec 32 := 2#32
  let v0 : BitVec 32 := Scalar.remsi arg0 c2_i32
  let v12649 : Index := Scalar.indexCast v0
  let c192_5524 : Index := 192#32
  let c3840_5525 : Index := 3840#32
  ![v12649.toNat, 192, 3840]
def k0_off268 (i : grid0.Coords) : Fin 3 → Nat :=
  let arg0 : BitVec 32 := BitVec.ofNat 32 (i 0).val
  let c2_i32 : BitVec 32 := 2#32
  let v0 : BitVec 32 := Scalar.remsi arg0 c2_i32
  let v12676 : Index := Scalar.indexCast v0
  let c192_5535 : Index := 192#32
  let c3968_5536 : Index := 3968#32
  ![v12676.toNat, 192, 3968]
def k0_off269 (i : grid0.Coords) : Fin 3 → Nat :=
  let arg0 : BitVec 32 := BitVec.ofNat 32 (i 0).val
  let c2_i32 : BitVec 32 := 2#32
  let v0 : BitVec 32 := Scalar.remsi arg0 c2_i32
  let v12703 : Index := Scalar.indexCast v0
  let c192_5546 : Index := 192#32
  let c4096_5547 : Index := 4096#32
  ![v12703.toNat, 192, 4096]
def k0_off270 (i : grid0.Coords) : Fin 3 → Nat :=
  let arg0 : BitVec 32 := BitVec.ofNat 32 (i 0).val
  let c2_i32 : BitVec 32 := 2#32
  let v0 : BitVec 32 := Scalar.remsi arg0 c2_i32
  let v12730 : Index := Scalar.indexCast v0
  let c192_5557 : Index := 192#32
  let c4224_5558 : Index := 4224#32
  ![v12730.toNat, 192, 4224]
def k0_off271 (i : grid0.Coords) : Fin 3 → Nat :=
  let arg0 : BitVec 32 := BitVec.ofNat 32 (i 0).val
  let c2_i32 : BitVec 32 := 2#32
  let v0 : BitVec 32 := Scalar.remsi arg0 c2_i32
  let v12757 : Index := Scalar.indexCast v0
  let c192_5568 : Index := 192#32
  let c4352_5569 : Index := 4352#32
  ![v12757.toNat, 192, 4352]
def k0_off272 (i : grid0.Coords) : Fin 3 → Nat :=
  let arg0 : BitVec 32 := BitVec.ofNat 32 (i 0).val
  let c2_i32 : BitVec 32 := 2#32
  let v0 : BitVec 32 := Scalar.remsi arg0 c2_i32
  let v12784 : Index := Scalar.indexCast v0
  let c192_5579 : Index := 192#32
  let c4480_5580 : Index := 4480#32
  ![v12784.toNat, 192, 4480]
def k0_off273 (i : grid0.Coords) : Fin 3 → Nat :=
  let arg0 : BitVec 32 := BitVec.ofNat 32 (i 0).val
  let c2_i32 : BitVec 32 := 2#32
  let v0 : BitVec 32 := Scalar.remsi arg0 c2_i32
  let v12811 : Index := Scalar.indexCast v0
  let c192_5590 : Index := 192#32
  let c4608_5591 : Index := 4608#32
  ![v12811.toNat, 192, 4608]
def k0_off274 (i : grid0.Coords) : Fin 3 → Nat :=
  let arg0 : BitVec 32 := BitVec.ofNat 32 (i 0).val
  let c2_i32 : BitVec 32 := 2#32
  let v0 : BitVec 32 := Scalar.remsi arg0 c2_i32
  let v12838 : Index := Scalar.indexCast v0
  let c192_5601 : Index := 192#32
  let c4736_5602 : Index := 4736#32
  ![v12838.toNat, 192, 4736]
def k0_off275 (i : grid0.Coords) : Fin 3 → Nat :=
  let arg0 : BitVec 32 := BitVec.ofNat 32 (i 0).val
  let c2_i32 : BitVec 32 := 2#32
  let v0 : BitVec 32 := Scalar.remsi arg0 c2_i32
  let v13623 : Index := Scalar.indexCast v0
  let c192_5953 : Index := 192#32
  let c0_5954 : Index := 0#32
  ![v13623.toNat, 192, 0]
def k0_off276 (i : grid0.Coords) : Fin 3 → Nat :=
  let arg0 : BitVec 32 := BitVec.ofNat 32 (i 0).val
  let c2_i32 : BitVec 32 := 2#32
  let v0 : BitVec 32 := Scalar.remsi arg0 c2_i32
  let v13782 : Index := Scalar.indexCast v0
  let c224_6048 : Index := 224#32
  let c0_6049 : Index := 0#32
  ![v13782.toNat, 224, 0]
def k0_off277 (i : grid0.Coords) : Fin 3 → Nat :=
  let arg0 : BitVec 32 := BitVec.ofNat 32 (i 0).val
  let c2_i32 : BitVec 32 := 2#32
  let v0 : BitVec 32 := Scalar.remsi arg0 c2_i32
  let v13809 : Index := Scalar.indexCast v0
  let c224_6059 : Index := 224#32
  let c128_6060 : Index := 128#32
  ![v13809.toNat, 224, 128]
def k0_off278 (i : grid0.Coords) : Fin 3 → Nat :=
  let arg0 : BitVec 32 := BitVec.ofNat 32 (i 0).val
  let c2_i32 : BitVec 32 := 2#32
  let v0 : BitVec 32 := Scalar.remsi arg0 c2_i32
  let v13836 : Index := Scalar.indexCast v0
  let c224_6070 : Index := 224#32
  let c256_6071 : Index := 256#32
  ![v13836.toNat, 224, 256]
def k0_off279 (i : grid0.Coords) : Fin 3 → Nat :=
  let arg0 : BitVec 32 := BitVec.ofNat 32 (i 0).val
  let c2_i32 : BitVec 32 := 2#32
  let v0 : BitVec 32 := Scalar.remsi arg0 c2_i32
  let v13863 : Index := Scalar.indexCast v0
  let c224_6081 : Index := 224#32
  let c384_6082 : Index := 384#32
  ![v13863.toNat, 224, 384]
def k0_off280 (i : grid0.Coords) : Fin 3 → Nat :=
  let arg0 : BitVec 32 := BitVec.ofNat 32 (i 0).val
  let c2_i32 : BitVec 32 := 2#32
  let v0 : BitVec 32 := Scalar.remsi arg0 c2_i32
  let v13890 : Index := Scalar.indexCast v0
  let c224_6092 : Index := 224#32
  let c512_6093 : Index := 512#32
  ![v13890.toNat, 224, 512]
def k0_off281 (i : grid0.Coords) : Fin 3 → Nat :=
  let arg0 : BitVec 32 := BitVec.ofNat 32 (i 0).val
  let c2_i32 : BitVec 32 := 2#32
  let v0 : BitVec 32 := Scalar.remsi arg0 c2_i32
  let v13917 : Index := Scalar.indexCast v0
  let c224_6103 : Index := 224#32
  let c640_6104 : Index := 640#32
  ![v13917.toNat, 224, 640]
def k0_off282 (i : grid0.Coords) : Fin 3 → Nat :=
  let arg0 : BitVec 32 := BitVec.ofNat 32 (i 0).val
  let c2_i32 : BitVec 32 := 2#32
  let v0 : BitVec 32 := Scalar.remsi arg0 c2_i32
  let v13944 : Index := Scalar.indexCast v0
  let c224_6114 : Index := 224#32
  let c768_6115 : Index := 768#32
  ![v13944.toNat, 224, 768]
def k0_off283 (i : grid0.Coords) : Fin 3 → Nat :=
  let arg0 : BitVec 32 := BitVec.ofNat 32 (i 0).val
  let c2_i32 : BitVec 32 := 2#32
  let v0 : BitVec 32 := Scalar.remsi arg0 c2_i32
  let v13971 : Index := Scalar.indexCast v0
  let c224_6125 : Index := 224#32
  let c896_6126 : Index := 896#32
  ![v13971.toNat, 224, 896]
def k0_off284 (i : grid0.Coords) : Fin 3 → Nat :=
  let arg0 : BitVec 32 := BitVec.ofNat 32 (i 0).val
  let c2_i32 : BitVec 32 := 2#32
  let v0 : BitVec 32 := Scalar.remsi arg0 c2_i32
  let v13998 : Index := Scalar.indexCast v0
  let c224_6136 : Index := 224#32
  let c1024_6137 : Index := 1024#32
  ![v13998.toNat, 224, 1024]
def k0_off285 (i : grid0.Coords) : Fin 3 → Nat :=
  let arg0 : BitVec 32 := BitVec.ofNat 32 (i 0).val
  let c2_i32 : BitVec 32 := 2#32
  let v0 : BitVec 32 := Scalar.remsi arg0 c2_i32
  let v14025 : Index := Scalar.indexCast v0
  let c224_6147 : Index := 224#32
  let c1152_6148 : Index := 1152#32
  ![v14025.toNat, 224, 1152]
def k0_off286 (i : grid0.Coords) : Fin 3 → Nat :=
  let arg0 : BitVec 32 := BitVec.ofNat 32 (i 0).val
  let c2_i32 : BitVec 32 := 2#32
  let v0 : BitVec 32 := Scalar.remsi arg0 c2_i32
  let v14052 : Index := Scalar.indexCast v0
  let c224_6158 : Index := 224#32
  let c1280_6159 : Index := 1280#32
  ![v14052.toNat, 224, 1280]
def k0_off287 (i : grid0.Coords) : Fin 3 → Nat :=
  let arg0 : BitVec 32 := BitVec.ofNat 32 (i 0).val
  let c2_i32 : BitVec 32 := 2#32
  let v0 : BitVec 32 := Scalar.remsi arg0 c2_i32
  let v14079 : Index := Scalar.indexCast v0
  let c224_6169 : Index := 224#32
  let c1408_6170 : Index := 1408#32
  ![v14079.toNat, 224, 1408]
def k0_off288 (i : grid0.Coords) : Fin 3 → Nat :=
  let arg0 : BitVec 32 := BitVec.ofNat 32 (i 0).val
  let c2_i32 : BitVec 32 := 2#32
  let v0 : BitVec 32 := Scalar.remsi arg0 c2_i32
  let v14106 : Index := Scalar.indexCast v0
  let c224_6180 : Index := 224#32
  let c1536_6181 : Index := 1536#32
  ![v14106.toNat, 224, 1536]
def k0_off289 (i : grid0.Coords) : Fin 3 → Nat :=
  let arg0 : BitVec 32 := BitVec.ofNat 32 (i 0).val
  let c2_i32 : BitVec 32 := 2#32
  let v0 : BitVec 32 := Scalar.remsi arg0 c2_i32
  let v14133 : Index := Scalar.indexCast v0
  let c224_6191 : Index := 224#32
  let c1664_6192 : Index := 1664#32
  ![v14133.toNat, 224, 1664]
def k0_off290 (i : grid0.Coords) : Fin 3 → Nat :=
  let arg0 : BitVec 32 := BitVec.ofNat 32 (i 0).val
  let c2_i32 : BitVec 32 := 2#32
  let v0 : BitVec 32 := Scalar.remsi arg0 c2_i32
  let v14160 : Index := Scalar.indexCast v0
  let c224_6202 : Index := 224#32
  let c1792_6203 : Index := 1792#32
  ![v14160.toNat, 224, 1792]
def k0_off291 (i : grid0.Coords) : Fin 3 → Nat :=
  let arg0 : BitVec 32 := BitVec.ofNat 32 (i 0).val
  let c2_i32 : BitVec 32 := 2#32
  let v0 : BitVec 32 := Scalar.remsi arg0 c2_i32
  let v14187 : Index := Scalar.indexCast v0
  let c224_6213 : Index := 224#32
  let c1920_6214 : Index := 1920#32
  ![v14187.toNat, 224, 1920]
def k0_off292 (i : grid0.Coords) : Fin 3 → Nat :=
  let arg0 : BitVec 32 := BitVec.ofNat 32 (i 0).val
  let c2_i32 : BitVec 32 := 2#32
  let v0 : BitVec 32 := Scalar.remsi arg0 c2_i32
  let v14214 : Index := Scalar.indexCast v0
  let c224_6224 : Index := 224#32
  let c2048_6225 : Index := 2048#32
  ![v14214.toNat, 224, 2048]
def k0_off293 (i : grid0.Coords) : Fin 3 → Nat :=
  let arg0 : BitVec 32 := BitVec.ofNat 32 (i 0).val
  let c2_i32 : BitVec 32 := 2#32
  let v0 : BitVec 32 := Scalar.remsi arg0 c2_i32
  let v14241 : Index := Scalar.indexCast v0
  let c224_6235 : Index := 224#32
  let c2176_6236 : Index := 2176#32
  ![v14241.toNat, 224, 2176]
def k0_off294 (i : grid0.Coords) : Fin 3 → Nat :=
  let arg0 : BitVec 32 := BitVec.ofNat 32 (i 0).val
  let c2_i32 : BitVec 32 := 2#32
  let v0 : BitVec 32 := Scalar.remsi arg0 c2_i32
  let v14268 : Index := Scalar.indexCast v0
  let c224_6246 : Index := 224#32
  let c2304_6247 : Index := 2304#32
  ![v14268.toNat, 224, 2304]
def k0_off295 (i : grid0.Coords) : Fin 3 → Nat :=
  let arg0 : BitVec 32 := BitVec.ofNat 32 (i 0).val
  let c2_i32 : BitVec 32 := 2#32
  let v0 : BitVec 32 := Scalar.remsi arg0 c2_i32
  let v14295 : Index := Scalar.indexCast v0
  let c224_6257 : Index := 224#32
  let c2432_6258 : Index := 2432#32
  ![v14295.toNat, 224, 2432]
def k0_off296 (i : grid0.Coords) : Fin 3 → Nat :=
  let arg0 : BitVec 32 := BitVec.ofNat 32 (i 0).val
  let c2_i32 : BitVec 32 := 2#32
  let v0 : BitVec 32 := Scalar.remsi arg0 c2_i32
  let v14322 : Index := Scalar.indexCast v0
  let c224_6268 : Index := 224#32
  let c2560_6269 : Index := 2560#32
  ![v14322.toNat, 224, 2560]
def k0_off297 (i : grid0.Coords) : Fin 3 → Nat :=
  let arg0 : BitVec 32 := BitVec.ofNat 32 (i 0).val
  let c2_i32 : BitVec 32 := 2#32
  let v0 : BitVec 32 := Scalar.remsi arg0 c2_i32
  let v14349 : Index := Scalar.indexCast v0
  let c224_6279 : Index := 224#32
  let c2688_6280 : Index := 2688#32
  ![v14349.toNat, 224, 2688]
def k0_off298 (i : grid0.Coords) : Fin 3 → Nat :=
  let arg0 : BitVec 32 := BitVec.ofNat 32 (i 0).val
  let c2_i32 : BitVec 32 := 2#32
  let v0 : BitVec 32 := Scalar.remsi arg0 c2_i32
  let v14376 : Index := Scalar.indexCast v0
  let c224_6290 : Index := 224#32
  let c2816_6291 : Index := 2816#32
  ![v14376.toNat, 224, 2816]
def k0_off299 (i : grid0.Coords) : Fin 3 → Nat :=
  let arg0 : BitVec 32 := BitVec.ofNat 32 (i 0).val
  let c2_i32 : BitVec 32 := 2#32
  let v0 : BitVec 32 := Scalar.remsi arg0 c2_i32
  let v14403 : Index := Scalar.indexCast v0
  let c224_6301 : Index := 224#32
  let c2944_6302 : Index := 2944#32
  ![v14403.toNat, 224, 2944]
def k0_off300 (i : grid0.Coords) : Fin 3 → Nat :=
  let arg0 : BitVec 32 := BitVec.ofNat 32 (i 0).val
  let c2_i32 : BitVec 32 := 2#32
  let v0 : BitVec 32 := Scalar.remsi arg0 c2_i32
  let v14430 : Index := Scalar.indexCast v0
  let c224_6312 : Index := 224#32
  let c3072_6313 : Index := 3072#32
  ![v14430.toNat, 224, 3072]
def k0_off301 (i : grid0.Coords) : Fin 3 → Nat :=
  let arg0 : BitVec 32 := BitVec.ofNat 32 (i 0).val
  let c2_i32 : BitVec 32 := 2#32
  let v0 : BitVec 32 := Scalar.remsi arg0 c2_i32
  let v14457 : Index := Scalar.indexCast v0
  let c224_6323 : Index := 224#32
  let c3200_6324 : Index := 3200#32
  ![v14457.toNat, 224, 3200]
def k0_off302 (i : grid0.Coords) : Fin 3 → Nat :=
  let arg0 : BitVec 32 := BitVec.ofNat 32 (i 0).val
  let c2_i32 : BitVec 32 := 2#32
  let v0 : BitVec 32 := Scalar.remsi arg0 c2_i32
  let v14484 : Index := Scalar.indexCast v0
  let c224_6334 : Index := 224#32
  let c3328_6335 : Index := 3328#32
  ![v14484.toNat, 224, 3328]
def k0_off303 (i : grid0.Coords) : Fin 3 → Nat :=
  let arg0 : BitVec 32 := BitVec.ofNat 32 (i 0).val
  let c2_i32 : BitVec 32 := 2#32
  let v0 : BitVec 32 := Scalar.remsi arg0 c2_i32
  let v14511 : Index := Scalar.indexCast v0
  let c224_6345 : Index := 224#32
  let c3456_6346 : Index := 3456#32
  ![v14511.toNat, 224, 3456]
def k0_off304 (i : grid0.Coords) : Fin 3 → Nat :=
  let arg0 : BitVec 32 := BitVec.ofNat 32 (i 0).val
  let c2_i32 : BitVec 32 := 2#32
  let v0 : BitVec 32 := Scalar.remsi arg0 c2_i32
  let v14538 : Index := Scalar.indexCast v0
  let c224_6356 : Index := 224#32
  let c3584_6357 : Index := 3584#32
  ![v14538.toNat, 224, 3584]
def k0_off305 (i : grid0.Coords) : Fin 3 → Nat :=
  let arg0 : BitVec 32 := BitVec.ofNat 32 (i 0).val
  let c2_i32 : BitVec 32 := 2#32
  let v0 : BitVec 32 := Scalar.remsi arg0 c2_i32
  let v14565 : Index := Scalar.indexCast v0
  let c224_6367 : Index := 224#32
  let c3712_6368 : Index := 3712#32
  ![v14565.toNat, 224, 3712]
def k0_off306 (i : grid0.Coords) : Fin 3 → Nat :=
  let arg0 : BitVec 32 := BitVec.ofNat 32 (i 0).val
  let c2_i32 : BitVec 32 := 2#32
  let v0 : BitVec 32 := Scalar.remsi arg0 c2_i32
  let v14592 : Index := Scalar.indexCast v0
  let c224_6378 : Index := 224#32
  let c3840_6379 : Index := 3840#32
  ![v14592.toNat, 224, 3840]
def k0_off307 (i : grid0.Coords) : Fin 3 → Nat :=
  let arg0 : BitVec 32 := BitVec.ofNat 32 (i 0).val
  let c2_i32 : BitVec 32 := 2#32
  let v0 : BitVec 32 := Scalar.remsi arg0 c2_i32
  let v14619 : Index := Scalar.indexCast v0
  let c224_6389 : Index := 224#32
  let c3968_6390 : Index := 3968#32
  ![v14619.toNat, 224, 3968]
def k0_off308 (i : grid0.Coords) : Fin 3 → Nat :=
  let arg0 : BitVec 32 := BitVec.ofNat 32 (i 0).val
  let c2_i32 : BitVec 32 := 2#32
  let v0 : BitVec 32 := Scalar.remsi arg0 c2_i32
  let v14646 : Index := Scalar.indexCast v0
  let c224_6400 : Index := 224#32
  let c4096_6401 : Index := 4096#32
  ![v14646.toNat, 224, 4096]
def k0_off309 (i : grid0.Coords) : Fin 3 → Nat :=
  let arg0 : BitVec 32 := BitVec.ofNat 32 (i 0).val
  let c2_i32 : BitVec 32 := 2#32
  let v0 : BitVec 32 := Scalar.remsi arg0 c2_i32
  let v14673 : Index := Scalar.indexCast v0
  let c224_6411 : Index := 224#32
  let c4224_6412 : Index := 4224#32
  ![v14673.toNat, 224, 4224]
def k0_off310 (i : grid0.Coords) : Fin 3 → Nat :=
  let arg0 : BitVec 32 := BitVec.ofNat 32 (i 0).val
  let c2_i32 : BitVec 32 := 2#32
  let v0 : BitVec 32 := Scalar.remsi arg0 c2_i32
  let v14700 : Index := Scalar.indexCast v0
  let c224_6422 : Index := 224#32
  let c4352_6423 : Index := 4352#32
  ![v14700.toNat, 224, 4352]
def k0_off311 (i : grid0.Coords) : Fin 3 → Nat :=
  let arg0 : BitVec 32 := BitVec.ofNat 32 (i 0).val
  let c2_i32 : BitVec 32 := 2#32
  let v0 : BitVec 32 := Scalar.remsi arg0 c2_i32
  let v14727 : Index := Scalar.indexCast v0
  let c224_6433 : Index := 224#32
  let c4480_6434 : Index := 4480#32
  ![v14727.toNat, 224, 4480]
def k0_off312 (i : grid0.Coords) : Fin 3 → Nat :=
  let arg0 : BitVec 32 := BitVec.ofNat 32 (i 0).val
  let c2_i32 : BitVec 32 := 2#32
  let v0 : BitVec 32 := Scalar.remsi arg0 c2_i32
  let v14754 : Index := Scalar.indexCast v0
  let c224_6444 : Index := 224#32
  let c4608_6445 : Index := 4608#32
  ![v14754.toNat, 224, 4608]
def k0_off313 (i : grid0.Coords) : Fin 3 → Nat :=
  let arg0 : BitVec 32 := BitVec.ofNat 32 (i 0).val
  let c2_i32 : BitVec 32 := 2#32
  let v0 : BitVec 32 := Scalar.remsi arg0 c2_i32
  let v14781 : Index := Scalar.indexCast v0
  let c224_6455 : Index := 224#32
  let c4736_6456 : Index := 4736#32
  ![v14781.toNat, 224, 4736]
def k0_off314 (i : grid0.Coords) : Fin 3 → Nat :=
  let arg0 : BitVec 32 := BitVec.ofNat 32 (i 0).val
  let c2_i32 : BitVec 32 := 2#32
  let v0 : BitVec 32 := Scalar.remsi arg0 c2_i32
  let v15566 : Index := Scalar.indexCast v0
  let c224_6807 : Index := 224#32
  let c0_6808 : Index := 0#32
  ![v15566.toNat, 224, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x4864 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x448 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4864x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4864 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4864 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RDxIdeal.lean ====
abbrev S32768x4864 : Shape := ⟨2, ![32768, 4864]⟩
abbrev S32768x448 : Shape := ⟨2, ![32768, 448]⟩
abbrev S4864x896 : Shape := ⟨2, ![4864, 896]⟩
abbrev S1x896 : Shape := ⟨2, ![1, 896]⟩
abbrev S32768x896 : Shape := ⟨2, ![32768, 896]⟩
abbrev S128x8x256 : Shape := ⟨3, ![128, 8, 256]⟩
abbrev S32768 : Shape := ⟨1, ![32768]⟩
abbrev S32768x1 : Shape := ⟨2, ![32768, 1]⟩
abbrev S128x256 : Shape := ⟨2, ![128, 256]⟩
abbrev S128x1x256 : Shape := ⟨3, ![128, 1, 256]⟩

abbrev nBuf : Space → Nat
  | .hbm => 8
  | .vmem => 8
  | .smem => 0
  | _ => 0

abbrev bufTy : (tb : Table) → Fin (tcTables nBuf tb) → BufTy
  | .hbm, ⟨0, _⟩ => ⟨S32768x4864, .bf16⟩
  | .hbm, ⟨1, _⟩ => ⟨S32768x448, .i8⟩
  | .hbm, ⟨2, _⟩ => ⟨S4864x896, .fp8e4m3⟩
  | .hbm, ⟨3, _⟩ => ⟨S1x896, .f32⟩
  | .hbm, ⟨4, _⟩ => ⟨S32768x896, .bf16⟩
  | .hbm, ⟨5, _⟩ => ⟨S32768x4864, .i8⟩
  | .hbm, ⟨6, _⟩ => ⟨S32768x4864, .i8⟩
  | .hbm, ⟨7, _⟩ => ⟨S128x8x256, .f32⟩
  | .local _ .vmem, ⟨0, _⟩ => ⟨S32768x4864, .bf16⟩
  | .local _ .vmem, ⟨1, _⟩ => ⟨S32768x448, .i8⟩
  | .local _ .vmem, ⟨2, _⟩ => ⟨S4864x896, .fp8e4m3⟩
  | .local _ .vmem, ⟨3, _⟩ => ⟨S1x896, .f32⟩
  | .local _ .vmem, ⟨4, _⟩ => ⟨S32768x896, .bf16⟩
  | .local _ .vmem, ⟨5, _⟩ => ⟨S32768x4864, .i8⟩
  | .local _ .vmem, ⟨6, _⟩ => ⟨S32768x4864, .i8⟩
  | .local _ .vmem, ⟨7, _⟩ => ⟨S128x8x256, .f32⟩
  | _, _ => ⟨S32768x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32768x4864 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x448 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4864x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x4864 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x4864 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KDw.lean ====
abbrev S32768x4864 : Shape := ⟨2, ![32768, 4864]⟩
abbrev S32768x448 : Shape := ⟨2, ![32768, 448]⟩
abbrev S128x2x256 : Shape := ⟨3, ![128, 2, 256]⟩
abbrev S2x448x4864 : Shape := ⟨3, ![2, 448, 4864]⟩
abbrev S256x4864 : Shape := ⟨2, ![256, 4864]⟩
abbrev S256x448 : Shape := ⟨2, ![256, 448]⟩
abbrev S1x2x256 : Shape := ⟨3, ![1, 2, 256]⟩
abbrev S512x4864 : Shape := ⟨2, ![512, 4864]⟩
abbrev S2x256 : Shape := ⟨2, ![2, 256]⟩
abbrev S1x256 : Shape := ⟨2, ![1, 256]⟩
abbrev S128x256 : Shape := ⟨2, ![128, 256]⟩
abbrev S256x128 : Shape := ⟨2, ![256, 128]⟩
abbrev S512x448 : Shape := ⟨2, ![512, 448]⟩
abbrev S1x448x4864 : Shape := ⟨3, ![1, 448, 4864]⟩
abbrev S448x4864 : Shape := ⟨2, ![448, 4864]⟩

abbrev nBuf : Space → Nat
  | .hbm => 5
  | .vmem => 10
  | .smem => 0
  | _ => 0

abbrev bufTy : (tb : Table) → Fin (tcTables nBuf tb) → BufTy
  | .hbm, ⟨0, _⟩ => ⟨S32768x4864, .i8⟩
  | .hbm, ⟨1, _⟩ => ⟨S32768x4864, .i8⟩
  | .hbm, ⟨2, _⟩ => ⟨S32768x448, .i8⟩
  | .hbm, ⟨3, _⟩ => ⟨S128x2x256, .f32⟩
  | .hbm, ⟨4, _⟩ => ⟨S2x448x4864, .f32⟩
  | .local _ .vmem, ⟨0, _⟩ => ⟨S256x4864, .i8⟩
  | .local _ .vmem, ⟨1, _⟩ => ⟨S256x4864, .i8⟩
  | .local _ .vmem, ⟨2, _⟩ => ⟨S256x4864, .i8⟩
  | .local _ .vmem, ⟨3, _⟩ => ⟨S256x4864, .i8⟩
  | .local _ .vmem, ⟨4, _⟩ => ⟨S256x448, .i8⟩
  | .local _ .vmem, ⟨5, _⟩ => ⟨S256x448, .i8⟩
  | .local _ .vmem, ⟨6, _⟩ => ⟨S1x2x256, .f32⟩
  | .local _ .vmem, ⟨7, _⟩ => ⟨S1x2x256, .f32⟩
  | .local _ .vmem, ⟨8, _⟩ => ⟨S2x448x4864, .f32⟩
  | .local _ .vmem, ⟨9, _⟩ => ⟨S512x4864, .bf16⟩
  | _, _ => ⟨S32768x4864, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x4864 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4864 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x448 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x448x4864 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RDwIdeal.lean ====
abbrev S32768x4864 : Shape := ⟨2, ![32768, 4864]⟩
abbrev S32768x448 : Shape := ⟨2, ![32768, 448]⟩
abbrev S128x2x256 : Shape := ⟨3, ![128, 2, 256]⟩
abbrev S2x448x4864 : Shape := ⟨3, ![2, 448, 4864]⟩
abbrev S128x1x256 : Shape := ⟨3, ![128, 1, 256]⟩
abbrev S128x256 : Shape := ⟨2, ![128, 256]⟩
abbrev S32768x1 : Shape := ⟨2, ![32768, 1]⟩
abbrev S448x4864 : Shape := ⟨2, ![448, 4864]⟩
abbrev S1x448x4864 : Shape := ⟨3, ![1, 448, 4864]⟩

abbrev nBuf : Space → Nat
  | .hbm => 5
  | .vmem => 5
  | .smem => 0
  | _ => 0

abbrev bufTy : (tb : Table) → Fin (tcTables nBuf tb) → BufTy
  | .hbm, ⟨0, _⟩ => ⟨S32768x4864, .i8⟩
  | .hbm, ⟨1, _⟩ => ⟨S32768x4864, .i8⟩
  | .hbm, ⟨2, _⟩ => ⟨S32768x448, .i8⟩
  | .hbm, ⟨3, _⟩ => ⟨S128x2x256, .f32⟩
  | .hbm, ⟨4, _⟩ => ⟨S2x448x4864, .f32⟩
  | .local _ .vmem, ⟨0, _⟩ => ⟨S32768x4864, .i8⟩
  | .local _ .vmem, ⟨1, _⟩ => ⟨S32768x4864, .i8⟩
  | .local _ .vmem, ⟨2, _⟩ => ⟨S32768x448, .i8⟩
  | .local _ .vmem, ⟨3, _⟩ => ⟨S128x2x256, .f32⟩
  | .local _ .vmem, ⟨4, _⟩ => ⟨S2x448x4864, .f32⟩
  | _, _ => ⟨S32768x4864, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32768x4864 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x4864 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x448 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x448x4864 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KC.lean ====
abbrev S128x8x256 : Shape := ⟨3, ![128, 8, 256]⟩
abbrev S128x1x256 : Shape := ⟨3, ![128, 1, 256]⟩
abbrev S128x2x256 : Shape := ⟨3, ![128, 2, 256]⟩
abbrev S1x128x2x256 : Shape := ⟨4, ![1, 128, 2, 256]⟩
abbrev S1 : Shape := ⟨1, ![1]⟩
abbrev S1x1x1x1 : Shape := ⟨4, ![1, 1, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S128x8x256, .f32⟩
  | .hbm, ⟨1, _⟩ => ⟨S128x1x256, .f32⟩
  | .hbm, ⟨2, _⟩ => ⟨S128x2x256, .f32⟩
  | .hbm, ⟨3, _⟩ => ⟨S128x2x256, .f32⟩
  | .local _ .vmem, ⟨0, _⟩ => ⟨S128x8x256, .f32⟩
  | .local _ .vmem, ⟨1, _⟩ => ⟨S128x1x256, .f32⟩
  | .local _ .vmem, ⟨2, _⟩ => ⟨S128x2x256, .f32⟩
  | .local _ .vmem, ⟨3, _⟩ => ⟨S128x2x256, .f32⟩
  | _, _ => ⟨S128x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RCIdeal.lean ====
abbrev S128x8x256 : Shape := ⟨3, ![128, 8, 256]⟩
abbrev S128x1x256 : Shape := ⟨3, ![128, 1, 256]⟩
abbrev S128x2x256 : Shape := ⟨3, ![128, 2, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S128x8x256, .f32⟩
  | .hbm, ⟨1, _⟩ => ⟨S128x1x256, .f32⟩
  | .hbm, ⟨2, _⟩ => ⟨S128x2x256, .f32⟩
  | .hbm, ⟨3, _⟩ => ⟨S128x2x256, .f32⟩
  | .hbm, ⟨4, _⟩ => ⟨S128x2x256, .f32⟩
  | .hbm, ⟨5, _⟩ => ⟨S128x2x256, .f32⟩
  | .hbm, ⟨6, _⟩ => ⟨S128x1x256, .f32⟩
  | .hbm, ⟨7, _⟩ => ⟨S128x1x256, .f32⟩
  | .hbm, ⟨8, _⟩ => ⟨S128x2x256, .f32⟩
  | .hbm, ⟨9, _⟩ => ⟨S128x2x256, .f32⟩
  | .hbm, ⟨10, _⟩ => ⟨S128x2x256, .f32⟩
  | .hbm, ⟨11, _⟩ => ⟨S128x2x256, .f32⟩
  | .hbm, ⟨12, _⟩ => ⟨S128x2x256, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S128x2x256, .f32⟩
  | .hbm, ⟨22, _⟩ => ⟨S128x2x256, .f32⟩
  | .hbm, ⟨23, _⟩ => ⟨S128x2x256, .f32⟩
  | .hbm, ⟨24, _⟩ => ⟨S128x2x256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S128x2x256, .f32⟩
  | .hbm, ⟨29, _⟩ => ⟨S128x2x256, .f32⟩
  | .hbm, ⟨30, _⟩ => ⟨S_, .f32⟩
  | .hbm, ⟨31, _⟩ => ⟨S128x2x256, .f32⟩
  | .hbm, ⟨32, _⟩ => ⟨S128x2x256, .f32⟩
  | .hbm, ⟨33, _⟩ => ⟨S128x2x256, .i1⟩
  | .hbm, ⟨34, _⟩ => ⟨S128x2x256, .f32⟩
  | .hbm, ⟨35, _⟩ => ⟨S128x2x256, .f32⟩
  | .hbm, ⟨36, _⟩ => ⟨S128x2x256, .f32⟩
  | .hbm, ⟨37, _⟩ => ⟨S_, .f32⟩
  | .hbm, ⟨38, _⟩ => ⟨S_, .f32⟩
  | .hbm, ⟨39, _⟩ => ⟨S128x2x256, .f32⟩
  | .hbm, ⟨40, _⟩ => ⟨S128x2x256, .f32⟩
  | _, _ => ⟨S128x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_call2_v0 : Ref sig .tc := ⟨.hbm, 38, rfl⟩
abbrev main_call2_v1 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== KW.lean ====
abbrev S2432x896 : Shape := ⟨2, ![2432, 896]⟩
abbrev S4864x896 : Shape := ⟨2, ![4864, 896]⟩
abbrev S128x896 : Shape := ⟨2, ![128, 896]⟩
abbrev S256x896 : Shape := ⟨2, ![256, 896]⟩
abbrev S128x1x896 : Shape := ⟨3, ![128, 1, 896]⟩
abbrev S128x2x896 : Shape := ⟨3, ![128, 2, 896]⟩

abbrev nBuf : Space → Nat
  | .hbm => 2
  | .vmem => 4
  | .smem => 0
  | _ => 0

abbrev bufTy : (tb : Table) → Fin (tcTables nBuf tb) → BufTy
  | .hbm, ⟨0, _⟩ => ⟨S2432x896, .i8⟩
  | .hbm, ⟨1, _⟩ => ⟨S4864x896, .fp8e4m3⟩
  | .local _ .vmem, ⟨0, _⟩ => ⟨S128x896, .i8⟩
  | .local _ .vmem, ⟨1, _⟩ => ⟨S128x896, .i8⟩
  | .local _ .vmem, ⟨2, _⟩ => ⟨S256x896, .fp8e4m3⟩
  | .local _ .vmem, ⟨3, _⟩ => ⟨S256x896, .fp8e4m3⟩
  | _, _ => ⟨S2432x896, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x896 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RWIdeal.lean ====
abbrev S2432x896 : Shape := ⟨2, ![2432, 896]⟩
abbrev S4864x896 : Shape := ⟨2, ![4864, 896]⟩
abbrev S2432x1x896 : Shape := ⟨3, ![2432, 1, 896]⟩
abbrev S2432x2x896 : Shape := ⟨3, ![2432, 2, 896]⟩

abbrev nBuf : Space → Nat
  | .hbm => 2
  | .vmem => 2
  | .smem => 0
  | _ => 0

abbrev bufTy : (tb : Table) → Fin (tcTables nBuf tb) → BufTy
  | .hbm, ⟨0, _⟩ => ⟨S2432x896, .i8⟩
  | .hbm, ⟨1, _⟩ => ⟨S4864x896, .fp8e4m3⟩
  | .local _ .vmem, ⟨0, _⟩ => ⟨S2432x896, .i8⟩
  | .local _ .vmem, ⟨1, _⟩ => ⟨S4864x896, .fp8e4m3⟩
  | _, _ => ⟨S2432x896, .i8⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2432x896 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4864x896 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.DxBits.lean ====
/-
  The quantising call and its ideal form are one program read at two kinds of numbers: what is said of either at the machine's floats is said of
  both.
-/
module

public import proofs.«01_k».proof.Defs
public import proofs.«01_k».proof.Proof.Gen.KDx
public import proofs.«01_k».proof.Proof.Gen.KDxIdeal
public import Idealize.ShloMosaic.Lib.Tactic

@[expose] public section

set_option maxRecDepth 65536

noncomputable section

namespace Cert.DxBits

open Idealize.ShloMosaic Idealize.ShloMosaic.TcCoe Idealize.ShloMosaic.Tactic Idealize.SL.Sem

open Cert.KDxIdeal Cert.KDxIdeal.Gen in
/-- The frame of the ideal form's program, at the machine's floats. -/
def FrameAtBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_eq : Cert.quiescent_KDx (hKDx := Cert.KDx.Gen.facts) = FrameAtBits := by sl_kernel_rfl

end Cert.DxBits

end
-- ==== Proof.DxKit.lean ====
/-
  What the runs of the quantising call's body are stated over: the body's one condition, the staging and the scratch memrefs, and the invariant.
-/
module

public import proofs.«01_k».proof.Proof.Gen.KDxIdeal.Frame
public import proofs.«01_k».proof.Proof.Gen.KDxIdeal.Launch
public import proofs.«01_k».proof.Proof.Gen.KDxIdeal.Skeleton
public import proofs.«01_k».proof.Proof.Gen.KDxIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KDxIdeal.Dx

open Cert.KDxIdeal Cert.KDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 129 = 0 :=
  (fun t => by
    have ht : t.val < 129 := Nat.lt_of_lt_of_eq t.isLt N_0
    have e0 : (grid0.coords t 0).val = t.val / 1 % 129 := Pipeline.Grid.coords_val t 0 (by decide) rfl
    simp only [cond0_0, e0]
    word_cmp
   : ∀ t : Fin grid0.N, cond0_0 (grid0.coords t) ↔ t.val % 129 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x4864 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x448 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4864x896 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x896 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x896 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4864 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4864 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x256x4864 .fp8e4m3 := Memref.whole cc0_scratch0
abbrev scM0_1 : Memref sig .tc .vmem S2x256x4864 .fp8e4m3 := Memref.whole cc0_scratch1
abbrev scM0_2 : Memref sig .tc .vmem S2x256x128 .f32 := Memref.whole cc0_scratch2
abbrev scM0_3 : Memref sig .tc .vmem S2x256x128 .f32 := Memref.whole cc0_scratch3
abbrev scM0_4 : Memref sig .tc .vmem S2x32x4864 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KDxIdeal.Dx

end
-- ==== Proof.DxRunA.lean ====
/-
  The whole body of the quantising call, executed once in case A (the first grid step is case A, every later one case B): what the body's stores
  leave, as lists of pieces, in the four output blocks and in the four scratch operands that carry the pipeline from one step to the next.
-/
module

public import proofs.«01_k».proof.Proof.DxKit

@[expose] public section

set_option maxRecDepth 16384

noncomputable section

namespace Cert.KDxIdeal.Dx

open Cert.KDxIdeal Cert.KDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 25852000 in
/-- The pieces the body's stores leave in case A, last first, WITH the proof that the body runs from its operands to a state holding them: the inputs
    unchanged, each output block its pieces over some contents, each carried scratch its pieces over the contents it came with. -/
noncomputable def runA (c : Dev nD) (i : grid0.Coords) (arg1 : Memref sig .tc .vmem S256x4864 .bf16) (harg1 : arg1.IsWhole) (arg2 : Memref sig .tc .vmem S256x448 .i8) (harg2 : arg2.IsWhole) (arg3 : Memref sig .tc .vmem S4864x896 .fp8e4m3) (harg3 : arg3.IsWhole) (arg4 : Memref sig .tc .vmem S1x896 .f32) (harg4 : arg4.IsWhole) (arg5 : Memref sig .tc .vmem S256x896 .bf16) (harg5 : arg5.IsWhole) (arg6 : Memref sig .tc .vmem S256x4864 .i8) (harg6 : arg6.IsWhole) (arg7 : Memref sig .tc .vmem S256x4864 .i8) (harg7 : arg7.IsWhole) (arg8 : Memref sig .tc .vmem S1x8x256 .f32) (harg8 : arg8.IsWhole) (arg9 : Memref sig .tc .vmem S2x256x4864 .fp8e4m3) (harg9 : arg9.IsWhole) (arg10 : Memref sig .tc .vmem S2x256x4864 .fp8e4m3) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x32x4864 .f32) (harg13 : arg13.IsWhole) (hc0 : cond0_0 i)
    (x0 : Vec F S256x4864 .bf16) (x1 : Vec F S256x448 .i8) (x2 : Vec F S4864x896 .fp8e4m3) (x3 : Vec F S1x896 .f32)
    (xs0 : Vec F S2x256x4864 .fp8e4m3) (xs1 : Vec F S2x256x4864 .fp8e4m3) (xs2 : Vec F S2x256x128 .f32) (xs3 : Vec F S2x256x128 .f32) :
    Σ' (L4 : List (View.Piece (Elt F) S256x896 .bf16)) (L5 : List (View.Piece (Elt F) S256x4864 .i8)) (L6 : List (View.Piece (Elt F) S256x4864 .i8)) (L7 : List (View.Piece (Elt F) S1x8x256 .f32)) (T0 : List (View.Piece (Elt F) S2x256x4864 .fp8e4m3)) (T1 : List (View.Piece (Elt F) S2x256x4864 .fp8e4m3)) (T2 : List (View.Piece (Elt F) S2x256x128 .f32)) , { T3 : List (View.Piece (Elt F) S2x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread xs0) T0) ∗ (arg10.view.loc (c : Thread nD τ) ↦[arg10.view.set]{fullShare} arg10.view.writes (Elt F) (harg10.unread xs1) T1) ∗ (arg11.view.loc (c : Thread nD τ) ↦[arg11.view.set]{fullShare} arg11.view.writes (Elt F) (harg11.unread xs2) T2) ∗ (arg12.view.loc (c : Thread nD τ) ↦[arg12.view.set]{fullShare} arg12.view.writes (Elt F) (harg12.unread xs3) T3) ∗ (∃ d, owns (c : Thread nD τ) arg13 fullShare d)) -∗ K ⟨⟩))
          ⊢ wp frame (wpE (defs₀ (F := F)) Variants.none c none) E (cc0_quant_dx i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0_quant_dx_eq_skeleton]; unfold cc0_quant_dx_skel
    simp only [k0_part401_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part402_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part403_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part404_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part405_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part406_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part407_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1; obtain rfl := harg11.eq_unread hfs2; obtain rfl := harg12.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iexists _, _; isplitr; swap; · iexact HS4
    ipureintro; rfl

end Cert.KDxIdeal.Dx

end
-- ==== Proof.DxTiles.lean ====
/-
  What the quantising call's body computes, written as loops: a row block `b` (of 8, of 32 rows each) and a tile `t` (of 38, of 128 columns each) are
  numbers here, where the body is unrolled. Everything below is said for any float semantics; nothing is proved here about values.
-/
module

public import proofs.«01_k».proof.Proof.DxKit

@[expose] public section

set_option maxRecDepth 16384

noncomputable section

namespace Cert.KDxIdeal.Dx

open Cert.KDxIdeal Cert.KDxIdeal.Gen Idealize.ShloMosaic Idealize.ShloMosaic.TcCoe

variable {F : FTy → Type} [FloatOps F]

/-- `f 0`, then one step per number below `n`. -/
def upto {α : Type} (z : α) (step : ℕ → α → α) (n : ℕ) : α := Nat.rec (motive := fun _ => α) z step n

/-- The slot of the carried scratches which step `i` writes. -/
def curSlot (i : grid0.Coords) : ℕ := BitVec.toNat (Scalar.indexCast (Scalar.remsi (BitVec.ofNat 32 (i 0)) 2#32))

theorem curSlot_lt (i : grid0.Coords) : curSlot i < 2 := k0_off314_inb i 0

theorem inb_tile (b t : ℕ) : ∀ a, (![b % 8 * 32, t % 38 * 128] : Fin 2 → ℕ) a + S32x128.size a ≤ S256x4864.size a := fun a => by
  match a with
  | ⟨0, _⟩ => show b % 8 * 32 + 32 ≤ 256; omega
  | ⟨1, _⟩ => show t % 38 * 128 + 128 ≤ 4864; omega

theorem inb_res (b t : ℕ) : ∀ a, (![b % 2, 0, t % 38 * 128] : Fin 3 → ℕ) a + S1x32x128.size a ≤ S2x32x4864.size a := fun a => by
  match a with
  | ⟨0, _⟩ => show b % 2 + 1 ≤ 2; omega
  | ⟨1, _⟩ => show 0 + 32 ≤ 32; omega
  | ⟨2, _⟩ => show t % 38 * 128 + 128 ≤ 4864; omega

theorem inb_code (i : grid0.Coords) (b t : ℕ) :
    ∀ a, (![curSlot i, b % 8 * 32, t % 38 * 128] : Fin 3 → ℕ) a + S1x32x128.size a ≤ S2x256x4864.size a := fun a => by
  match a with
  | ⟨0, _⟩ => exact curSlot_lt i
  | ⟨1, _⟩ => show b % 8 * 32 + 32 ≤ 256; omega
  | ⟨2, _⟩ => show t % 38 * 128 + 128 ≤ 4864; omega

theorem inb_scale (i : grid0.Coords) (b : ℕ) :
    ∀ a, (![curSlot i, b % 8 * 32, 0] : Fin 3 → ℕ) a + S1x32x128.size a ≤ S2x256x128.size a := fun a => by
  match a with
  | ⟨0, _⟩ => exact curSlot_lt i
  | ⟨1, _⟩ => show b % 8 * 32 + 32 ≤ 256; omega
  | ⟨2, _⟩ => show 0 + 128 ≤ 128; omega

/-- Tile `t` of row block `b`, of a block of rows. -/
abbrev tileR (b t : ℕ) : Rect S256x4864 := Rect.unit (s := S256x4864) ![b % 8 * 32, t % 38 * 128] S32x128.size (inb_tile b t)
/-- Where the residual of that tile is kept: block `b` in slot `b % 2`. -/
abbrev resR (b t : ℕ) : Rect S2x32x4864 := Rect.unit (s := S2x32x4864) ![b % 2, 0, t % 38 * 128] S1x32x128.size (inb_res b t)
/-- Where the codes of that tile are kept for the next step. -/
abbrev codeR (i : grid0.Coords) (b t : ℕ) : Rect S2x256x4864 :=
  Rect.unit (s := S2x256x4864) ![curSlot i, b % 8 * 32, t % 38 * 128] S1x32x128.size (inb_code i b t)
/-- Where the scales of that row block are kept for the next step. -/
abbrev scaleR (i : grid0.Coords) (b : ℕ) : Rect S2x256x128 :=
  Rect.unit (s := S2x256x128) ![curSlot i, b % 8 * 32, 0] S1x32x128.size (inb_scale i b)

/-! ### One row block, from its tiles -/

/-- The scale of each row, from the row's largest absolute value. -/
def scale (a : FVec F S32x1 .f32) : FVec F S32x1 .f32 :=
  select (cmpf .oeq a (broadcast S32x1 (Scalar.ofBits .f32 0x00000000#32))) (broadcast S32x1 (Scalar.ofBits .f32 0x3F800000#32))
    (divf a (broadcast S32x1 (Scalar.ofBits .f32 0x40E00000#32)))

/-- A column of 32 numbers over 128 lanes. -/
def lanes (s : FVec F S32x1 .f32) : FVec F S32x128 .f32 :=
  broadcastTo S32x128 (shapeCast S32x1 s shapeCasts_S32x1_S32x1) broadcasts_S32x1_S32x128

/-- The reciprocal of each row's scale, over the lanes. -/
def recips (s : FVec F S32x1 .f32) : FVec F S32x128 .f32 := lanes (divf (broadcast S32x1 (Scalar.ofBits .f32 0x3F800000#32)) s)

/-- The codes of a tile: scaled, rounded, clipped to [-7, 7]. -/
def codes (v inv : FVec F S32x128 .f32) : FVec F S32x128 .f32 :=
  minimumf (broadcast S32x128 (Scalar.ofBits .f32 0x40E00000#32))
    (maximumf (broadcast S32x128 (Scalar.ofBits .f32 0xC0E00000#32)) (roundeven (mulf v inv)))

/-- The codes in bf16, from which the products' operand and the squares are taken. -/
def codesB (v inv : FVec F S32x128 .f32) : FVec F S32x128 .bf16 := truncf .bf16 (codes v inv) bitsLt_bf16_f32

/-- One more tile's squares. -/
def addSquares (g : FVec F S32x128 .f32) (q : FVec F S32x128 .bf16) : FVec F S32x128 .f32 :=
  addf g (mulf (extf .f32 q bitsLt_bf16_f32) (extf .f32 q bitsLt_bf16_f32))

/-- The sum of the squares of a row's codes, from the tiles' codes. -/
def squares (q : ℕ → FVec F S32x128 .bf16) : FVec F S32x1 .f32 :=
  shapeCast S32x1 (multiReduction .add [1] S32
    (upto (broadcast S32x128 (Scalar.ofBits .f32 0x00000000#32)) (fun t g => addSquares g (q t)) 38)
    0x00000000#32 reduces_S32x128_S32 (.inl rfl) rfl) shapeCasts_S32_S32x1

/-- The largest of each row, over the lanes. -/
def rowMax (m : FVec F S32x128 .f32) : FVec F S32x1 .f32 :=
  shapeCast S32x1 (multiReduction .maximumf [1] S32 m 0xFF800000#32 reduces_S32x128_S32 (.inl rfl) rfl) shapeCasts_S32_S32x1

section block
variable (T : ℕ → Vec F S32x128 .bf16)

/-- The largest absolute value of a row over the tiles, lane by lane. -/
def hiMax : FVec F S32x128 .bf16 :=
  upto (absf (T 0)) (fun t m => maximumf m (absf (T (t + 1)))) 37

def hiScale : FVec F S32x1 .f32 := scale (rowMax (extf .f32 (hiMax T) bitsLt_bf16_f32))
def hiRecips : FVec F S32x128 .f32 := recips (hiScale T)
def hiLanes : FVec F S32x128 .f32 := lanes (hiScale T)
def hiVal (t : ℕ) : FVec F S32x128 .f32 := extf .f32 (T t) bitsLt_bf16_f32
def hiCodes (t : ℕ) : FVec F S32x128 .f32 := codes (hiVal T t) (hiRecips T)
def hiCodesB (t : ℕ) : FVec F S32x128 .bf16 := codesB (hiVal T t) (hiRecips T)

/-- What the high codes leave of the tile. -/
def resid (t : ℕ) : FVec F S32x128 .f32 := subf (hiVal T t) (mulf (hiCodes T t) (hiLanes T))

def loMax : FVec F S32x128 .f32 :=
  upto (broadcast S32x128 (Scalar.ofBits .f32 0x00000000#32)) (fun t m => maximumf m (absf (resid T t))) 38

def loScale : FVec F S32x1 .f32 := scale (rowMax (loMax T))
def loRecips : FVec F S32x128 .f32 := recips (loScale T)
def loLanes : FVec F S32x128 .f32 := lanes (loScale T)

/-- The low codes of a tile, from the residual as it was read back. -/
def loCodes (r : Vec F S1x32x128 .f32) : FVec F S32x128 .f32 := codes (shapeCast S32x128 r shapeCasts_S1x32x128_S32x128) (loRecips T)
def loCodesB (r : Vec F S1x32x128 .f32) : FVec F S32x128 .bf16 := codesB (shapeCast S32x128 r shapeCasts_S1x32x128_S32x128) (loRecips T)

end block

/-! ### The stores, last first -/

section lists
variable (i : grid0.Coords) (T : ℕ → ℕ → Vec F S32x128 .bf16) (R : ℕ → ℕ → Vec F S1x32x128 .f32)

/-- One piece per tile of row block `b`, on top of `l`. -/
def tiles {α : Type} (f : ℕ → α) (l : List α) : List α := upto l (fun t l => f t :: l) 38
/-- One piece per tile of the first `n` row blocks. -/
def allTiles {α : Type} (f : ℕ → ℕ → α) (n : ℕ) : List α := upto [] (fun b l => tiles (f b) l) n

/-- A tile's codes as the carried scratch takes them. -/
def asF8 (q : FVec F S32x128 .bf16) : FVec F S1x32x128 .fp8e4m3 :=
  shapeCast S1x32x128 (truncf .fp8e4m3 q bitsLt_fp8e4m3_bf16) shapeCasts_S32x128_S1x32x128

def resPiece (b t : ℕ) : View.Piece (Elt F) S2x32x4864 .f32 :=
  ⟨resR b t, shapeCast S1x32x128 (resid (T b) t) shapeCasts_S32x128_S1x32x128⟩
/-- The residuals after the high pass of row block `b`. -/
def resPieces (b : ℕ) : List (View.Piece (Elt F) S2x32x4864 .f32) := allTiles (resPiece T) (b + 1)

def qhPiece (b t : ℕ) : View.Piece (Elt F) S256x4864 .i8 := ⟨tileR b t, fptosi 8 (hiCodes (T b) t)⟩
def qlPiece (b t : ℕ) : View.Piece (Elt F) S256x4864 .i8 := ⟨tileR b t, fptosi 8 (loCodes (T b) (R b t))⟩
def fhPiece (b t : ℕ) : View.Piece (Elt F) S2x256x4864 .fp8e4m3 := ⟨codeR i b t, asF8 (hiCodesB (T b) t)⟩
def flPiece (b t : ℕ) : View.Piece (Elt F) S2x256x4864 .fp8e4m3 := ⟨codeR i b t, asF8 (loCodesB (T b) (R b t))⟩
def shPiece (b : ℕ) : View.Piece (Elt F) S2x256x128 .f32 :=
  ⟨scaleR i b, shapeCast S1x32x128 (hiLanes (T b)) shapeCasts_S32x128_S1x32x128⟩
def slPiece (b : ℕ) : View.Piece (Elt F) S2x256x128 .f32 :=
  ⟨scaleR i b, shapeCast S1x32x128 (loLanes (T b)) shapeCasts_S32x128_S1x32x128⟩

def qhPieces : List (View.Piece (Elt F) S256x4864 .i8) := allTiles (qhPiece T) 8
def qlPieces : List (View.Piece (Elt F) S256x4864 .i8) := allTiles (qlPiece T R) 8
def fhPieces : List (View.Piece (Elt F) S2x256x4864 .fp8e4m3) := allTiles (fhPiece i T) 8
def flPieces : List (View.Piece (Elt F) S2x256x4864 .fp8e4m3) := allTiles (flPiece i T R) 8
def shPieces : List (View.Piece (Elt F) S2x256x128 .f32) := upto [] (fun b l => shPiece i T b :: l) 8
def slPieces : List (View.Piece (Elt F) S2x256x128 .f32) := upto [] (fun b l => slPiece i T b :: l) 8

/-- The row statistics of a block of 256 rows, from its packed activations and its tiles. -/
def statVec (xp : Vec F S256x448 .i8) : FVec F S1x8x256 .f32 :=
  k0_pay1 (k0_pay4250 (k0_pay4249 xp))
    (k0_pay4251 (squares (hiCodesB (T 0))) (squares (hiCodesB (T 1))) (squares (hiCodesB (T 2))) (squares (hiCodesB (T 3)))
      (squares (hiCodesB (T 4))) (squares (hiCodesB (T 5))) (squares (hiCodesB (T 6))) (squares (hiCodesB (T 7))))
    (k0_pay4252 (squares fun t => loCodesB (T 0) (R 0 t)) (squares fun t => loCodesB (T 1) (R 1 t)) (squares fun t => loCodesB (T 2) (R 2 t))
      (squares fun t => loCodesB (T 3) (R 3 t)) (squares fun t => loCodesB (T 4) (R 4 t)) (squares fun t => loCodesB (T 5) (R 5 t))
      (squares fun t => loCodesB (T 6) (R 6 t)) (squares fun t => loCodesB (T 7) (R 7 t)))
    (iota .tc S256x128 32 [1] iota_S256x128_d1_w32)
    (k0_pay4253 (hiScale (T 0)) (hiScale (T 1)) (hiScale (T 2)) (hiScale (T 3)) (hiScale (T 4)) (hiScale (T 5)) (hiScale (T 6)) (hiScale (T 7)))
    k0_pay4254
    (k0_pay4255 (loScale (T 0)) (loScale (T 1)) (loScale (T 2)) (loScale (T 3)) (loScale (T 4)) (loScale (T 5)) (loScale (T 6)) (loScale (T 7)))

def statPieces (xp : Vec F S256x448 .i8) : List (View.Piece (Elt F) S1x8x256 .f32) :=
  [⟨Rect.unit (s := S1x8x256) ![0, 0, 0] S1x8x256.size inb_S1x8x256_S1x8x256_0_0_0, statVec T R xp⟩]

/-- The block of `dx`, from the weight, the carried codes and scales, and the weight's column scales. -/
def dxPieces (w : Vec F S4864x896 .fp8e4m3) (fh fl : Vec F S1x256x4864 .fp8e4m3) (sh sl : Vec F S1x256x128 .f32) (ws : Vec F S1x896 .f32) :
    List (View.Piece (Elt F) S256x896 .bf16) :=
  [⟨Rect.unit (s := S256x896) ![0, 0] S256x896.size inb_S256x896_S256x896_0_0, k0_pay6 w fh fl sh sl ws⟩]

end lists

/-- The tiles of the incoming block, as the body loads them. -/
abbrev loadT (arg1 : Memref sig .tc .vmem S256x4864 .bf16) (harg1 : arg1.IsWhole) (x0 : Vec F S256x4864 .bf16) (b t : ℕ) : Vec F S32x128 .bf16 :=
  View.readAt (Elt F) arg1.view (tileR b t).toLoadRect (harg1.unread x0)

/-- The residuals, as the body's low pass reads them back. -/
abbrev backR (arg1 : Memref sig .tc .vmem S256x4864 .bf16) (harg1 : arg1.IsWhole) (arg13 : Memref sig .tc .vmem S2x32x4864 .f32)
    (x0 : Vec F S256x4864 .bf16) (b t : ℕ) : Vec F S1x32x128 .f32 :=
  arg13.view.readCov (resPieces (loadT arg1 harg1 x0) b) (resR b t).toLoadRect

end Cert.KDxIdeal.Dx

end
-- ==== Proof.DxListA.lean ====
/-
  The stores of the quantising call's body in case A, the first step, are the loops' stores, on top of the zeros it stores first: by unfolding both.
-/
module

public import proofs.«01_k».proof.Proof.DxRunA
public import proofs.«01_k».proof.Proof.DxTiles

@[expose] public section

set_option maxRecDepth 16384

noncomputable section

namespace Cert.KDxIdeal.Dx

open Cert.KDxIdeal Cert.KDxIdeal.Gen Idealize.ShloMosaic Idealize.ShloMosaic.TcCoe Idealize.ShloMosaic.Tactic

variable {F : FTy → Type} [FloatOps F]

variable (c : Dev nD) (i : grid0.Coords) (arg1 : Memref sig .tc .vmem S256x4864 .bf16) (harg1 : arg1.IsWhole) (arg2 : Memref sig .tc .vmem S256x448 .i8) (harg2 : arg2.IsWhole) (arg3 : Memref sig .tc .vmem S4864x896 .fp8e4m3) (harg3 : arg3.IsWhole) (arg4 : Memref sig .tc .vmem S1x896 .f32) (harg4 : arg4.IsWhole) (arg5 : Memref sig .tc .vmem S256x896 .bf16) (harg5 : arg5.IsWhole) (arg6 : Memref sig .tc .vmem S256x4864 .i8) (harg6 : arg6.IsWhole) (arg7 : Memref sig .tc .vmem S256x4864 .i8) (harg7 : arg7.IsWhole) (arg8 : Memref sig .tc .vmem S1x8x256 .f32) (harg8 : arg8.IsWhole) (arg9 : Memref sig .tc .vmem S2x256x4864 .fp8e4m3) (harg9 : arg9.IsWhole) (arg10 : Memref sig .tc .vmem S2x256x4864 .fp8e4m3) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x32x4864 .f32) (harg13 : arg13.IsWhole) (hc0 : cond0_0 i) (x0 : Vec F S256x4864 .bf16) (x1 : Vec F S256x448 .i8) (x2 : Vec F S4864x896 .fp8e4m3) (x3 : Vec F S1x896 .f32) (xs0 : Vec F S2x256x4864 .fp8e4m3) (xs1 : Vec F S2x256x4864 .fp8e4m3) (xs2 : Vec F S2x256x128 .f32) (xs3 : Vec F S2x256x128 .f32)

theorem runA_qh : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.1
    = qhPieces (loadT arg1 harg1 x0) := by sl_kernel_rfl

theorem runA_fh : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.1
    = fhPieces i (loadT arg1 harg1 x0)
      ++ [⟨Rect.unit (s := S2x256x4864) ![1, 0, 0] S1x256x4864.size inb_S2x256x4864_S1x256x4864_1_0_0, k0_pay2⟩] := by sl_kernel_rfl

theorem runA_sh : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.1
    = shPieces i (loadT arg1 harg1 x0)
      ++ [⟨Rect.unit (s := S2x256x128) ![1, 0, 0] S1x256x128.size inb_S2x256x128_S1x256x128_1_0_0, k0_pay4⟩] := by sl_kernel_rfl

theorem runA_sl : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.2.val
    = slPieces i (loadT arg1 harg1 x0)
      ++ [⟨Rect.unit (s := S2x256x128) ![1, 0, 0] S1x256x128.size inb_S2x256x128_S1x256x128_1_0_0, k0_pay5⟩] := by sl_kernel_rfl

theorem runA_ql : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.1
    = qlPieces (loadT arg1 harg1 x0) (backR arg1 harg1 arg13 x0) := by sl_kernel_rfl

theorem runA_fl : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.1
    = flPieces i (loadT arg1 harg1 x0) (backR arg1 harg1 arg13 x0)
      ++ [⟨Rect.unit (s := S2x256x4864) ![1, 0, 0] S1x256x4864.size inb_S2x256x4864_S1x256x4864_1_0_0, k0_pay3⟩] := by sl_kernel_rfl

theorem runA_stat : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.1
    = statPieces (loadT arg1 harg1 x0) (backR arg1 harg1 arg13 x0)
      (View.readAt (Elt F) arg2.view (Rect.unit (s := S256x448) ![0, 0] S256x448.size inb_S256x448_S256x448_0_0).toLoadRect (harg2.unread x1)) := by sl_kernel_rfl

theorem runA_dx : (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).1
    = dxPieces (View.readAt (Elt F) arg3.view (Rect.unit (s := S4864x896) ![0, 0] S4864x896.size inb_S4864x896_S4864x896_0_0).toLoadRect (harg3.unread x2))
      (View.readAt (Elt F) arg9.view (Rect.unit (s := S2x256x4864) (k0_off1 i) S1x256x4864.size (k0_off1_inb i)).toLoadRect (arg9.view.writes (Elt F) (harg9.unread xs0) [⟨Rect.unit (s := S2x256x4864) ![1, 0, 0] S1x256x4864.size inb_S2x256x4864_S1x256x4864_1_0_0, k0_pay2⟩]))
      (View.readAt (Elt F) arg10.view (Rect.unit (s := S2x256x4864) (k0_off1 i) S1x256x4864.size (k0_off1_inb i)).toLoadRect (arg10.view.writes (Elt F) (harg10.unread xs1) [⟨Rect.unit (s := S2x256x4864) ![1, 0, 0] S1x256x4864.size inb_S2x256x4864_S1x256x4864_1_0_0, k0_pay3⟩]))
      (View.readAt (Elt F) arg11.view (Rect.unit (s := S2x256x128) (k0_off2 i) S1x256x128.size (k0_off2_inb i)).toLoadRect (arg11.view.writes (Elt F) (harg11.unread xs2) [⟨Rect.unit (s := S2x256x128) ![1, 0, 0] S1x256x128.size inb_S2x256x128_S1x256x128_1_0_0, k0_pay4⟩]))
      (View.readAt (Elt F) arg12.view (Rect.unit (s := S2x256x128) (k0_off2 i) S1x256x128.size (k0_off2_inb i)).toLoadRect (arg12.view.writes (Elt F) (harg12.unread xs3) [⟨Rect.unit (s := S2x256x128) ![1, 0, 0] S1x256x128.size inb_S2x256x128_S1x256x128_1_0_0, k0_pay5⟩]))
      (View.readAt (Elt F) arg4.view (Rect.unit (s := S1x896) ![0, 0] S1x896.size inb_S1x896_S1x896_0_0).toLoadRect (harg4.unread x3)) := by sl_kernel_rfl

end Cert.KDxIdeal.Dx

end
-- ==== Proof.DxClosed.lean ====
/-
  What the quantising call's body leaves, as functions of the index: each output block and each slot of the carried scratches, from the lists of
  stores of `DxTiles`. Said for any float semantics.
-/
module

public import proofs.«01_k».proof.Proof.DxTiles
public import Idealize.ShloMosaic.Lib.Pointwise
public import Idealize.ShloMosaic.Lib.WholeRead
public import Idealize.ShloMosaic.Lib.Writes
public import Idealize.ShloMosaic.Lib.Pipeline.FrameBody

@[expose] public section

set_option maxRecDepth 16384

noncomputable section

namespace Cert.KDxIdeal.Dx

open Cert.KDxIdeal Cert.KDxIdeal.Gen Idealize.ShloMosaic Idealize.ShloMosaic.TcCoe Idealize.ShloMosaic.Pointwise

variable {F : FTy → Type} [FloatOps F]

/-! ### Loops -/

/-- A loop depends on its steps below the bound only. -/
theorem upto_congr {α : Type} (z : α) (f g : ℕ → α → α) : ∀ n : ℕ, (∀ t < n, f t = g t) → upto z f n = upto z g n
  | 0, _ => rfl
  | n + 1, h => by
    show f n (upto z f n) = g n (upto z g n)
    rw [upto_congr z f g n fun t ht => h t (by omega), h n (by omega)]

theorem mem_upto_cons {α : Type} (f : ℕ → α) (l : List α) (p : α) : ∀ n : ℕ,
    p ∈ upto l (fun t l => f t :: l) n ↔ (∃ t < n, p = f t) ∨ p ∈ l
  | 0 => by show p ∈ l ↔ _; simp
  | n + 1 => by
    show p ∈ f n :: upto l (fun t l => f t :: l) n ↔ _
    rw [List.mem_cons, mem_upto_cons f l p n]
    constructor
    · rintro (h | ⟨t, ht, h⟩ | h)
      · exact .inl ⟨n, by omega, h⟩
      · exact .inl ⟨t, by omega, h⟩
      · exact .inr h
    · rintro (⟨t, ht, h⟩ | h)
      · rcases Nat.lt_succ_iff_lt_or_eq.mp ht with ht | rfl
        · exact .inr (.inl ⟨t, ht, h⟩)
        · exact .inl h
      · exact .inr (.inr h)

theorem allTiles_congr {α : Type} (f g : ℕ → ℕ → α) (h : ∀ b, ∀ t < 38, f b t = g b t) (n : ℕ) : allTiles f n = allTiles g n := by
  unfold allTiles
  refine upto_congr _ _ _ n fun b _ => funext fun l => ?_
  unfold tiles
  exact upto_congr _ _ _ 38 fun t ht => funext fun l => by rw [h b t ht]

theorem mem_allTiles {α : Type} (f : ℕ → ℕ → α) (p : α) : ∀ n : ℕ, p ∈ allTiles f n ↔ ∃ b < n, ∃ t < 38, p = f b t
  | 0 => by show p ∈ [] ↔ _; simp
  | n + 1 => by
    show p ∈ tiles (f n) (allTiles f n) ↔ _
    unfold tiles
    rw [mem_upto_cons, mem_allTiles f p n]
    constructor
    · rintro (⟨t, ht, h⟩ | ⟨b, hb, t, ht, h⟩)
      · exact ⟨n, by omega, t, ht, h⟩
      · exact ⟨b, by omega, t, ht, h⟩
    · rintro ⟨b, hb, t, ht, h⟩
      rcases Nat.lt_succ_iff_lt_or_eq.mp hb with hb | rfl
      · exact .inr ⟨b, hb, t, ht, h⟩
      · exact .inl ⟨t, ht, h⟩

/-! ### Tiles put together -/

/-- The function of the whole block whose tile `(b, t)` is `P b t`. -/
def spread {α : Type} (P : ℕ → ℕ → S32x128.Idx → α) : S256x4864.Idx → α := fun y =>
  P ((y 0).val / 32) ((y 1).val / 128) (ix2 ⟨(y 0).val % 32, Nat.mod_lt _ (by decide)⟩ ⟨(y 1).val % 128, Nat.mod_lt _ (by decide)⟩)

/-- The same for a column of row blocks. -/
def spreadRows {α : Type} (P : ℕ → S32x128.Idx → α) : S256x128.Idx → α := fun y =>
  P ((y 0).val / 32) (ix2 ⟨(y 0).val % 32, Nat.mod_lt _ (by decide)⟩ (y 1))

theorem spread_at {α : Type} (P : ℕ → ℕ → S32x128.Idx → α) (b t : ℕ) (z : S32x128.Idx) (y : S256x4864.Idx)
    (h0 : (y 0).val = b * 32 + (z 0).val) (h1 : (y 1).val = t * 128 + (z 1).val) : spread P y = P b t z := by
  have hz0 : (z 0).val < 32 := (z 0).isLt
  have hz1 : (z 1).val < 128 := (z 1).isLt
  unfold spread
  have e0 : (y 0).val / 32 = b := by omega
  have e1 : (y 1).val / 128 = t := by omega
  rw [e0, e1]
  refine congrArg (P b t) ?_
  rw [eq_ix2 (n0 := 32) (n1 := 128) z]
  congr 1
  · exact Fin.ext (by show (y 0).val % 32 = (z 0).val; omega)
  · exact Fin.ext (by show (y 1).val % 128 = (z 1).val; omega)

theorem spreadRows_at {α : Type} (P : ℕ → S32x128.Idx → α) (b : ℕ) (z : S32x128.Idx) (y : S256x128.Idx)
    (h0 : (y 0).val = b * 32 + (z 0).val) (h1 : (y 1).val = (z 1).val) : spreadRows P y = P b z := by
  have hz0 : (z 0).val < 32 := (z 0).isLt
  unfold spreadRows
  have e0 : (y 0).val / 32 = b := by omega
  rw [e0]
  refine congrArg (P b) ?_
  rw [eq_ix2 (n0 := 32) (n1 := 128) z]
  congr 1
  · exact Fin.ext (by show (y 0).val % 32 = (z 0).val; omega)
  · exact Fin.ext h1

/-! ### The closed forms -/

/-- A tile of a block. -/
def tile (x : Vec F S256x4864 .bf16) (b t : ℕ) : Vec F S32x128 .bf16 := fun z => x ((tileR b t).emb z)

/-- The residual of a tile, with the leading unit axis it is kept with. -/
def kept (T : ℕ → ℕ → Vec F S32x128 .bf16) (b t : ℕ) : Vec F S1x32x128 .f32 :=
  shapeCast S1x32x128 (resid (T b) t) shapeCasts_S32x128_S1x32x128

section forms
variable (x : Vec F S256x4864 .bf16)

def qhOf : Vec F S256x4864 .i8 := spread fun b t => fptosi 8 (hiCodes (tile x b) t)
def qlOf : Vec F S256x4864 .i8 := spread fun b t => fptosi 8 (loCodes (tile x b) (kept (tile x) b t))
def fhOf : Vec F S256x4864 .fp8e4m3 := spread fun b t => truncf .fp8e4m3 (hiCodesB (tile x b) t) bitsLt_fp8e4m3_bf16
def flOf : Vec F S256x4864 .fp8e4m3 := spread fun b t => truncf .fp8e4m3 (loCodesB (tile x b) (kept (tile x) b t)) bitsLt_fp8e4m3_bf16
def shOf : Vec F S256x128 .f32 := spreadRows fun b => hiLanes (tile x b)
def slOf : Vec F S256x128 .f32 := spreadRows fun b => loLanes (tile x b)
def statOf (xp : Vec F S256x448 .i8) : Vec F S1x8x256 .f32 := statVec (tile x) (kept (tile x)) xp

end forms

/-- A block with a leading unit axis. -/
def lift8 (g : Vec F S256x4864 .fp8e4m3) : Vec F S1x256x4864 .fp8e4m3 := fun z => g (ix2 (z 1) (z 2))
def lift32 (g : Vec F S256x128 .f32) : Vec F S1x256x128 .f32 := fun z => g (ix2 (z 1) (z 2))

/-- Slot `k` of a carried scratch holds `g`. -/
def Slot8 (d : Vec F S2x256x4864 .fp8e4m3) (k : ℕ) (g : Vec F S256x4864 .fp8e4m3) : Prop :=
  ∀ y : S2x256x4864.Idx, (y 0).val = k → d y = g (ix2 (y 1) (y 2))
def Slot32 (d : Vec F S2x256x128 .f32) (k : ℕ) (g : Vec F S256x128 .f32) : Prop :=
  ∀ y : S2x256x128.Idx, (y 0).val = k → d y = g (ix2 (y 1) (y 2))

/-! ### The loads -/

section loads
variable (arg1 : Memref sig .tc .vmem S256x4864 .bf16) (harg1 : arg1.IsWhole) (x0 : Vec F S256x4864 .bf16)

theorem loadT_eq : loadT arg1 harg1 x0 = tile x0 := by
  funext b t z
  exact harg1.readAt_unread x0 (tileR b t).toLoadRect z

/-- The residual of a tile is found where it was left, whatever the earlier row blocks left in the slot. -/
theorem canon_tiles (T : ℕ → ℕ → Vec F S32x128 .bf16) (b : ℕ) (l : List (View.Piece (Elt F) S2x32x4864 .f32)) (t : ℕ) (ht : t < 38)
    (j : S1x32x128.Idx) : ∀ n : ℕ, t < n → n ≤ 38 →
      View.canon (upto l (fun t l => resPiece T b t :: l) n) ((resR b t).emb j) = kept T b t j
  | 0, h, _ => absurd h (Nat.not_lt_zero t)
  | n + 1, h, hn => by
    show View.canon (resPiece T b n :: upto l (fun t l => resPiece T b t :: l) n) ((resR b t).emb j) = _
    rcases Nat.lt_succ_iff_lt_or_eq.mp h with h | rfl
    · rw [View.canon_cons_of_not_mem]
      · exact canon_tiles T b l t ht j n h (by omega)
      · have hj : (j 2).val < 128 := (j 2).isLt
        refine (resR b n).not_mem_set_of_axis _ (2 : Fin 3) (n % 38 * 128) 128 rfl rfl rfl (.inl ?_)
        show t % 38 * 128 + 1 * (j 2).val < n % 38 * 128
        omega
    · exact View.canon_cons_emb (resR b t) (kept T b t) _ j

theorem backR_eq (arg13 : Memref sig .tc .vmem S2x32x4864 .f32) (b t : ℕ) (ht : t < 38) :
    backR arg1 harg1 arg13 x0 b t = kept (tile x0) b t := by
  unfold backR
  rw [View.readCov_eq_canon', loadT_eq]
  funext j
  exact canon_tiles (tile x0) b (allTiles (resPiece (tile x0)) b) t ht j 38 ht (le_refl 38)

theorem squares_congr (f g : ℕ → FVec F S32x128 .bf16) (h : ∀ t < 38, f t = g t) : squares f = squares g := by
  unfold squares
  rw [upto_congr _ _ (fun t s => addSquares s (g t)) 38 fun t ht => by rw [h t ht]]

theorem statVec_eq (arg13 : Memref sig .tc .vmem S2x32x4864 .f32) (xp : Vec F S256x448 .i8) :
    statVec (loadT arg1 harg1 x0) (backR arg1 harg1 arg13 x0) xp = statOf x0 xp := by
  unfold statOf
  rw [loadT_eq]
  have h : ∀ b : ℕ, (squares fun t => loCodesB (tile x0 b) (backR arg1 harg1 arg13 x0 b t))
      = squares fun t => loCodesB (tile x0 b) (kept (tile x0) b t) := fun b =>
    squares_congr _ _ fun t ht => by rw [backR_eq arg1 harg1 x0 arg13 b t ht]
  unfold statVec
  simp only [h]

end loads

/-! ### The stores -/

section stores
variable {κ : Kind} {sp : Space}

/-- Stores tile by tile leave their tiles, put together. -/
theorem read_tiles {e : EltTy} (v : View sig κ sp S256x4864 e) (f : v.ty.Contents (Elt F)) (P : ℕ → ℕ → S32x128.Idx → Elt F e) :
    v.read (Elt F) (v.writes (Elt F) f (allTiles (fun b t => (⟨tileR b t, P b t⟩ : View.Piece (Elt F) S256x4864 e)) 8)) = spread P := by
  funext y
  refine View.read_writes_apply_of_pieces _ _ (spread P) _ ?_ y ?_
  · intro p hp
    obtain ⟨b, hb, t, ht, rfl⟩ := (mem_allTiles _ _ _).mp hp
    intro z
    refine (spread_at P b t z _ ?_ ?_).symm
    · show b % 8 * 32 + 1 * (z 0).val = b * 32 + (z 0).val; omega
    · show t % 38 * 128 + 1 * (z 1).val = t * 128 + (z 1).val; omega
  · have h0 : (y 0).val < 256 := (y 0).isLt
    have h1 : (y 1).val < 4864 := (y 1).isLt
    refine ⟨_, (mem_allTiles _ _ _).mpr ⟨(y 0).val / 32, by omega, (y 1).val / 128, by omega, rfl⟩, ?_⟩
    refine (Rect.mem_set_unit (s := S256x4864) (inb := inb_tile _ _)).mpr fun a => ?_
    match a with
    | ⟨0, _⟩ => show (y 0).val / 32 % 8 * 32 ≤ (y 0).val ∧ (y 0).val < (y 0).val / 32 % 8 * 32 + 32; omega
    | ⟨1, _⟩ => show (y 1).val / 128 % 38 * 128 ≤ (y 1).val ∧ (y 1).val < (y 1).val / 128 % 38 * 128 + 128; omega

/-- A cast that adds a leading unit axis reads the index without it. -/
theorem asF8_apply (q : FVec F S32x128 .bf16) (z : S1x32x128.Idx) : asF8 q z = truncf .fp8e4m3 q bitsLt_fp8e4m3_bf16 (ix2 (z 1) (z 2)) := by
  idx_vars z
  unfold asF8
  generalize truncf .fp8e4m3 q bitsLt_fp8e4m3_bf16 = w
  pointwise []

/-- Stores of codes, tile by tile, fill the slot they address. -/
theorem slot8_tiles (i : grid0.Coords) (v : View sig κ sp S2x256x4864 .fp8e4m3) (f : v.ty.Contents (Elt F)) (P : ℕ → ℕ → FVec F S32x128 .bf16)
    (l : List (View.Piece (Elt F) S2x256x4864 .fp8e4m3)) :
    Slot8 (v.read (Elt F) (v.writes (Elt F) f (allTiles (fun b t => (⟨codeR i b t, asF8 (P b t)⟩ : View.Piece (Elt F) S2x256x4864 .fp8e4m3)) 8 ++ l)))
      (curSlot i) (spread fun b t => truncf .fp8e4m3 (P b t) bitsLt_fp8e4m3_bf16) := by
  intro y hy
  rw [View.writes_append]
  refine View.read_writes_apply_of_pieces (Val := Elt F) (e := .fp8e4m3) _ _ (fun y => spread (α := F .fp8e4m3) (fun b t => truncf .fp8e4m3 (P b t) bitsLt_fp8e4m3_bf16) (ix2 (y 1) (y 2))) _ ?_ y ?_
  · intro p hp
    obtain ⟨b, hb, t, ht, rfl⟩ := (mem_allTiles _ _ _).mp hp
    intro z
    refine (asF8_apply _ z).trans (spread_at (α := F .fp8e4m3) (fun b t => truncf .fp8e4m3 (P b t) bitsLt_fp8e4m3_bf16) b t (ix2 (z 1) (z 2)) _ ?_ ?_).symm
    · show b % 8 * 32 + 1 * (z 1).val = b * 32 + (z 1).val; omega
    · show t % 38 * 128 + 1 * (z 2).val = t * 128 + (z 2).val; omega
  · have h0 : (y 1).val < 256 := (y 1).isLt
    have h1 : (y 2).val < 4864 := (y 2).isLt
    refine ⟨_, (mem_allTiles _ _ _).mpr ⟨(y 1).val / 32, by omega, (y 2).val / 128, by omega, rfl⟩, ?_⟩
    refine (Rect.mem_set_unit (s := S2x256x4864) (inb := inb_code _ _ _)).mpr fun a => ?_
    match a with
    | ⟨0, _⟩ => show curSlot i ≤ (y 0).val ∧ (y 0).val < curSlot i + 1; omega
    | ⟨1, _⟩ => show (y 1).val / 32 % 8 * 32 ≤ (y 1).val ∧ (y 1).val < (y 1).val / 32 % 8 * 32 + 32; omega
    | ⟨2, _⟩ => show (y 2).val / 128 % 38 * 128 ≤ (y 2).val ∧ (y 2).val < (y 2).val / 128 % 38 * 128 + 128; omega

/-- Stores of lane-wide scales, row block by row block, likewise. -/
theorem slot32_tiles (i : grid0.Coords) (v : View sig κ sp S2x256x128 .f32) (f : v.ty.Contents (Elt F)) (P : ℕ → FVec F S32x128 .f32)
    (l : List (View.Piece (Elt F) S2x256x128 .f32)) :
    Slot32 (v.read (Elt F) (v.writes (Elt F) f
        (upto [] (fun b l => (⟨scaleR i b, shapeCast S1x32x128 (P b) shapeCasts_S32x128_S1x32x128⟩ : View.Piece (Elt F) S2x256x128 .f32) :: l) 8 ++ l)))
      (curSlot i) (spreadRows P) := by
  intro y hy
  rw [View.writes_append]
  refine View.read_writes_apply_of_pieces (Val := Elt F) (e := .f32) _ _ (fun y => spreadRows (α := F .f32) P (ix2 (y 1) (y 2))) _ ?_ y ?_
  · intro p hp
    obtain ⟨b, hb, rfl⟩ | h := (mem_upto_cons _ _ _ _).mp hp
    · intro z
      refine Eq.trans ?_ (spreadRows_at (α := F .f32) P b (ix2 (z 1) (z 2)) _ ?_ ?_).symm
      · idx_vars z
        show shapeCast S1x32x128 (P b) shapeCasts_S32x128_S1x32x128 _ = _
        generalize P b = w
        pointwise []
      · show b % 8 * 32 + 1 * (z 1).val = b * 32 + (z 1).val; omega
      · show 0 + 1 * (z 2).val = (z 2).val; omega
    · exact absurd h List.not_mem_nil
  · have h0 : (y 1).val < 256 := (y 1).isLt
    have h1 : (y 2).val < 128 := (y 2).isLt
    refine ⟨_, (mem_upto_cons _ _ _ _).mpr (.inl ⟨(y 1).val / 32, by omega, rfl⟩), ?_⟩
    refine (Rect.mem_set_unit (s := S2x256x128) (inb := inb_scale _ _)).mpr fun a => ?_
    match a with
    | ⟨0, _⟩ => show curSlot i ≤ (y 0).val ∧ (y 0).val < curSlot i + 1; omega
    | ⟨1, _⟩ => show (y 1).val / 32 % 8 * 32 ≤ (y 1).val ∧ (y 1).val < (y 1).val / 32 % 8 * 32 + 32; omega
    | ⟨2, _⟩ => show 0 ≤ (y 2).val ∧ (y 2).val < 0 + 128; omega

end stores

/-! ### The lists of `DxListA` and `DxListB`, read -/

section read
variable (i : grid0.Coords) (arg1 : Memref sig .tc .vmem S256x4864 .bf16) (harg1 : arg1.IsWhole) (arg13 : Memref sig .tc .vmem S2x32x4864 .f32)
  (x0 : Vec F S256x4864 .bf16) {κ : Kind} {sp : Space}

theorem read_qh (v : View sig κ sp S256x4864 .i8) (f : v.ty.Contents (Elt F)) :
    v.read (Elt F) (v.writes (Elt F) f (qhPieces (loadT arg1 harg1 x0))) = qhOf x0 := by
  rw [loadT_eq]
  exact read_tiles v f _

theorem read_ql (v : View sig κ sp S256x4864 .i8) (f : v.ty.Contents (Elt F)) :
    v.read (Elt F) (v.writes (Elt F) f (qlPieces (loadT arg1 harg1 x0) (backR arg1 harg1 arg13 x0))) = qlOf x0 := by
  have h : qlPieces (loadT arg1 harg1 x0) (backR arg1 harg1 arg13 x0) = qlPieces (tile x0) (kept (tile x0)) := by
    rw [loadT_eq]
    exact allTiles_congr _ _ (fun b t ht => by
      show qlPiece _ _ b t = qlPiece _ _ b t
      unfold qlPiece
      rw [backR_eq arg1 harg1 x0 arg13 b t ht]) 8
  rw [h]
  exact read_tiles v f _

theorem slot_fh (v : View sig κ sp S2x256x4864 .fp8e4m3) (f : v.ty.Contents (Elt F)) (l : List (View.Piece (Elt F) S2x256x4864 .fp8e4m3)) :
    Slot8 (v.read (Elt F) (v.writes (Elt F) f (fhPieces i (loadT arg1 harg1 x0) ++ l))) (curSlot i) (fhOf x0) := by
  rw [loadT_eq]
  exact slot8_tiles i v f _ l

theorem slot_fl (v : View sig κ sp S2x256x4864 .fp8e4m3) (f : v.ty.Contents (Elt F)) (l : List (View.Piece (Elt F) S2x256x4864 .fp8e4m3)) :
    Slot8 (v.read (Elt F) (v.writes (Elt F) f (flPieces i (loadT arg1 harg1 x0) (backR arg1 harg1 arg13 x0) ++ l))) (curSlot i) (flOf x0) := by
  have h : flPieces i (loadT arg1 harg1 x0) (backR arg1 harg1 arg13 x0) = flPieces i (tile x0) (kept (tile x0)) := by
    rw [loadT_eq]
    exact allTiles_congr _ _ (fun b t ht => by
      show flPiece _ _ _ b t = flPiece _ _ _ b t
      unfold flPiece
      rw [backR_eq arg1 harg1 x0 arg13 b t ht]) 8
  rw [h]
  exact slot8_tiles i v f _ l

theorem slot_sh (v : View sig κ sp S2x256x128 .f32) (f : v.ty.Contents (Elt F)) (l : List (View.Piece (Elt F) S2x256x128 .f32)) :
    Slot32 (v.read (Elt F) (v.writes (Elt F) f (shPieces i (loadT arg1 harg1 x0) ++ l))) (curSlot i) (shOf x0) := by
  rw [loadT_eq]
  exact slot32_tiles i v f _ l

theorem slot_sl (v : View sig κ sp S2x256x128 .f32) (f : v.ty.Contents (Elt F)) (l : List (View.Piece (Elt F) S2x256x128 .f32)) :
    Slot32 (v.read (Elt F) (v.writes (Elt F) f (slPieces i (loadT arg1 harg1 x0) ++ l))) (curSlot i) (slOf x0) := by
  rw [loadT_eq]
  exact slot32_tiles i v f _ l

/-- A store of the whole block leaves it. -/
theorem read_stat (v : View sig κ sp S1x8x256 .f32) (f : v.ty.Contents (Elt F)) (xp : Vec F S256x448 .i8) :
    v.read (Elt F) (v.writes (Elt F) f (statPieces (loadT arg1 harg1 x0) (backR arg1 harg1 arg13 x0) xp)) = statOf x0 xp := by
  rw [← statVec_eq arg1 harg1 x0 arg13 xp]
  funext y
  unfold statPieces
  refine View.read_writes_cons_hit_of_coords v f (Rect.unit (s := S1x8x256) ![0, 0, 0] S1x8x256.size inb_S1x8x256_S1x8x256_0_0_0) _ _ y y fun a => ?_
  match a with
  | ⟨0, _⟩ => exact ((Nat.zero_add _).trans (Nat.one_mul _)).symm
  | ⟨1, _⟩ => exact ((Nat.zero_add _).trans (Nat.one_mul _)).symm
  | ⟨2, _⟩ => exact ((Nat.zero_add _).trans (Nat.one_mul _)).symm

theorem read_dx (v : View sig κ sp S256x896 .bf16) (f : v.ty.Contents (Elt F)) (w : Vec F S4864x896 .fp8e4m3)
    (fh fl : Vec F S1x256x4864 .fp8e4m3) (sh sl : Vec F S1x256x128 .f32) (ws : Vec F S1x896 .f32) :
    v.read (Elt F) (v.writes (Elt F) f (dxPieces w fh fl sh sl ws)) = k0_pay6 w fh fl sh sl ws := by
  funext y
  unfold dxPieces
  refine View.read_writes_cons_hit_of_coords v f (Rect.unit (s := S256x896) ![0, 0] S256x896.size inb_S256x896_S256x896_0_0) _ _ y y fun a => ?_
  match a with
  | ⟨0, _⟩ => exact ((Nat.zero_add _).trans (Nat.one_mul _)).symm
  | ⟨1, _⟩ => exact ((Nat.zero_add _).trans (Nat.one_mul _)).symm

end read

/-! ### What is read of an operand -/

section operands

theorem load_xp (m : Memref sig .tc .vmem S256x448 .i8) (h : m.IsWhole) (x : Vec F S256x448 .i8) :
    View.readAt (Elt F) m.view (Rect.unit (s := S256x448) ![0, 0] S256x448.size inb_S256x448_S256x448_0_0).toLoadRect (h.unread x) = x := by
  funext z
  refine (h.readAt_unread x _ z).trans (congrArg x (funext fun a => Fin.ext ?_))
  match a with
  | ⟨0, _⟩ => exact (Nat.zero_add _).trans (Nat.one_mul _)
  | ⟨1, _⟩ => exact (Nat.zero_add _).trans (Nat.one_mul _)

theorem load_w (m : Memref sig .tc .vmem S4864x896 .fp8e4m3) (h : m.IsWhole) (x : Vec F S4864x896 .fp8e4m3) :
    View.readAt (Elt F) m.view (Rect.unit (s := S4864x896) ![0, 0] S4864x896.size inb_S4864x896_S4864x896_0_0).toLoadRect (h.unread x) = x := by
  funext z
  refine (h.readAt_unread x _ z).trans (congrArg x (funext fun a => Fin.ext ?_))
  match a with
  | ⟨0, _⟩ => exact (Nat.zero_add _).trans (Nat.one_mul _)
  | ⟨1, _⟩ => exact (Nat.zero_add _).trans (Nat.one_mul _)

theorem load_ws (m : Memref sig .tc .vmem S1x896 .f32) (h : m.IsWhole) (x : Vec F S1x896 .f32) :
    View.readAt (Elt F) m.view (Rect.unit (s := S1x896) ![0, 0] S1x896.size inb_S1x896_S1x896_0_0).toLoadRect (h.unread x) = x := by
  funext z
  refine (h.readAt_unread x _ z).trans (congrArg x (funext fun a => Fin.ext ?_))
  match a with
  | ⟨0, _⟩ => exact (Nat.zero_add _).trans (Nat.one_mul _)
  | ⟨1, _⟩ => exact (Nat.zero_add _).trans (Nat.one_mul _)

variable {off : Fin 3 → ℕ}

/-- A read of a slot of a carried scratch finds what the slot holds. -/
theorem load_slot8 (k : ℕ) (ho : off = ![k, 0, 0]) (inb : ∀ a, off a + S1x256x4864.size a ≤ S2x256x4864.size a) (m : Memref sig .tc .vmem S2x256x4864 .fp8e4m3) (h : m.IsWhole)
    (d : Vec F S2x256x4864 .fp8e4m3) (g : Vec F S256x4864 .fp8e4m3) (hs : Slot8 d k g) :
    View.readAt (Elt F) m.view (Rect.unit (s := S2x256x4864) off S1x256x4864.size inb).toLoadRect (h.unread d) = lift8 g := by
  subst ho
  funext z
  have hz : (z 0).val < 1 := (z 0).isLt
  refine (h.readAt_unread d _ z).trans ((hs _ ?_).trans (congrArg g (congrArg₂ ix2 (Fin.ext ?_) (Fin.ext ?_))))
  · show k + 1 * (z 0).val = k; omega
  · exact (Nat.zero_add _).trans (Nat.one_mul _)
  · exact (Nat.zero_add _).trans (Nat.one_mul _)

theorem load_slot32 (k : ℕ) (ho : off = ![k, 0, 0]) (inb : ∀ a, off a + S1x256x128.size a ≤ S2x256x128.size a) (m : Memref sig .tc .vmem S2x256x128 .f32) (h : m.IsWhole)
    (d : Vec F S2x256x128 .f32) (g : Vec F S256x128 .f32) (hs : Slot32 d k g) :
    View.readAt (Elt F) m.view (Rect.unit (s := S2x256x128) off S1x256x128.size inb).toLoadRect (h.unread d) = lift32 g := by
  subst ho
  funext z
  have hz : (z 0).val < 1 := (z 0).isLt
  refine (h.readAt_unread d _ z).trans ((hs _ ?_).trans (congrArg g (congrArg₂ ix2 (Fin.ext ?_) (Fin.ext ?_))))
  · show k + 1 * (z 0).val = k; omega
  · exact (Nat.zero_add _).trans (Nat.one_mul _)
  · exact (Nat.zero_add _).trans (Nat.one_mul _)

/-- A read of slot 1 right after a store to it finds what was stored. -/
theorem load_fresh8 (ho : off = ![1, 0, 0]) (inb : ∀ a, off a + S1x256x4864.size a ≤ S2x256x4864.size a)
    (m : Memref sig .tc .vmem S2x256x4864 .fp8e4m3) (f : m.view.ty.Contents (Elt F)) (g : Vec F S1x256x4864 .fp8e4m3) :
    View.readAt (Elt F) m.view (Rect.unit (s := S2x256x4864) off S1x256x4864.size inb).toLoadRect (m.view.writes (Elt F) f
      [⟨Rect.unit (s := S2x256x4864) ![1, 0, 0] S1x256x4864.size inb_S2x256x4864_S1x256x4864_1_0_0, g⟩]) = g := by
  subst ho
  funext z
  rw [View.readAt_apply]
  exact View.read_writes_cons_emb m.view f (Rect.unit (s := S2x256x4864) ![1, 0, 0] S1x256x4864.size inb_S2x256x4864_S1x256x4864_1_0_0) g [] z

theorem load_fresh32 (ho : off = ![1, 0, 0]) (inb : ∀ a, off a + S1x256x128.size a ≤ S2x256x128.size a)
    (m : Memref sig .tc .vmem S2x256x128 .f32) (f : m.view.ty.Contents (Elt F)) (g : Vec F S1x256x128 .f32) :
    View.readAt (Elt F) m.view (Rect.unit (s := S2x256x128) off S1x256x128.size inb).toLoadRect (m.view.writes (Elt F) f
      [⟨Rect.unit (s := S2x256x128) ![1, 0, 0] S1x256x128.size inb_S2x256x128_S1x256x128_1_0_0, g⟩]) = g := by
  subst ho
  funext z
  rw [View.readAt_apply]
  exact View.read_writes_cons_emb m.view f (Rect.unit (s := S2x256x128) ![1, 0, 0] S1x256x128.size inb_S2x256x128_S1x256x128_1_0_0) g [] z

end operands

end Cert.KDxIdeal.Dx

end
-- ==== Proof.DxStep.lean ====
/-
  One grid step of the quantising call, in closed form: from the incoming block and what the step before left, to the four output blocks and the
  slot it leaves for the next step.
-/
module

public import proofs.«01_k».proof.Proof.DxTiles
public import proofs.«01_k».proof.Proof.DxClosed

@[expose] public section

set_option maxRecDepth 16384

noncomputable section

namespace Cert.KDxIdeal.Dx

open Cert.KDxIdeal Cert.KDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Slot `k` of the four carried scratches holds the codes and scales of the block `x`. -/
def Slots (k : ℕ) (x : Vec F S256x4864 .bf16) (d0 d1 : Vec F S2x256x4864 .fp8e4m3) (d2 d3 : Vec F S2x256x128 .f32) : Prop :=
  Slot8 d0 k (fhOf x) ∧ Slot8 d1 k (flOf x) ∧ Slot32 d2 k (shOf x) ∧ Slot32 d3 k (slOf x)

/-- A buffer left by stores which read as `G` is owned at `G`. -/
theorem owns_of_writes (c : Dev nD) {s : Shape} {e : EltTy} (m : Memref sig .tc .vmem s e) (L : List (View.Piece (Elt F) s e)) (G : s.Idx → Elt F e)
    (h : ∀ f, m.view.read (Elt F) (m.view.writes (Elt F) f L) = G) :
    iprop(∃ f, m.view.loc (c : Thread nD τ) ↦[m.view.set]{fullShare} m.view.writes (Elt F) f L) ⊢ (owns (c : Thread nD τ) m fullShare G : sProp 𝕄) := by
  unfold owns
  iintro ⟨%f, H⟩
  iexists _
  isplitr; · ipureintro; exact h f
  iexact H

theorem owns_of_buf (c : Dev nD) {s : Shape} {e : EltTy} (m : Memref sig .tc .vmem s e) (f : m.view.ty.Contents (Elt F)) :
    iprop(m.view.loc (c : Thread nD τ) ↦[m.view.set]{fullShare} f) ⊢ (owns (c : Thread nD τ) m fullShare (m.view.read (Elt F) f) : sProp 𝕄) := by
  unfold owns
  iintro H
  iexists _
  isplitr; · ipureintro; rfl
  iexact H

/-- From the pieces the stores leave to what they read as, `W` any assertion of the continuation. -/
theorem finish (c : Dev nD) (arg1 : Memref sig .tc .vmem S256x4864 .bf16) (harg1 : arg1.IsWhole) (arg2 : Memref sig .tc .vmem S256x448 .i8) (harg2 : arg2.IsWhole) (arg3 : Memref sig .tc .vmem S4864x896 .fp8e4m3) (harg3 : arg3.IsWhole) (arg4 : Memref sig .tc .vmem S1x896 .f32) (harg4 : arg4.IsWhole) (arg5 : Memref sig .tc .vmem S256x896 .bf16) (harg5 : arg5.IsWhole) (arg6 : Memref sig .tc .vmem S256x4864 .i8) (harg6 : arg6.IsWhole) (arg7 : Memref sig .tc .vmem S256x4864 .i8) (harg7 : arg7.IsWhole) (arg8 : Memref sig .tc .vmem S1x8x256 .f32) (harg8 : arg8.IsWhole) (arg9 : Memref sig .tc .vmem S2x256x4864 .fp8e4m3) (harg9 : arg9.IsWhole) (arg10 : Memref sig .tc .vmem S2x256x4864 .fp8e4m3) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x32x4864 .f32) (harg13 : arg13.IsWhole)
    (x0 : Vec F S256x4864 .bf16) (x1 : Vec F S256x448 .i8) (x2 : Vec F S4864x896 .fp8e4m3) (x3 : Vec F S1x896 .f32) (xs0 : Vec F S2x256x4864 .fp8e4m3) (xs1 : Vec F S2x256x4864 .fp8e4m3) (xs2 : Vec F S2x256x128 .f32) (xs3 : Vec F S2x256x128 .f32)
    (W : (PUnit → sProp 𝕄) → sProp 𝕄) (L4 : List (View.Piece (Elt F) S256x896 .bf16)) (L5 : List (View.Piece (Elt F) S256x4864 .i8)) (L6 : List (View.Piece (Elt F) S256x4864 .i8)) (L7 : List (View.Piece (Elt F) S1x8x256 .f32)) (T0 : List (View.Piece (Elt F) S2x256x4864 .fp8e4m3)) (T1 : List (View.Piece (Elt F) S2x256x4864 .fp8e4m3)) (T2 : List (View.Piece (Elt F) S2x256x128 .f32)) (T3 : List (View.Piece (Elt F) S2x256x128 .f32))
    (G4 : Vec F S256x896 .bf16) (G5 G6 : Vec F S256x4864 .i8) (G7 : Vec F S1x8x256 .f32)
    (S : Vec F S2x256x4864 .fp8e4m3 → Vec F S2x256x4864 .fp8e4m3 → Vec F S2x256x128 .f32 → Vec F S2x256x128 .f32 → Prop)
    (h4 : ∀ f, arg5.view.read (Elt F) (arg5.view.writes (Elt F) f L4) = G4) (h5 : ∀ f, arg6.view.read (Elt F) (arg6.view.writes (Elt F) f L5) = G5)
    (h6 : ∀ f, arg7.view.read (Elt F) (arg7.view.writes (Elt F) f L6) = G6) (h7 : ∀ f, arg8.view.read (Elt F) (arg8.view.writes (Elt F) f L7) = G7)
    (hS : S (arg9.view.read (Elt F) (arg9.view.writes (Elt F) (harg9.unread xs0) T0)) (arg10.view.read (Elt F) (arg10.view.writes (Elt F) (harg10.unread xs1) T1))
      (arg11.view.read (Elt F) (arg11.view.writes (Elt F) (harg11.unread xs2) T2)) (arg12.view.read (Elt F) (arg12.view.writes (Elt F) (harg12.unread xs3) T3)))
    (K : PUnit → sProp 𝕄)
    (P : iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread xs0) T0) ∗ (arg10.view.loc (c : Thread nD τ) ↦[arg10.view.set]{fullShare} arg10.view.writes (Elt F) (harg10.unread xs1) T1) ∗ (arg11.view.loc (c : Thread nD τ) ↦[arg11.view.set]{fullShare} arg11.view.writes (Elt F) (harg11.unread xs2) T2) ∗ (arg12.view.loc (c : Thread nD τ) ↦[arg12.view.set]{fullShare} arg12.view.writes (Elt F) (harg12.unread xs3) T3) ∗ (∃ d, owns (c : Thread nD τ) arg13 fullShare d)) -∗ K ⟨⟩)) ⊢ W K) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare G4 ∗ owns (c : Thread nD τ) arg6 fullShare G5 ∗ owns (c : Thread nD τ) arg7 fullShare G6 ∗ owns (c : Thread nD τ) arg8 fullShare G7 ∗ (∃ d0 d1 d2 d3, ⌜S d0 d1 d2 d3⌝ ∗ owns (c : Thread nD τ) arg9 fullShare d0 ∗ owns (c : Thread nD τ) arg10 fullShare d1 ∗ owns (c : Thread nD τ) arg11 fullShare d2 ∗ owns (c : Thread nD τ) arg12 fullShare d3) ∗ (∃ d, owns (c : Thread nD τ) arg13 fullShare d)) -∗ K ⟨⟩)) ⊢ W K := by
  refine BIBase.Entails.trans ?_ P
  iintro ⟨H0, H1, H2, H3, H4, H5, H6, H7, HS0, HS1, HS2, HS3, HS4, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  iapply Hk
  isplitl [H0]; · iexact H0
  isplitl [H1]; · iexact H1
  isplitl [H2]; · iexact H2
  isplitl [H3]; · iexact H3
  isplitl [H4]; · iapply (owns_of_writes c arg5 _ _ h4); iexact H4
  isplitl [H5]; · iapply (owns_of_writes c arg6 _ _ h5); iexact H5
  isplitl [H6]; · iapply (owns_of_writes c arg7 _ _ h6); iexact H6
  isplitl [H7]; · iapply (owns_of_writes c arg8 _ _ h7); iexact H7
  isplitr [HS4]
  · iexists _, _, _, _
    isplitr; · ipureintro; exact hS
    isplitl [HS0]; · iapply (owns_of_buf c arg9); iexact HS0
    isplitl [HS1]; · iapply (owns_of_buf c arg10); iexact HS1
    isplitl [HS2]; · iapply (owns_of_buf c arg11); iexact HS2
    iapply (owns_of_buf c arg12); iexact HS3
  iexact HS4

end Cert.KDxIdeal.Dx

end
-- ==== Proof.DxStepA.lean ====
/-
  One grid step of the quantising call in closed form: the first step.
-/
module

public import proofs.«01_k».proof.Proof.DxListA
public import proofs.«01_k».proof.Proof.DxStep

@[expose] public section

set_option maxRecDepth 16384

noncomputable section

namespace Cert.KDxIdeal.Dx

open Cert.KDxIdeal Cert.KDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section A

variable (c : Dev nD) (i : grid0.Coords) (arg1 : Memref sig .tc .vmem S256x4864 .bf16) (harg1 : arg1.IsWhole) (arg2 : Memref sig .tc .vmem S256x448 .i8) (harg2 : arg2.IsWhole) (arg3 : Memref sig .tc .vmem S4864x896 .fp8e4m3) (harg3 : arg3.IsWhole) (arg4 : Memref sig .tc .vmem S1x896 .f32) (harg4 : arg4.IsWhole) (arg5 : Memref sig .tc .vmem S256x896 .bf16) (harg5 : arg5.IsWhole) (arg6 : Memref sig .tc .vmem S256x4864 .i8) (harg6 : arg6.IsWhole) (arg7 : Memref sig .tc .vmem S256x4864 .i8) (harg7 : arg7.IsWhole) (arg8 : Memref sig .tc .vmem S1x8x256 .f32) (harg8 : arg8.IsWhole) (arg9 : Memref sig .tc .vmem S2x256x4864 .fp8e4m3) (harg9 : arg9.IsWhole) (arg10 : Memref sig .tc .vmem S2x256x4864 .fp8e4m3) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x32x4864 .f32) (harg13 : arg13.IsWhole) (hc0 : cond0_0 i) (x0 : Vec F S256x4864 .bf16) (x1 : Vec F S256x448 .i8) (x2 : Vec F S4864x896 .fp8e4m3) (x3 : Vec F S1x896 .f32) (xs0 : Vec F S2x256x4864 .fp8e4m3) (xs1 : Vec F S2x256x4864 .fp8e4m3) (xs2 : Vec F S2x256x128 .f32) (xs3 : Vec F S2x256x128 .f32)

theorem stepA_dx (ho1 : k0_off1 i = ![1, 0, 0]) (ho2 : k0_off2 i = ![1, 0, 0]) (f : arg5.view.ty.Contents (Elt F)) :
    arg5.view.read (Elt F) (arg5.view.writes (Elt F) f (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).1) = k0_pay6 x2 k0_pay2 k0_pay3 k0_pay4 k0_pay5 x3 := by
  rw [runA_dx, read_dx, load_w, load_ws, load_fresh8 ho1, load_fresh8 ho1, load_fresh32 ho2, load_fresh32 ho2]

theorem stepA_qh (f : arg6.view.ty.Contents (Elt F)) : arg6.view.read (Elt F) (arg6.view.writes (Elt F) f (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.1) = qhOf x0 := by
  rw [runA_qh]; exact read_qh arg1 harg1 x0 arg6.view f

theorem stepA_ql (f : arg7.view.ty.Contents (Elt F)) : arg7.view.read (Elt F) (arg7.view.writes (Elt F) f (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.1) = qlOf x0 := by
  rw [runA_ql]; exact read_ql arg1 harg1 arg13 x0 arg7.view f

theorem stepA_stat (f : arg8.view.ty.Contents (Elt F)) : arg8.view.read (Elt F) (arg8.view.writes (Elt F) f (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.1) = statOf x0 x1 := by
  rw [runA_stat, load_xp]; exact read_stat arg1 harg1 arg13 x0 arg8.view f x1

theorem stepA_fh : Slot8 (arg9.view.read (Elt F) (arg9.view.writes (Elt F) (harg9.unread xs0) (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.1)) (curSlot i) (fhOf x0) := by
  rw [runA_fh]; exact slot_fh i arg1 harg1 x0 arg9.view (harg9.unread xs0) _

theorem stepA_fl : Slot8 (arg10.view.read (Elt F) (arg10.view.writes (Elt F) (harg10.unread xs1) (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.1)) (curSlot i) (flOf x0) := by
  rw [runA_fl]; exact slot_fl i arg1 harg1 arg13 x0 arg10.view (harg10.unread xs1) _

theorem stepA_sh : Slot32 (arg11.view.read (Elt F) (arg11.view.writes (Elt F) (harg11.unread xs2) (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.1)) (curSlot i) (shOf x0) := by
  rw [runA_sh]; exact slot_sh i arg1 harg1 x0 arg11.view (harg11.unread xs2) _

theorem stepA_sl : Slot32 (arg12.view.read (Elt F) (arg12.view.writes (Elt F) (harg12.unread xs3) (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.2.val)) (curSlot i) (slOf x0) := by
  rw [runA_sl]; exact slot_sl i arg1 harg1 x0 arg12.view (harg12.unread xs3) _

include hc0 in
/-- The first step: slot 1 is cleared first, and the block of `dx` is made from that. -/
theorem stepA (ho1 : k0_off1 i = ![1, 0, 0]) (ho2 : k0_off2 i = ![1, 0, 0]) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay6 x2 k0_pay2 k0_pay3 k0_pay4 k0_pay5 x3) ∗ owns (c : Thread nD τ) arg6 fullShare (qhOf x0) ∗ owns (c : Thread nD τ) arg7 fullShare (qlOf x0) ∗ owns (c : Thread nD τ) arg8 fullShare (statOf x0 x1) ∗ (∃ d0 d1 d2 d3, ⌜Slots (curSlot i) x0 d0 d1 d2 d3⌝ ∗ owns (c : Thread nD τ) arg9 fullShare d0 ∗ owns (c : Thread nD τ) arg10 fullShare d1 ∗ owns (c : Thread nD τ) arg11 fullShare d2 ∗ owns (c : Thread nD τ) arg12 fullShare d3) ∗ (∃ d, owns (c : Thread nD τ) arg13 fullShare d)) -∗ K ⟨⟩))
      ⊢ wp frame (wpE (defs₀ (F := F)) Variants.none c none) E (cc0_quant_dx i arg1 harg1 arg2 harg2 arg3 harg3 arg4 harg4 arg5 harg5 arg6 harg6 arg7 harg7 arg8 harg8 arg9 harg9 arg10 harg10 arg11 harg11 arg12 harg12 arg13 harg13) K :=
  finish c arg1 harg1 arg2 harg2 arg3 harg3 arg4 harg4 arg5 harg5 arg6 harg6 arg7 harg7 arg8 harg8 arg9 harg9 arg10 harg10 arg11 harg11 arg12 harg12 arg13 harg13 x0 x1 x2 x3 xs0 xs1 xs2 xs3
    (fun K => wp frame (wpE (defs₀ (F := F)) Variants.none c none) E (cc0_quant_dx i arg1 harg1 arg2 harg2 arg3 harg3 arg4 harg4 arg5 harg5 arg6 harg6 arg7 harg7 arg8 harg8 arg9 harg9 arg10 harg10 arg11 harg11 arg12 harg12 arg13 harg13) K)
    (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).1 (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.1
    (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.1 (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.1
    (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.1 (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.1
    (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.1 (runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.2.val
    _ _ _ _ (Slots (curSlot i) x0)
    (fun f => stepA_dx c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3 ho1 ho2 f) (fun f => stepA_qh c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3 f) (fun f => stepA_ql c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3 f) (fun f => stepA_stat c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3 f)
    ⟨stepA_fh c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3, stepA_fl c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3, stepA_sh c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3, stepA_sl c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3⟩
    K ((runA c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.2.property E K)

end A

end Cert.KDxIdeal.Dx

end
-- ==== Proof.DxRunB.lean ====
/-
  The whole body of the quantising call, executed once in case B (the first grid step is case A, every later one case B): what the body's stores
  leave, as lists of pieces, in the four output blocks and in the four scratch operands that carry the pipeline from one step to the next.
-/
module

public import proofs.«01_k».proof.Proof.DxKit

@[expose] public section

set_option maxRecDepth 16384

noncomputable section

namespace Cert.KDxIdeal.Dx

open Cert.KDxIdeal Cert.KDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 25852000 in
/-- The pieces the body's stores leave in case B, last first, WITH the proof that the body runs from its operands to a state holding them: the inputs
    unchanged, each output block its pieces over some contents, each carried scratch its pieces over the contents it came with. -/
noncomputable def runB (c : Dev nD) (i : grid0.Coords) (arg1 : Memref sig .tc .vmem S256x4864 .bf16) (harg1 : arg1.IsWhole) (arg2 : Memref sig .tc .vmem S256x448 .i8) (harg2 : arg2.IsWhole) (arg3 : Memref sig .tc .vmem S4864x896 .fp8e4m3) (harg3 : arg3.IsWhole) (arg4 : Memref sig .tc .vmem S1x896 .f32) (harg4 : arg4.IsWhole) (arg5 : Memref sig .tc .vmem S256x896 .bf16) (harg5 : arg5.IsWhole) (arg6 : Memref sig .tc .vmem S256x4864 .i8) (harg6 : arg6.IsWhole) (arg7 : Memref sig .tc .vmem S256x4864 .i8) (harg7 : arg7.IsWhole) (arg8 : Memref sig .tc .vmem S1x8x256 .f32) (harg8 : arg8.IsWhole) (arg9 : Memref sig .tc .vmem S2x256x4864 .fp8e4m3) (harg9 : arg9.IsWhole) (arg10 : Memref sig .tc .vmem S2x256x4864 .fp8e4m3) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x32x4864 .f32) (harg13 : arg13.IsWhole) (hc0 : ¬cond0_0 i)
    (x0 : Vec F S256x4864 .bf16) (x1 : Vec F S256x448 .i8) (x2 : Vec F S4864x896 .fp8e4m3) (x3 : Vec F S1x896 .f32)
    (xs0 : Vec F S2x256x4864 .fp8e4m3) (xs1 : Vec F S2x256x4864 .fp8e4m3) (xs2 : Vec F S2x256x128 .f32) (xs3 : Vec F S2x256x128 .f32) :
    Σ' (L4 : List (View.Piece (Elt F) S256x896 .bf16)) (L5 : List (View.Piece (Elt F) S256x4864 .i8)) (L6 : List (View.Piece (Elt F) S256x4864 .i8)) (L7 : List (View.Piece (Elt F) S1x8x256 .f32)) (T0 : List (View.Piece (Elt F) S2x256x4864 .fp8e4m3)) (T1 : List (View.Piece (Elt F) S2x256x4864 .fp8e4m3)) (T2 : List (View.Piece (Elt F) S2x256x128 .f32)) , { T3 : List (View.Piece (Elt F) S2x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread xs0) T0) ∗ (arg10.view.loc (c : Thread nD τ) ↦[arg10.view.set]{fullShare} arg10.view.writes (Elt F) (harg10.unread xs1) T1) ∗ (arg11.view.loc (c : Thread nD τ) ↦[arg11.view.set]{fullShare} arg11.view.writes (Elt F) (harg11.unread xs2) T2) ∗ (arg12.view.loc (c : Thread nD τ) ↦[arg12.view.set]{fullShare} arg12.view.writes (Elt F) (harg12.unread xs3) T3) ∗ (∃ d, owns (c : Thread nD τ) arg13 fullShare d)) -∗ K ⟨⟩))
          ⊢ wp frame (wpE (defs₀ (F := F)) Variants.none c none) E (cc0_quant_dx i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc0_quant_dx_eq_skeleton]; unfold cc0_quant_dx_skel
    simp only [k0_part401_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part402_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part403_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part404_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part405_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part406_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part407_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1; obtain rfl := harg11.eq_unread hfs2; obtain rfl := harg12.eq_unread hfs3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iexists _, _; isplitr; swap; · iexact HS4
    ipureintro; rfl

end Cert.KDxIdeal.Dx

end
-- ==== Proof.DxListB.lean ====
/-
  The stores of the quantising call's body in case B are the loops' stores: by unfolding both.
-/
module

public import proofs.«01_k».proof.Proof.DxRunB
public import proofs.«01_k».proof.Proof.DxTiles

@[expose] public section

set_option maxRecDepth 16384

noncomputable section

namespace Cert.KDxIdeal.Dx

open Cert.KDxIdeal Cert.KDxIdeal.Gen Idealize.ShloMosaic Idealize.ShloMosaic.TcCoe Idealize.ShloMosaic.Tactic

variable {F : FTy → Type} [FloatOps F]

variable (c : Dev nD) (i : grid0.Coords) (arg1 : Memref sig .tc .vmem S256x4864 .bf16) (harg1 : arg1.IsWhole) (arg2 : Memref sig .tc .vmem S256x448 .i8) (harg2 : arg2.IsWhole) (arg3 : Memref sig .tc .vmem S4864x896 .fp8e4m3) (harg3 : arg3.IsWhole) (arg4 : Memref sig .tc .vmem S1x896 .f32) (harg4 : arg4.IsWhole) (arg5 : Memref sig .tc .vmem S256x896 .bf16) (harg5 : arg5.IsWhole) (arg6 : Memref sig .tc .vmem S256x4864 .i8) (harg6 : arg6.IsWhole) (arg7 : Memref sig .tc .vmem S256x4864 .i8) (harg7 : arg7.IsWhole) (arg8 : Memref sig .tc .vmem S1x8x256 .f32) (harg8 : arg8.IsWhole) (arg9 : Memref sig .tc .vmem S2x256x4864 .fp8e4m3) (harg9 : arg9.IsWhole) (arg10 : Memref sig .tc .vmem S2x256x4864 .fp8e4m3) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x32x4864 .f32) (harg13 : arg13.IsWhole) (hc0 : ¬cond0_0 i) (x0 : Vec F S256x4864 .bf16) (x1 : Vec F S256x448 .i8) (x2 : Vec F S4864x896 .fp8e4m3) (x3 : Vec F S1x896 .f32) (xs0 : Vec F S2x256x4864 .fp8e4m3) (xs1 : Vec F S2x256x4864 .fp8e4m3) (xs2 : Vec F S2x256x128 .f32) (xs3 : Vec F S2x256x128 .f32)

theorem runB_qh : (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.1
    = qhPieces (loadT arg1 harg1 x0) := by sl_kernel_rfl

theorem runB_fh : (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.1
    = fhPieces i (loadT arg1 harg1 x0) := by sl_kernel_rfl

theorem runB_sh : (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.1
    = shPieces i (loadT arg1 harg1 x0) := by sl_kernel_rfl

theorem runB_sl : (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.2.val
    = slPieces i (loadT arg1 harg1 x0) := by sl_kernel_rfl

theorem runB_ql : (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.1
    = qlPieces (loadT arg1 harg1 x0) (backR arg1 harg1 arg13 x0) := by sl_kernel_rfl

theorem runB_fl : (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.1
    = flPieces i (loadT arg1 harg1 x0) (backR arg1 harg1 arg13 x0) := by sl_kernel_rfl

theorem runB_stat : (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.1
    = statPieces (loadT arg1 harg1 x0) (backR arg1 harg1 arg13 x0)
      (View.readAt (Elt F) arg2.view (Rect.unit (s := S256x448) ![0, 0] S256x448.size inb_S256x448_S256x448_0_0).toLoadRect (harg2.unread x1)) := by sl_kernel_rfl

theorem runB_dx : (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).1
    = dxPieces (View.readAt (Elt F) arg3.view (Rect.unit (s := S4864x896) ![0, 0] S4864x896.size inb_S4864x896_S4864x896_0_0).toLoadRect (harg3.unread x2))
      (View.readAt (Elt F) arg9.view (Rect.unit (s := S2x256x4864) (k0_off1 i) S1x256x4864.size (k0_off1_inb i)).toLoadRect (harg9.unread xs0))
      (View.readAt (Elt F) arg10.view (Rect.unit (s := S2x256x4864) (k0_off1 i) S1x256x4864.size (k0_off1_inb i)).toLoadRect (harg10.unread xs1))
      (View.readAt (Elt F) arg11.view (Rect.unit (s := S2x256x128) (k0_off2 i) S1x256x128.size (k0_off2_inb i)).toLoadRect (harg11.unread xs2))
      (View.readAt (Elt F) arg12.view (Rect.unit (s := S2x256x128) (k0_off2 i) S1x256x128.size (k0_off2_inb i)).toLoadRect (harg12.unread xs3))
      (View.readAt (Elt F) arg4.view (Rect.unit (s := S1x896) ![0, 0] S1x896.size inb_S1x896_S1x896_0_0).toLoadRect (harg4.unread x3)) := by sl_kernel_rfl

end Cert.KDxIdeal.Dx

end
-- ==== Proof.DxStepB.lean ====
/-
  One grid step of the quantising call in closed form: a later step.
-/
module

public import proofs.«01_k».proof.Proof.DxListB
public import proofs.«01_k».proof.Proof.DxStep

@[expose] public section

set_option maxRecDepth 16384

noncomputable section

namespace Cert.KDxIdeal.Dx

open Cert.KDxIdeal Cert.KDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section B

variable (c : Dev nD) (i : grid0.Coords) (arg1 : Memref sig .tc .vmem S256x4864 .bf16) (harg1 : arg1.IsWhole) (arg2 : Memref sig .tc .vmem S256x448 .i8) (harg2 : arg2.IsWhole) (arg3 : Memref sig .tc .vmem S4864x896 .fp8e4m3) (harg3 : arg3.IsWhole) (arg4 : Memref sig .tc .vmem S1x896 .f32) (harg4 : arg4.IsWhole) (arg5 : Memref sig .tc .vmem S256x896 .bf16) (harg5 : arg5.IsWhole) (arg6 : Memref sig .tc .vmem S256x4864 .i8) (harg6 : arg6.IsWhole) (arg7 : Memref sig .tc .vmem S256x4864 .i8) (harg7 : arg7.IsWhole) (arg8 : Memref sig .tc .vmem S1x8x256 .f32) (harg8 : arg8.IsWhole) (arg9 : Memref sig .tc .vmem S2x256x4864 .fp8e4m3) (harg9 : arg9.IsWhole) (arg10 : Memref sig .tc .vmem S2x256x4864 .fp8e4m3) (harg10 : arg10.IsWhole) (arg11 : Memref sig .tc .vmem S2x256x128 .f32) (harg11 : arg11.IsWhole) (arg12 : Memref sig .tc .vmem S2x256x128 .f32) (harg12 : arg12.IsWhole) (arg13 : Memref sig .tc .vmem S2x32x4864 .f32) (harg13 : arg13.IsWhole) (hc0 : ¬cond0_0 i) (x0 : Vec F S256x4864 .bf16) (x1 : Vec F S256x448 .i8) (x2 : Vec F S4864x896 .fp8e4m3) (x3 : Vec F S1x896 .f32) (xs0 : Vec F S2x256x4864 .fp8e4m3) (xs1 : Vec F S2x256x4864 .fp8e4m3) (xs2 : Vec F S2x256x128 .f32) (xs3 : Vec F S2x256x128 .f32)

theorem stepB_dx (p : ℕ) (ho1 : k0_off1 i = ![p, 0, 0]) (ho2 : k0_off2 i = ![p, 0, 0]) (g : Vec F S256x4864 .bf16) (hg : Slots p g xs0 xs1 xs2 xs3) (f : arg5.view.ty.Contents (Elt F)) :
    arg5.view.read (Elt F) (arg5.view.writes (Elt F) f (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).1) = k0_pay6 x2 (lift8 (fhOf g)) (lift8 (flOf g)) (lift32 (shOf g)) (lift32 (slOf g)) x3 := by
  rw [runB_dx, read_dx, load_w, load_ws, load_slot8 p ho1 _ arg9 harg9 xs0 (fhOf g) hg.1, load_slot8 p ho1 _ arg10 harg10 xs1 (flOf g) hg.2.1,
      load_slot32 p ho2 _ arg11 harg11 xs2 (shOf g) hg.2.2.1, load_slot32 p ho2 _ arg12 harg12 xs3 (slOf g) hg.2.2.2]

theorem stepB_qh (f : arg6.view.ty.Contents (Elt F)) : arg6.view.read (Elt F) (arg6.view.writes (Elt F) f (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.1) = qhOf x0 := by
  rw [runB_qh]; exact read_qh arg1 harg1 x0 arg6.view f

theorem stepB_ql (f : arg7.view.ty.Contents (Elt F)) : arg7.view.read (Elt F) (arg7.view.writes (Elt F) f (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.1) = qlOf x0 := by
  rw [runB_ql]; exact read_ql arg1 harg1 arg13 x0 arg7.view f

theorem stepB_stat (f : arg8.view.ty.Contents (Elt F)) : arg8.view.read (Elt F) (arg8.view.writes (Elt F) f (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.1) = statOf x0 x1 := by
  rw [runB_stat, load_xp]; exact read_stat arg1 harg1 arg13 x0 arg8.view f x1

theorem stepB_fh : Slot8 (arg9.view.read (Elt F) (arg9.view.writes (Elt F) (harg9.unread xs0) (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.1)) (curSlot i) (fhOf x0) := by
  rw [runB_fh, ← List.append_nil (fhPieces i (loadT arg1 harg1 x0))]; exact slot_fh i arg1 harg1 x0 arg9.view (harg9.unread xs0) []

theorem stepB_fl : Slot8 (arg10.view.read (Elt F) (arg10.view.writes (Elt F) (harg10.unread xs1) (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.1)) (curSlot i) (flOf x0) := by
  rw [runB_fl, ← List.append_nil (flPieces i (loadT arg1 harg1 x0) (backR arg1 harg1 arg13 x0))]; exact slot_fl i arg1 harg1 arg13 x0 arg10.view (harg10.unread xs1) []

theorem stepB_sh : Slot32 (arg11.view.read (Elt F) (arg11.view.writes (Elt F) (harg11.unread xs2) (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.1)) (curSlot i) (shOf x0) := by
  rw [runB_sh, ← List.append_nil (shPieces i (loadT arg1 harg1 x0))]; exact slot_sh i arg1 harg1 x0 arg11.view (harg11.unread xs2) []

theorem stepB_sl : Slot32 (arg12.view.read (Elt F) (arg12.view.writes (Elt F) (harg12.unread xs3) (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.2.val)) (curSlot i) (slOf x0) := by
  rw [runB_sl, ← List.append_nil (slPieces i (loadT arg1 harg1 x0))]; exact slot_sl i arg1 harg1 x0 arg12.view (harg12.unread xs3) []

include hc0 in
/-- A later step: the block of `dx` is made from the codes and scales which the step before left in slot `p`, and slot `curSlot i` is left holding this
    block's. -/
theorem stepB (p : ℕ) (ho1 : k0_off1 i = ![p, 0, 0]) (ho2 : k0_off2 i = ![p, 0, 0]) (g : Vec F S256x4864 .bf16) (hg : Slots p g xs0 xs1 xs2 xs3) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay6 x2 (lift8 (fhOf g)) (lift8 (flOf g)) (lift32 (shOf g)) (lift32 (slOf g)) x3) ∗ owns (c : Thread nD τ) arg6 fullShare (qhOf x0) ∗ owns (c : Thread nD τ) arg7 fullShare (qlOf x0) ∗ owns (c : Thread nD τ) arg8 fullShare (statOf x0 x1) ∗ (∃ d0 d1 d2 d3, ⌜Slots (curSlot i) x0 d0 d1 d2 d3⌝ ∗ owns (c : Thread nD τ) arg9 fullShare d0 ∗ owns (c : Thread nD τ) arg10 fullShare d1 ∗ owns (c : Thread nD τ) arg11 fullShare d2 ∗ owns (c : Thread nD τ) arg12 fullShare d3) ∗ (∃ d, owns (c : Thread nD τ) arg13 fullShare d)) -∗ K ⟨⟩))
      ⊢ wp frame (wpE (defs₀ (F := F)) Variants.none c none) E (cc0_quant_dx i arg1 harg1 arg2 harg2 arg3 harg3 arg4 harg4 arg5 harg5 arg6 harg6 arg7 harg7 arg8 harg8 arg9 harg9 arg10 harg10 arg11 harg11 arg12 harg12 arg13 harg13) K :=
  finish c arg1 harg1 arg2 harg2 arg3 harg3 arg4 harg4 arg5 harg5 arg6 harg6 arg7 harg7 arg8 harg8 arg9 harg9 arg10 harg10 arg11 harg11 arg12 harg12 arg13 harg13 x0 x1 x2 x3 xs0 xs1 xs2 xs3
    (fun K => wp frame (wpE (defs₀ (F := F)) Variants.none c none) E (cc0_quant_dx i arg1 harg1 arg2 harg2 arg3 harg3 arg4 harg4 arg5 harg5 arg6 harg6 arg7 harg7 arg8 harg8 arg9 harg9 arg10 harg10 arg11 harg11 arg12 harg12 arg13 harg13) K)
    (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).1 (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.1
    (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.1 (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.1
    (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.1 (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.1
    (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.1 (runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.2.val
    _ _ _ _ (Slots (curSlot i) x0)
    (fun f => stepB_dx c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3 p ho1 ho2 g hg f) (fun f => stepB_qh c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3 f) (fun f => stepB_ql c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3 f) (fun f => stepB_stat c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3 f)
    ⟨stepB_fh c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3, stepB_fl c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3, stepB_sh c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3, stepB_sl c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3⟩
    K ((runB c i arg1 harg1 arg2 harg2 arg3 harg3 arg4 harg4 arg5 harg5 arg6 harg6 arg7 harg7 arg8 harg8 arg9 harg9 arg10 harg10 arg11 harg11 arg12 harg12 arg13 harg13 hc0 x0 x1 x2 x3 xs0 xs1 xs2 xs3).2.2.2.2.2.2.2.property E K)

end B

end Cert.KDxIdeal.Dx

end
-- ==== Proof.DxFrame.lean ====
/-
  The quantising call as a whole: what the body leaves at each grid point, what the carried scratches hold between points, and the run.
-/
module

public import proofs.«01_k».proof.Proof.DxStepA
public import proofs.«01_k».proof.Proof.DxStepB
public import Idealize.ShloMosaic.Lib.Claim

@[expose] public section

set_option maxRecDepth 16384

noncomputable section

namespace Cert.KDxIdeal.Dx

open Cert.KDxIdeal Cert.KDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The grid's points -/

theorem curSlot_at : ∀ t : Fin cfg0.N, curSlot (grid0.coords t) = t.val % 2 :=
  (by decide +kernel : ∀ t : Fin grid0.N, curSlot (grid0.coords t) = t.val % 2)
theorem off1_at : ∀ t : Fin cfg0.N, k0_off1 (grid0.coords t) = ![1 - t.val % 2, 0, 0] :=
  (by decide +kernel : ∀ t : Fin grid0.N, k0_off1 (grid0.coords t) = ![1 - t.val % 2, 0, 0])
theorem off2_at : ∀ t : Fin cfg0.N, k0_off2 (grid0.coords t) = ![1 - t.val % 2, 0, 0] :=
  (by decide +kernel : ∀ t : Fin grid0.N, k0_off2 (grid0.coords t) = ![1 - t.val % 2, 0, 0])

/-! ### What is left -/

/-- The incoming block at point `n`. -/
def X (c : Dev nD) (n : ℕ) : Vec F S256x4864 .bf16 := iblk m c 0 ⟨min n 128, Nat.lt_of_le_of_lt (Nat.min_le_right n 128) (by decide +kernel : 128 < grid0.N)⟩

theorem X_val (c : Dev nD) (t : Fin cfg0.N) : X m c t.val = iblk m c 0 t := by
  unfold X
  have ht : t.val < 129 := lt_of_lt_of_eq t.isLt N_0
  rw [show (⟨min t.val 128, Nat.lt_of_le_of_lt (Nat.min_le_right t.val 128) (by decide +kernel : 128 < grid0.N)⟩ : Fin cfg0.N) = t from
    Fin.ext (Nat.min_eq_left (by omega))]

/-- The block of `dx` left at point `t`: from what point `t - 1` carried over. -/
def dxAt (c : Dev nD) (t : Fin cfg0.N) : Vec F S256x896 .bf16 :=
  if t.val = 0 then k0_pay6 (iblk m c 2 t) k0_pay2 k0_pay3 k0_pay4 k0_pay5 (iblk m c 3 t)
  else k0_pay6 (iblk m c 2 t) (lift8 (fhOf (X m c (t.val - 1)))) (lift8 (flOf (X m c (t.val - 1))))
    (lift32 (shOf (X m c (t.val - 1)))) (lift32 (slOf (X m c (t.val - 1)))) (iblk m c 3 t)

/-- The invariant before point `k`: past the first point, the slot last written holds the block before. -/
def carried (c : Dev nD) (k : ℕ) : sProp 𝕄 :=
  iprop((∃ d0 d1 d2 d3, ⌜k ≠ 0 → Slots ((k - 1) % 2) (X m c (k - 1)) d0 d1 d2 d3⌝
      ∗ owns (c : Thread nD τ) scM0_0 fullShare d0 ∗ owns (c : Thread nD τ) scM0_1 fullShare d1
      ∗ owns (c : Thread nD τ) scM0_2 fullShare d2 ∗ owns (c : Thread nD τ) scM0_3 fullShare d3)
    ∗ (∃ d, owns (c : Thread nD τ) scM0_4 fullShare d) ∗ (∃ r, prngReg c r))

/-- The proof data: the arrays as the region finds them, each block after the body, the carried scratches between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dxAt m c t
    | ⟨5, _⟩ => qhOf (iblk m c 0 t)
    | ⟨6, _⟩ => qlOf (iblk m c 0 t)
    | ⟨7, _⟩ => statOf (iblk m c 0 t) (iblk m c 1 t)
  Φ k := carried m c k.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dxAt m c t := by dsimp only [dats]
theorem after0_5 (c : Dev nD) (t : Fin cfg0.N) : (dats m 0 c).after 5 t = qhOf (iblk m c 0 t) := by dsimp only [dats]
theorem after0_6 (c : Dev nD) (t : Fin cfg0.N) : (dats m 0 c).after 6 t = qlOf (iblk m c 0 t) := by dsimp only [dats]
theorem after0_7 (c : Dev nD) (t : Fin cfg0.N) : (dats m 0 c).after 7 t = statOf (iblk m c 0 t) (iblk m c 1 t) := by dsimp only [dats]
theorem Phi_eq (c : Dev nD) (k : Fin (cfg0.N + 1)) : (dats m 0 c).Φ k = carried m c k.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ### The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6, after0_7, Phi_eq, Phi_eq,
    show (t.succ : Fin (cfg0.N + 1)).val = t.val + 1 from rfl, show (t.castSucc : Fin (cfg0.N + 1)).val = t.val from rfl]
  unfold carried
  have hN : t.val < 129 := lt_of_lt_of_eq t.isLt (show cfg0.N = 129 from N_0)
  by_cases h0 : t.val % 129 = 0
  · have h0' : t.val = 0 := by omega
    rw [show dxAt m c t = k0_pay6 (iblk m c 2 t) k0_pay2 k0_pay3 k0_pay4 k0_pay5 (iblk m c 3 t) from if_pos h0']
    iintro ⟨⟨⟨%d0, %d1, %d2, %d3, %hd, HS0, HS1, HS2, HS3⟩, HS4, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply (stepA c (grid0.coords t) _ _ _ _ _ _ _ _ _ _ _ _ _ _ _ _ _ _ _ _ _ _ _ _ _ _ ((hcond0_0 t).mpr h0) (iblk m c 0 t) (iblk m c 1 t) (iblk m c 2 t) (iblk m c 3 t)
      d0 d1 d2 d3 (by rw [off1_at, h0']) (by rw [off2_at, h0']) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%n0, %n1, %n2, %n3, %hn, HS0, HS1, HS2, HS3⟩, HS4⟩
    isplitl [HS0 HS1 HS2 HS3 HS4 Hg]
    · isplitl [HS0 HS1 HS2 HS3]
      · iexists n0, n1, n2, n3
        isplitr
        · ipureintro
          intro _
          rw [Nat.add_sub_cancel, X_val, ← curSlot_at]
          exact hn
        isplitl [HS0]; · iexact HS0
        isplitl [HS1]; · iexact HS1
        isplitl [HS2]; · iexact HS2
        iexact HS3
      isplitl [HS4]; · iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h0' : t.val ≠ 0 := by omega
    rw [show dxAt m c t = k0_pay6 (iblk m c 2 t) (lift8 (fhOf (X m c (t.val - 1)))) (lift8 (flOf (X m c (t.val - 1))))
      (lift32 (shOf (X m c (t.val - 1)))) (lift32 (slOf (X m c (t.val - 1)))) (iblk m c 3 t) from if_neg h0']
    iintro ⟨⟨⟨%d0, %d1, %d2, %d3, %hd, HS0, HS1, HS2, HS3⟩, HS4, Hg⟩, Ho, ⟨%e0, H0⟩, ⟨%e1, H1⟩, ⟨%e2, H2⟩, ⟨%e3, H3⟩, ⟨%e4, H4⟩, ⟨%e5, H5⟩, ⟨%e6, H6⟩, ⟨%e7, H7⟩⟩
    iapply (stepB c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t)
      d0 d1 d2 d3 (1 - t.val % 2) (off1_at t) (off2_at t) (X m c (t.val - 1)) (by have := hd h0'; rwa [show (t.val - 1) % 2 = 1 - t.val % 2 by omega] at this) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, ⟨%n0, %n1, %n2, %n3, %hn, HS0, HS1, HS2, HS3⟩, HS4⟩
    isplitl [HS0 HS1 HS2 HS3 HS4 Hg]
    · isplitl [HS0 HS1 HS2 HS3]
      · iexists n0, n1, n2, n3
        isplitr
        · ipureintro
          intro _
          rw [Nat.add_sub_cancel, X_val, ← curSlot_at]
          exact hn
        isplitl [HS0]; · iexact HS0
        isplitl [HS1]; · iexact HS1
        isplitl [HS2]; · iexact HS2
        iexact HS3
      isplitl [HS4]; · iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

/-- Before the first point the scratches hold anything, -/
theorem carried_in (c : Dev nD) : (Pipeline.ΦA spec0 c : sProp 𝕄) ⊢ carried m c 0 := by
  rw [PhiA0_eq]
  unfold carried
  iintro ⟨⟨⟨%d0, HS0⟩, ⟨%d1, HS1⟩, ⟨%d2, HS2⟩, ⟨%d3, HS3⟩, HS4⟩, Hg⟩
  isplitl [HS0 HS1 HS2 HS3]
  · iexists d0, d1, d2, d3
    isplitr
    · ipureintro
      exact fun h => absurd rfl h
    isplitl [HS0]; · iexact HS0
    isplitl [HS1]; · iexact HS1
    isplitl [HS2]; · iexact HS2
    iexact HS3
  isplitl [HS4]; · iexact HS4
  iexact Hg

/-- and after the last what they hold is forgotten. -/
theorem carried_out (c : Dev nD) (k : ℕ) : carried m c k ⊢ (Pipeline.ΦA spec0 c : sProp 𝕄) := by
  rw [PhiA0_eq]
  unfold carried
  iintro ⟨⟨%d0, %d1, %d2, %d3, %hd, HS0, HS1, HS2, HS3⟩, HS4, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexact HS4
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

theorem run_main : θ_run defs (onTc (τ := τ) (main (F := F))) (s₀ m ρ) (Pipeline.FramePost cfgs (dats m) 0 (V m)) :=
  (θ_run defs _ _).mono (fun _ h => h.1) (run_main_quiescent m ρ)

/-- The four arguments are left as they were. -/
theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  frame_of m ρ (dats m) (A_eq m) (run_main m ρ)

/-- The call ends without fault, leaves its arguments, and leaves every semaphore at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  θ_run_and (unchanged m ρ) ((θ_run defs _ _).mono (fun _ h => h.2) (run_main_quiescent m ρ))

end Cert.KDxIdeal.Dx

end
-- ==== Proof.DxRow.lean ====
/-
  One row of the quantiser over the extended reals: the largest absolute value, the scale, the codes, the residual, the sum of the squared
  codes, and the two-level product; and what a row reduction of a matrix is at an index.
-/
module

public import Idealize.ShloMosaic.Lib.Pointwise
public import Idealize.ShloMosaic.Lib.IdealHost

@[expose] public section

set_option maxRecDepth 16384

noncomputable section

namespace Cert.DxRow

open Idealize.ShloMosaic Idealize.ShloMosaic.TcCoe Idealize.ShloMosaic.Pointwise

/-! ### A row -/

/-- A row of 4864 values. -/
abbrev Row := Fin 4864 → EReal

/-- The value a row maximum starts from. -/
def low : EReal := FloatOps.ofBits (F := Ideal) .f32 0xFF800000#32

/-- The absolute value. -/
def absE (x : EReal) : EReal := max x (-x)

/-- The largest absolute value of a row. -/
def amax (v : Row) : EReal := Finset.univ.fold max low fun k => absE (v k)

/-- Seven, the largest code. -/
def seven : EReal := Ideal.ofBits .f32 0x40E00000#32
def minusSeven : EReal := Ideal.ofBits .f32 0xC0E00000#32

/-- The scale of a row whose largest absolute value is `a`. -/
def sc (a : EReal) : EReal := if a = 0 then 1 else Ideal.div a seven

/-- The code of a value: divided by the scale, rounded, clipped. -/
def code (v s : EReal) : EReal := min seven (max minusSeven (Ideal.liftRound Ideal.roundHalfEven (Ideal.div v s)))

/-- The same with the scale's reciprocal. -/
def codeInv (v i : EReal) : EReal := min seven (max minusSeven (Ideal.liftRound Ideal.roundHalfEven (v * i)))

def hiS (v : Row) : EReal := sc (amax v)
def hiQ (v : Row) : Row := fun k => code (v k) (hiS v)
/-- What the high codes leave. -/
def res (v : Row) : Row := fun k => v k - hiQ v k * hiS v
def loS (v : Row) : EReal := sc (amax (res v))
def loQ (v : Row) : Row := fun k => code (res v k) (loS v)

/-- The sum of the squares. -/
def cost (q : Row) : EReal := ∑ k, q k * q k

/-- A row of codes with its two scales, by a column of the weight and its scale. -/
def dxV (v w : Row) (ws : EReal) : EReal := (hiS v * (∑ k, hiQ v k * w k) + loS v * (∑ k, loQ v k * w k)) * ws

/-- The two halves of a byte, low and high, as signed numbers. -/
def loN (b : BitVec 8) : EReal := FloatOps.sitofp (F := Ideal) .f32 (IntOp.shrsi .vector (IntOp.shli .vector (BitVec.setWidth 32 b) 28#32) 28#32)
def hiN (b : BitVec 8) : EReal := FloatOps.sitofp (F := Ideal) .f32 (IntOp.shrsi .vector (IntOp.shli .vector (BitVec.setWidth 32 b) 24#32) 28#32)

/-- The sum of the squares of a row of packed numbers. -/
def costX (p : Fin 448 → BitVec 8) : EReal := ∑ k, loN (p k) * loN (p k) + ∑ k, hiN (p k) * hiN (p k)

/-- Row `k` of the statistics at a row `v` of the gradient and a row `p` of the packed activations: the two scales, the two sums of squared codes, the
sum of the squared activations, and nothing. -/
def statRow (v : Row) (p : Fin 448 → BitVec 8) (k : ℕ) : EReal :=
  if k = 0 then hiS v else if k = 1 then loS v else if k = 2 then cost (hiQ v) else if k = 3 then cost (loQ v) else if k = 4 then costX p else 0

/-! ### The results, as functions of the arrays -/

section results
variable (v : (⟨2, ![32768, 4864]⟩ : Shape).Idx → EReal)

/-- A row of the gradient. -/
def rowA (i : Fin 32768) : Row := fun k => v (ix2 i k)

/-- The product `dx`, from the gradient, the weight and its column scales. -/
def dxOf (w : (⟨2, ![4864, 896]⟩ : Shape).Idx → EReal) (ws : (⟨2, ![1, 896]⟩ : Shape).Idx → EReal) : (⟨2, ![32768, 896]⟩ : Shape).Idx → EReal :=
  fun y => dxV (rowA v (y 0)) (fun k => w (ix2 k (y 1))) (ws (ix2 0 (y 1)))

/-- The high and the low codes. -/
def highOf : (⟨2, ![32768, 4864]⟩ : Shape).Idx → BitVec 8 := fun y => Ideal.fptosi 8 (hiQ (rowA v (y 0)) (y 1))
def lowOf : (⟨2, ![32768, 4864]⟩ : Shape).Idx → BitVec 8 := fun y => Ideal.fptosi 8 (loQ (rowA v (y 0)) (y 1))

/-- Row `l` of block `a` of 256 rows. -/
def rowIn (a : Fin 128) (l : Fin 256) : Fin 32768 := ⟨a.val * 256 + l.val, by omega⟩

/-- The statistics, from the gradient and the packed activations. -/
def statsOf (p : (⟨2, ![32768, 448]⟩ : Shape).Idx → BitVec 8) : (⟨3, ![128, 8, 256]⟩ : Shape).Idx → EReal :=
  fun y => statRow (rowA v (rowIn (y 0) (y 2))) (fun n => p (ix2 (rowIn (y 0) (y 2)) n)) (y 1).val

end results

theorem seven_eq : seven = ((7 : ℝ) : EReal) := by
  unfold seven
  simp [Ideal.ofBits, Ideal.ieee]
  rw [← EReal.coe_mul]
  norm_num

theorem minusSeven_eq : minusSeven = ((-7 : ℝ) : EReal) := by
  unfold minusSeven
  simp [Ideal.ofBits, Ideal.ieee]
  rw [← EReal.coe_mul]
  norm_num

/-- A code is a whole number from -7 to 7. -/
theorem code_int (v s : EReal) : ∃ n : ℤ, -7 ≤ n ∧ n ≤ 7 ∧ code v s = ((n : ℝ) : EReal) := by
  unfold code
  rw [seven_eq, minusSeven_eq]
  generalize Ideal.div v s = x
  induction x with
  | bot => exact ⟨-7, by norm_num, by norm_num, by rw [Ideal.liftRound_bot, max_bot_right, ← EReal.coe_strictMono.monotone.map_min]; norm_num⟩
  | top => exact ⟨7, by norm_num, by norm_num, by rw [Ideal.liftRound_top, max_top_right, min_top_right]; norm_num⟩
  | coe r =>
    refine ⟨min 7 (max (-7) (Ideal.roundHalfEven r)), by omega, by omega, ?_⟩
    rw [Ideal.liftRound_coe, ← EReal.coe_strictMono.monotone.map_max, ← EReal.coe_strictMono.monotone.map_min]
    push_cast
    rfl

/-- Stored as a byte and read back, a code is itself. -/
theorem code_word (φ : FTy) (v s : EReal) : FloatOps.sitofp (F := Ideal) φ (Ideal.fptosi 8 (code v s)) = code v s := by
  obtain ⟨n, h0, h1, h⟩ := code_int v s
  have hn : (if (0 : ℝ) ≤ (n : ℝ) then ⌊(n : ℝ)⌋ else ⌈(n : ℝ)⌉) = n := by simp
  have hb : (Ideal.fptosi 8 ((n : ℝ) : EReal)).toInt = n := by
    rw [Ideal.fptosi, Ideal.toIntClamped_coe, hn]
    interval_cases n <;> decide
  rw [h]
  show (((Ideal.fptosi 8 ((n : ℝ) : EReal)).toInt : ℝ) : EReal) = _
  rw [hb]

theorem sc_ne_zero (a : EReal) : sc a ≠ 0 := by
  unfold sc
  split
  · exact one_ne_zero
  · rename_i h
    have h7 : ((7 : ℝ) : EReal) ≠ 0 := by exact_mod_cast (by norm_num : (7 : ℝ) ≠ 0)
    rw [seven_eq, Ideal.div, if_neg h7]
    refine mul_ne_zero h ?_
    rw [← EReal.coe_inv]
    exact_mod_cast (by norm_num : ((7 : ℝ)⁻¹) ≠ 0)

/-- A code by the reciprocal is the code by the scale. -/
theorem codeInv_eq (v a : EReal) : codeInv v (Ideal.div 1 (sc a)) = code v (sc a) := by
  unfold codeInv code
  rw [Idealize.ShloMosaic.Ideal.mul_one_div (sc_ne_zero a)]

/-! ### Maxima and sums over tiles -/

theorem absE_nonneg (x : EReal) : 0 ≤ absE x := by
  unfold absE
  rcases le_total 0 x with h | h
  · exact le_max_of_le_left h
  · exact le_max_of_le_right (EReal.neg_nonneg.mpr h)

/-- A bound on a row's largest absolute value. -/
theorem amax_le (v : Row) (c : EReal) : amax v ≤ c ↔ low ≤ c ∧ ∀ k, absE (v k) ≤ c := by
  unfold amax
  rw [Finset.fold_max_le]
  simp

/-- A sum of a row, lane by lane over its 38 tiles of 128. -/
theorem sum_tiles (f : ℕ → EReal) : (∑ l : Fin 128, ∑ t ∈ Finset.range 38, f (t * 128 + l.val)) = ∑ k : Fin 4864, f k.val := by
  rw [Fin.sum_univ_eq_sum_range (fun l => ∑ t ∈ Finset.range 38, f (t * 128 + l)) 128, Fin.sum_univ_eq_sum_range f 4864, Finset.sum_comm]
  rw [show (4864 : ℕ) = 38 * 128 from rfl]
  generalize (38 : ℕ) = n
  induction n with
  | zero => simp
  | succ n ih => rw [Finset.sum_range_succ, ih, Nat.succ_mul, Finset.sum_range_add]

/-! ### Row reductions at an index -/

section reductions
variable {n0 n1 : ℕ}

/-- The row maximum of a matrix. -/
theorem rowMax_at (v : FVec Ideal ⟨2, ![n0, n1]⟩ .f32) (h : (⟨2, ![n0, n1]⟩ : Shape).Reduces [1] ⟨1, ![n0]⟩) (h1 h2) (r : Fin n0) :
    multiReduction .maximumf [1] ⟨1, ![n0]⟩ v 0xFF800000#32 h h1 h2 (ix1 r) = Finset.univ.fold max low fun k : Fin n1 => v (ix2 r k) := by
  rw [multiReduction_maximumf_eq_fold]
  exact h.fold_fiber_r2_a1 (ix1 r) _ _ v

theorem rowSum_at (v : FVec Ideal ⟨2, ![n0, n1]⟩ .f32) (h : (⟨2, ![n0, n1]⟩ : Shape).Reduces [1] ⟨1, ![n0]⟩) (h1 h2) (r : Fin n0) :
    multiReduction .add [1] ⟨1, ![n0]⟩ v 0x00000000#32 h h1 h2 (ix1 r) = ∑ k : Fin n1, v (ix2 r k) :=
  Ideal.reduceAdd_r2_a1 h v (ix1 r)

end reductions

end Cert.DxRow
-- ==== Proof.DxBlock.lean ====
/-
  One row block of the quantising call over the extended reals: from the tiles of 32 rows, the scales, the codes, the residuals and the sums of
  squares are those of `DxRow` on each row.
-/
module

public import proofs.«01_k».proof.Proof.DxRow
public import proofs.«01_k».proof.Proof.DxClosed

@[expose] public section

set_option maxRecDepth 16384

noncomputable section

namespace Cert.KDxIdeal.Dx

open Cert.KDxIdeal Cert.KDxIdeal.Gen Idealize.ShloMosaic Idealize.ShloMosaic.TcCoe Idealize.ShloMosaic.Pointwise Cert.DxRow

/-! ### Loops of maxima and sums -/

theorem upto_max_at {n0 n1 : ℕ} {φ : FTy} (z : FVec Ideal ⟨2, ![n0, n1]⟩ φ) (A : ℕ → FVec Ideal ⟨2, ![n0, n1]⟩ φ) (i : (⟨2, ![n0, n1]⟩ : Shape).Idx) (c : EReal) :
    ∀ n : ℕ, upto z (fun t m => maximumf m (A t)) n i ≤ c ↔ z i ≤ c ∧ ∀ t < n, A t i ≤ c
  | 0 => by show z i ≤ c ↔ _; simp
  | n + 1 => by
    show max (upto z (fun t m => maximumf m (A t)) n i) (A n i) ≤ c ↔ _
    rw [max_le_iff, upto_max_at z A i c n]
    constructor
    · rintro ⟨⟨h0, h1⟩, h2⟩
      refine ⟨h0, fun t ht => ?_⟩
      rcases Nat.lt_succ_iff_lt_or_eq.mp ht with h | rfl
      · exact h1 t h
      · exact h2
    · rintro ⟨h0, h1⟩
      exact ⟨⟨h0, fun t ht => h1 t (by omega)⟩, h1 n (by omega)⟩

/-- The squares over the tiles, lane by lane. -/
theorem upto_add_at (q : ℕ → FVec Ideal S32x128 .bf16) (i : S32x128.Idx) :
    ∀ n : ℕ, upto (broadcast S32x128 (Scalar.ofBits .f32 0x00000000#32)) (fun t g => addSquares g (q t)) n i
      = ∑ t ∈ Finset.range n, (q t i : EReal) * (q t i : EReal)
  | 0 => by
    show (FloatOps.ofBits .f32 0x00000000#32 : Ideal .f32) = _
    rw [Finset.range_zero, Finset.sum_empty]
    exact Ideal.ofBits_zero .f32
  | n + 1 => by
    rw [Finset.sum_range_succ, ← upto_add_at q i n]
    rfl

/-! ### The steps, for any columns -/

theorem column_at (w : FVec Ideal S32 .f32) (r : Fin 32) (c : Fin 1) : shapeCast S32x1 w shapeCasts_S32_S32x1 (ix2 r c) = w (ix1 r) := by
  pointwise []

theorem scale_at (a : FVec Ideal S32x1 .f32) (r : Fin 32) (c : Fin 1) : scale a (ix2 r c) = sc (a (ix2 r c)) := by
  unfold scale
  pointwise []
  rfl

theorem lanes_at (s : FVec Ideal S32x1 .f32) (r : Fin 32) (l : Fin 128) : lanes s (ix2 r l) = s (ix2 r 0) := by
  unfold lanes
  pointwise []

theorem recips_at (s : FVec Ideal S32x1 .f32) (r : Fin 32) (l : Fin 128) : recips s (ix2 r l) = Ideal.div 1 (s (ix2 r 0)) := by
  unfold recips
  rw [lanes_at]
  pointwise []

theorem codes_at (v i : FVec Ideal S32x128 .f32) (r : Fin 32) (l : Fin 128) : codes v i (ix2 r l) = codeInv (v (ix2 r l)) (i (ix2 r l)) := by
  unfold codes
  pointwise []
  rfl

theorem rowMax_le (m : FVec Ideal S32x128 .f32) (r : Fin 32) (c : Fin 1) (e : EReal) :
    rowMax m (ix2 r c) ≤ e ↔ low ≤ e ∧ ∀ l : Fin 128, m (ix2 r l) ≤ e := by
  have h : rowMax m (ix2 r c) = _ := (column_at _ r c).trans (rowMax_at m _ _ _ r)
  rw [h, Finset.fold_max_le]
  simp

/-! ### A row block -/

section block
variable (T : ℕ → Vec Ideal S32x128 .bf16) (v : Fin 32 → ℕ → EReal)

/-- Row `r`, as a row. -/
def rowAt (r : Fin 32) : Row := fun k => v r k.val

variable (hT : ∀ t < 38, ∀ (r : Fin 32) (l : Fin 128), T t (ix2 r l) = v r (t * 128 + l.val))
include hT

theorem hiMax_eq (r : Fin 32) (c : Fin 1) : rowMax (extf .f32 (hiMax T) bitsLt_bf16_f32) (ix2 r c) = amax (rowAt v r) := by
  refine eq_of_forall_ge_iff fun e => ?_
  rw [rowMax_le, amax_le]
  refine and_congr_right fun _ => ?_
  have h : ∀ l : Fin 128, extf .f32 (hiMax T) bitsLt_bf16_f32 (ix2 r l) ≤ e
      ↔ absE (T 0 (ix2 r l)) ≤ e ∧ ∀ t < 37, absE (T (t + 1) (ix2 r l)) ≤ e := fun l =>
    upto_max_at (absf (T 0)) (fun t => absf (T (t + 1))) (ix2 r l) e 37
  constructor
  · intro H k
    have hk := k.isLt
    have hl := (h ⟨k.val % 128, by omega⟩).mp (H _)
    have hv : v r k.val = T (k.val / 128) (ix2 r ⟨k.val % 128, by omega⟩) := by
      rw [hT (k.val / 128) (by omega)]
      congr 1
      show k.val = k.val / 128 * 128 + k.val % 128
      omega
    show absE (v r k.val) ≤ e
    rw [hv]
    rcases Nat.eq_zero_or_pos (k.val / 128) with h0 | h0
    · rw [h0]; exact hl.1
    · have := hl.2 (k.val / 128 - 1) (by omega)
      rwa [Nat.sub_add_cancel h0] at this
  · intro H l
    refine (h l).mpr ⟨?_, fun t ht => ?_⟩
    · rw [hT 0 (by omega)]
      exact H ⟨0 * 128 + l.val, by omega⟩
    · rw [hT (t + 1) (by omega)]
      exact H ⟨(t + 1) * 128 + l.val, by omega⟩

theorem hiScale_at (r : Fin 32) (c : Fin 1) : hiScale T (ix2 r c) = hiS (rowAt v r) := by
  unfold hiScale
  rw [scale_at, hiMax_eq T v hT]
  rfl

theorem hiLanes_at (r : Fin 32) (l : Fin 128) : hiLanes T (ix2 r l) = hiS (rowAt v r) := by
  unfold hiLanes
  rw [lanes_at, hiScale_at T v hT]

theorem hiCodes_at (t : ℕ) (ht : t < 38) (r : Fin 32) (l : Fin 128) : hiCodes T t (ix2 r l) = code (v r (t * 128 + l.val)) (hiS (rowAt v r)) := by
  unfold hiCodes hiRecips
  rw [codes_at, recips_at, hiScale_at T v hT]
  refine (codeInv_eq _ _).trans ?_
  rw [← hT t ht]
  rfl

/-- The residual at a column. -/
def resN (v : Fin 32 → ℕ → EReal) (r : Fin 32) (n : ℕ) : EReal := v r n - code (v r n) (hiS (rowAt v r)) * hiS (rowAt v r)

theorem resid_at (t : ℕ) (ht : t < 38) (r : Fin 32) (l : Fin 128) : resid T t (ix2 r l) = resN v r (t * 128 + l.val) := by
  show (T t (ix2 r l) : EReal) - hiCodes T t (ix2 r l) * hiLanes T (ix2 r l) = _
  rw [hiCodes_at T v hT t ht, hiLanes_at T v hT, hT t ht]
  rfl

theorem loMax_eq (r : Fin 32) (c : Fin 1) : rowMax (loMax T) (ix2 r c) = amax (res (rowAt v r)) := by
  refine eq_of_forall_ge_iff fun e => ?_
  rw [rowMax_le, amax_le]
  refine and_congr_right fun _ => ?_
  have h : ∀ l : Fin 128, loMax T (ix2 r l) ≤ e
      ↔ (broadcast S32x128 (Scalar.ofBits .f32 0x00000000#32) : FVec Ideal S32x128 .f32) (ix2 r l) ≤ e ∧ ∀ t < 38, absE (resid T t (ix2 r l)) ≤ e := fun l =>
    upto_max_at _ (fun t => absf (resid T t)) (ix2 r l) e 38
  have hz : ∀ l : Fin 128, (broadcast S32x128 (Scalar.ofBits .f32 0x00000000#32) : FVec Ideal S32x128 .f32) (ix2 r l) = (0 : EReal) := fun l =>
    Ideal.ofBits_zero .f32
  constructor
  · intro H k
    have hk := k.isLt
    have hl := ((h ⟨k.val % 128, by omega⟩).mp (H _)).2 (k.val / 128) (by omega)
    rw [resid_at T v hT _ (by omega)] at hl
    have e1 : k.val / 128 * 128 + k.val % 128 = k.val := by omega
    have e2 : k.val / 128 * 128 + (⟨k.val % 128, by omega⟩ : Fin 128).val = k.val := e1
    rw [e2] at hl
    exact hl
  · intro H l
    have hr : ∀ t < 38, absE (resid T t (ix2 r l)) ≤ e := fun t ht => by
      rw [resid_at T v hT t ht]
      exact H ⟨t * 128 + l.val, by omega⟩
    refine (h l).mpr ⟨?_, hr⟩
    rw [hz]
    exact (absE_nonneg _).trans (hr 0 (by omega))

theorem loScale_at (r : Fin 32) (c : Fin 1) : loScale T (ix2 r c) = loS (rowAt v r) := by
  unfold loScale
  rw [scale_at, loMax_eq T v hT]
  rfl

theorem loLanes_at (r : Fin 32) (l : Fin 128) : loLanes T (ix2 r l) = loS (rowAt v r) := by
  unfold loLanes
  rw [lanes_at, loScale_at T v hT]

omit hT in
theorem kept_at (w : FVec Ideal S32x128 .f32) (r : Fin 32) (l : Fin 128) :
    shapeCast S32x128 (shapeCast S1x32x128 w shapeCasts_S32x128_S1x32x128) shapeCasts_S1x32x128_S32x128 (ix2 r l) = w (ix2 r l) := by
  pointwise []

theorem loCodes_at (t : ℕ) (ht : t < 38) (r : Fin 32) (l : Fin 128) :
    loCodes T (shapeCast S1x32x128 (resid T t) shapeCasts_S32x128_S1x32x128) (ix2 r l) = code (resN v r (t * 128 + l.val)) (loS (rowAt v r)) := by
  unfold loCodes loRecips
  rw [codes_at, recips_at, loScale_at T v hT, kept_at, resid_at T v hT t ht]
  exact codeInv_eq _ _

omit hT in
/-- A sum of squares over the tiles is the row's. -/
theorem squares_at (q : ℕ → FVec Ideal S32x128 .bf16) (f : Fin 32 → ℕ → EReal)
    (hq : ∀ t < 38, ∀ (r : Fin 32) (l : Fin 128), q t (ix2 r l) = f r (t * 128 + l.val)) (r : Fin 32) (c : Fin 1) :
    squares q (ix2 r c) = cost (rowAt f r) := by
  refine ((column_at _ r c).trans (rowSum_at _ _ _ _ r)).trans ?_
  refine (Finset.sum_congr rfl fun l _ => ?_).trans (sum_tiles fun n => f r n * f r n)
  rw [upto_add_at]
  exact Finset.sum_congr rfl fun t ht => by rw [hq t (Finset.mem_range.mp ht)]

theorem hiCost_at (r : Fin 32) (c : Fin 1) : squares (hiCodesB T) (ix2 r c) = cost (hiQ (rowAt v r)) :=
  squares_at (hiCodesB T) (fun r n => code (v r n) (hiS (rowAt v r))) (fun t ht r l => hiCodes_at T v hT t ht r l) r c

theorem loCost_at (r : Fin 32) (c : Fin 1) :
    squares (fun t => loCodesB T (shapeCast S1x32x128 (resid T t) shapeCasts_S32x128_S1x32x128)) (ix2 r c) = cost (loQ (rowAt v r)) :=
  squares_at _ (fun r n => code (resN v r n) (loS (rowAt v r))) (fun t ht r l => loCodes_at T v hT t ht r l) r c

end block

end Cert.KDxIdeal.Dx
-- ==== Proof.DxMath.lean ====
/-
  What the body of the quantising call leaves, over the extended reals, one index at a time: the codes, the scales and the statistics of `DxRow` on
  the rows of the incoming block, and the product of the block before.
-/
module

public import proofs.«01_k».proof.Proof.DxBlock

@[expose] public section

set_option maxRecDepth 16384

noncomputable section

namespace Cert.KDxIdeal.Dx

open Cert.KDxIdeal Cert.KDxIdeal.Gen Idealize.ShloMosaic Idealize.ShloMosaic.TcCoe Idealize.ShloMosaic.Pointwise Cert.DxRow

/-! ### Rows of a block -/

/-- A row of an incoming block. -/
def rowB (x : Vec Ideal S256x4864 .bf16) (i : Fin 256) : Row := fun k => x (ix2 i k)

/-- Row `r` of row block `b`, at any column number. -/
def rowN (x : Vec Ideal S256x4864 .bf16) (b : ℕ) (r : Fin 32) (n : ℕ) : EReal :=
  x (ix2 ⟨b % 8 * 32 + r.val, by omega⟩ ⟨n % 4864, Nat.mod_lt _ (by decide)⟩)

theorem tile_at (x : Vec Ideal S256x4864 .bf16) (b t : ℕ) (ht : t < 38) (r : Fin 32) (l : Fin 128) :
    tile x b t (ix2 r l) = rowN x b r (t * 128 + l.val) := by
  unfold tile rowN
  refine congrArg x (funext fun a => ?_)
  match a with
  | ⟨0, _⟩ => exact Fin.ext (by show b % 8 * 32 + 1 * r.val = b % 8 * 32 + r.val; omega)
  | ⟨1, _⟩ => exact Fin.ext (by show t % 38 * 128 + 1 * l.val = (t * 128 + l.val) % 4864; omega)

/-- The row block and the row in it of a row. -/
theorem rowAt_rowN (x : Vec Ideal S256x4864 .bf16) (i : Fin 256) : rowAt (rowN x (i.val / 32)) ⟨i.val % 32, Nat.mod_lt _ (by decide)⟩ = rowB x i := by
  funext k
  unfold rowAt rowN rowB
  refine congrArg₂ (fun a b => x (ix2 a b)) (Fin.ext ?_) (Fin.ext ?_)
  · show i.val / 32 % 8 * 32 + i.val % 32 = i.val
    omega
  · exact Nat.mod_eq_of_lt k.isLt

/-! ### The blocks of codes and scales -/

section forms
variable (x : Vec Ideal S256x4864 .bf16) (i : Fin 256)

theorem hiQ_at (k : Fin 4864) :
    hiCodes (tile x (i.val / 32)) (k.val / 128) (ix2 ⟨i.val % 32, Nat.mod_lt _ (by decide)⟩ ⟨k.val % 128, Nat.mod_lt _ (by decide)⟩)
      = hiQ (rowB x i) k := by
  refine (hiCodes_at (tile x (i.val / 32)) (rowN x (i.val / 32)) (tile_at x _) _ (by omega) _ _).trans ?_
  have e : k.val / 128 * 128 + (⟨k.val % 128, Nat.mod_lt _ (by decide)⟩ : Fin 128).val = k.val := by
    show k.val / 128 * 128 + k.val % 128 = k.val
    omega
  rw [e, ← rowAt_rowN x i]
  rfl

theorem loQ_at (k : Fin 4864) :
    loCodes (tile x (i.val / 32)) (kept (tile x) (i.val / 32) (k.val / 128))
      (ix2 ⟨i.val % 32, Nat.mod_lt _ (by decide)⟩ ⟨k.val % 128, Nat.mod_lt _ (by decide)⟩) = loQ (rowB x i) k := by
  refine (loCodes_at (tile x (i.val / 32)) (rowN x (i.val / 32)) (tile_at x _) _ (by omega) _ _).trans ?_
  have e : k.val / 128 * 128 + (⟨k.val % 128, Nat.mod_lt _ (by decide)⟩ : Fin 128).val = k.val := by
    show k.val / 128 * 128 + k.val % 128 = k.val
    omega
  rw [e, ← rowAt_rowN x i]
  rfl

theorem qhOf_at (k : Fin 4864) : qhOf x (ix2 i k) = Ideal.fptosi 8 (hiQ (rowB x i) k) := congrArg (Ideal.fptosi 8) (hiQ_at x i k)
theorem qlOf_at (k : Fin 4864) : qlOf x (ix2 i k) = Ideal.fptosi 8 (loQ (rowB x i) k) := congrArg (Ideal.fptosi 8) (loQ_at x i k)
theorem fhOf_at (k : Fin 4864) : fhOf x (ix2 i k) = hiQ (rowB x i) k := hiQ_at x i k
theorem flOf_at (k : Fin 4864) : flOf x (ix2 i k) = loQ (rowB x i) k := loQ_at x i k

theorem shOf_at (l : Fin 128) : shOf x (ix2 i l) = hiS (rowB x i) := by
  refine (hiLanes_at (tile x (i.val / 32)) (rowN x (i.val / 32)) (tile_at x _) ⟨i.val % 32, Nat.mod_lt _ (by decide)⟩ l).trans ?_
  rw [rowAt_rowN x i]

theorem slOf_at (l : Fin 128) : slOf x (ix2 i l) = loS (rowB x i) := by
  refine (loLanes_at (tile x (i.val / 32)) (rowN x (i.val / 32)) (tile_at x _) ⟨i.val % 32, Nat.mod_lt _ (by decide)⟩ l).trans ?_
  rw [rowAt_rowN x i]

end forms

/-! ### The product -/

theorem pay6_at (w : Vec Ideal S4864x896 .fp8e4m3) (a b : Vec Ideal S1x256x4864 .fp8e4m3) (p q : Vec Ideal S1x256x128 .f32) (s : Vec Ideal S1x896 .f32)
    (i : Fin 256) (c : Fin 896) :
    k0_pay6 w a b p q s (ix2 i c)
      = ((p (ix3 0 i 0) * ∑ k : Fin 4864, a (ix3 0 i k) * w (ix2 k c) + q (ix3 0 i 0) * ∑ k : Fin 4864, b (ix3 0 i k) * w (ix2 k c)) * s (ix2 0 c) : EReal) := by
  pointwise [k0_pay6]

theorem product_at (x : Vec Ideal S256x4864 .bf16) (w : Vec Ideal S4864x896 .fp8e4m3) (s : Vec Ideal S1x896 .f32) (i : Fin 256) (c : Fin 896) :
    k0_pay6 w (lift8 (fhOf x)) (lift8 (flOf x)) (lift32 (shOf x)) (lift32 (slOf x)) s (ix2 i c)
      = dxV (rowB x i) (fun k => w (ix2 k c)) (s (ix2 0 c)) := by
  refine (pay6_at _ _ _ _ _ _ i c).trans ?_
  unfold dxV
  have eh : ∀ k : Fin 4864, lift8 (fhOf x) (ix3 0 i k) = hiQ (rowB x i) k := fun k => fhOf_at x i k
  have el : ∀ k : Fin 4864, lift8 (flOf x) (ix3 0 i k) = loQ (rowB x i) k := fun k => flOf_at x i k
  have sh : lift32 (shOf x) (ix3 0 i 0) = hiS (rowB x i) := shOf_at x i 0
  have sl : lift32 (slOf x) (ix3 0 i 0) = loS (rowB x i) := slOf_at x i 0
  simp only [eh, el, sh, sl]

/-! ### The statistics -/

theorem select_at (g4 g2 g3 : FVec Ideal S256x1 .f32) (io : IVec S256x128 32) (s : FVec Ideal S256x128 .f32) (b : IVec S256x128 1)
    (g1 : FVec Ideal S256x1 .f32) (k : Fin 8) (l : Fin 256) :
    k0_pay1 g4 g2 g3 io s b g1 (ix3 0 k l)
      = Scalar.select (IntOp.cmpi .eq (io (ix2 l ⟨k.val, by omega⟩)) 4#32) (g4 (ix2 l 0))
        (Scalar.select (IntOp.cmpi .eq (io (ix2 l ⟨k.val, by omega⟩)) 3#32) (g3 (ix2 l 0))
          (Scalar.select (IntOp.cmpi .eq (io (ix2 l ⟨k.val, by omega⟩)) 2#32) (g2 (ix2 l 0))
            (Scalar.select (b (ix2 l ⟨k.val, by omega⟩)) (g1 (ix2 l 0)) (s (ix2 l ⟨k.val, by omega⟩))))) := by
  pointwise [k0_pay1]

/-- Eight columns on top of each other. -/
def stacked (a : ℕ → FVec Ideal S32x1 .f32) : FVec Ideal S256x1 .f32 := k0_pay4251 (a 0) (a 1) (a 2) (a 3) (a 4) (a 5) (a 6) (a 7)

theorem stacked_at (a : ℕ → FVec Ideal S32x1 .f32) (l : Fin 256) (c : Fin 1) :
    stacked a (ix2 l c) = a (l.val / 32) (ix2 ⟨l.val % 32, Nat.mod_lt _ (by decide)⟩ 0) := by
  have key : ∀ (j : ℕ) (n : Fin 32), l.val = j * 32 + n.val → a j (ix2 n 0) = a (l.val / 32) (ix2 ⟨l.val % 32, Nat.mod_lt _ (by decide)⟩ 0) := by
    intro j n h
    have hn := n.isLt
    have e1 : l.val / 32 = j := by omega
    have e2 : (⟨l.val % 32, Nat.mod_lt _ (by decide)⟩ : Fin 32) = n := Fin.ext (by show l.val % 32 = n.val; omega)
    rw [e1, e2]
  unfold stacked
  pointwise [k0_pay4251]
  have hl := l.isLt
  split_ifs <;> first
    | (refine key 0 _ ?_; dsimp only; omega)
    | (refine key 1 _ ?_; dsimp only; omega)
    | (refine key 2 _ ?_; dsimp only; omega)
    | (refine key 3 _ ?_; dsimp only; omega)
    | (refine key 4 _ ?_; dsimp only; omega)
    | (refine key 5 _ ?_; dsimp only; omega)
    | (refine key 6 _ ?_; dsimp only; omega)
    | (refine key 7 _ ?_; dsimp only; omega)

theorem second_at (a : ℕ → FVec Ideal S32x1 .f32) (l : Fin 256) (c : Fin 1) :
    k0_pay4255 (a 0) (a 1) (a 2) (a 3) (a 4) (a 5) (a 6) (a 7) (ix2 l c) = stacked a (ix2 l 0) := by
  show shapeCast S256x1 (stacked a) shapeCasts_S256x1_S256x1 (ix2 l c) = _
  generalize stacked a = b
  obtain rfl : c = 0 := Subsingleton.elim _ _
  pointwise []

/-- A column in lane 0, zeros in the others. -/
def firstLane (b : FVec Ideal S256x1 .f32) : FVec Ideal S256x128 .f32 :=
  select (cmpi .eq (iota .tc S256x128 32 [1] iota_S256x128_d1_w32) (broadcast S256x128 0#32))
    (broadcastTo S256x128 (shapeCast S256x1 b shapeCasts_S256x1_S256x1) broadcasts_S256x1_S256x128)
    (broadcast S256x128 (Scalar.ofBits .f32 0x00000000#32))

theorem firstLane_at (b : FVec Ideal S256x1 .f32) (l : Fin 256) (k : Fin 128) :
    firstLane b (ix2 l k) = Scalar.select (IntOp.cmpi .eq (BitVec.ofNat 32 k.val) 0#32) (b (ix2 l 0)) (0 : EReal) := by
  unfold firstLane
  pointwise []

theorem first_eq (a : ℕ → FVec Ideal S32x1 .f32) :
    k0_pay4253 (a 0) (a 1) (a 2) (a 3) (a 4) (a 5) (a 6) (a 7) = firstLane (stacked a) := rfl

theorem secondLane_at (l : Fin 256) (k : Fin 128) : k0_pay4254 (ix2 l k) = IntOp.cmpi .eq (BitVec.ofNat 32 k.val) 1#32 := by
  pointwise [k0_pay4254]

theorem lane_at (l : Fin 256) (k : Fin 128) : iota .tc S256x128 32 [1] iota_S256x128_d1_w32 (ix2 l k) = BitVec.ofNat 32 k.val := by
  pointwise []

theorem costX_at (p : Vec Ideal S256x448 .i8) (l : Fin 256) (c : Fin 1) :
    k0_pay4250 (F := Ideal) (k0_pay4249 p) (ix2 l c) = costX fun k => p (ix2 l k) := by
  unfold costX
  refine Eq.trans ?_ Finset.sum_add_distrib
  unfold loN hiN
  pointwise [k0_pay4250, k0_pay4249]

theorem statOf_at (x : Vec Ideal S256x4864 .bf16) (p : Vec Ideal S256x448 .i8) (k : Fin 8) (l : Fin 256) :
    statOf x p (ix3 0 k l) = statRow (rowB x l) (fun n => p (ix2 l n)) k.val := by
  have e0 : ∀ c : Fin 1, stacked (fun b => hiScale (tile x b)) (ix2 l c) = hiS (rowB x l) := fun c => by
    rw [stacked_at]
    refine (hiScale_at (tile x (l.val / 32)) (rowN x (l.val / 32)) (tile_at x _) _ _).trans ?_
    rw [rowAt_rowN x l]
  have e1 : ∀ c : Fin 1, stacked (fun b => loScale (tile x b)) (ix2 l c) = loS (rowB x l) := fun c => by
    rw [stacked_at]
    refine (loScale_at (tile x (l.val / 32)) (rowN x (l.val / 32)) (tile_at x _) _ _).trans ?_
    rw [rowAt_rowN x l]
  have e2 : ∀ c : Fin 1, stacked (fun b => squares (hiCodesB (tile x b))) (ix2 l c) = cost (hiQ (rowB x l)) := fun c => by
    rw [stacked_at]
    refine (hiCost_at (tile x (l.val / 32)) (rowN x (l.val / 32)) (tile_at x _) _ _).trans ?_
    rw [rowAt_rowN x l]
  have e3 : ∀ c : Fin 1, stacked (fun b => squares fun t => loCodesB (tile x b) (kept (tile x) b t)) (ix2 l c) = cost (loQ (rowB x l)) := fun c => by
    rw [stacked_at]
    refine (loCost_at (tile x (l.val / 32)) (rowN x (l.val / 32)) (tile_at x _) _ _).trans ?_
    rw [rowAt_rowN x l]
  unfold statOf statVec
  refine (select_at _ _ _ _ _ _ _ k l).trans ?_
  rw [costX_at, lane_at, secondLane_at]
  rw [show k0_pay4255 (loScale (tile x 0)) (loScale (tile x 1)) (loScale (tile x 2)) (loScale (tile x 3)) (loScale (tile x 4)) (loScale (tile x 5))
      (loScale (tile x 6)) (loScale (tile x 7)) (ix2 l 0) = loS (rowB x l) from (second_at (fun b => loScale (tile x b)) l 0).trans (e1 0)]
  rw [show k0_pay4253 (hiScale (tile x 0)) (hiScale (tile x 1)) (hiScale (tile x 2)) (hiScale (tile x 3)) (hiScale (tile x 4)) (hiScale (tile x 5))
      (hiScale (tile x 6)) (hiScale (tile x 7)) (ix2 l ⟨k.val, by omega⟩)
      = Scalar.select (IntOp.cmpi .eq (BitVec.ofNat 32 k.val) 0#32) (hiS (rowB x l)) (0 : EReal) from by
    rw [first_eq (fun b => hiScale (tile x b)), firstLane_at, e0]]
  rw [show k0_pay4251 (squares (hiCodesB (tile x 0))) (squares (hiCodesB (tile x 1))) (squares (hiCodesB (tile x 2))) (squares (hiCodesB (tile x 3)))
      (squares (hiCodesB (tile x 4))) (squares (hiCodesB (tile x 5))) (squares (hiCodesB (tile x 6))) (squares (hiCodesB (tile x 7))) (ix2 l 0)
      = cost (hiQ (rowB x l)) from e2 0]
  rw [show k0_pay4252 (squares fun t => loCodesB (tile x 0) (kept (tile x) 0 t)) (squares fun t => loCodesB (tile x 1) (kept (tile x) 1 t))
      (squares fun t => loCodesB (tile x 2) (kept (tile x) 2 t)) (squares fun t => loCodesB (tile x 3) (kept (tile x) 3 t))
      (squares fun t => loCodesB (tile x 4) (kept (tile x) 4 t)) (squares fun t => loCodesB (tile x 5) (kept (tile x) 5 t))
      (squares fun t => loCodesB (tile x 6) (kept (tile x) 6 t)) (squares fun t => loCodesB (tile x 7) (kept (tile x) 7 t)) (ix2 l 0)
      = cost (loQ (rowB x l)) from e3 0]
  unfold statRow
  generalize hiS (rowB x l) = a0, loS (rowB x l) = a1, cost (hiQ (rowB x l)) = a2, cost (loQ (rowB x l)) = a3, costX (fun n => p (ix2 l n)) = a4
  match k with
  | 0 => rfl
  | 1 => rfl
  | 2 => rfl
  | 3 => rfl
  | 4 => rfl
  | 5 => rfl
  | 6 => rfl
  | 7 => rfl

end Cert.KDxIdeal.Dx
-- ==== Proof.DxFinal.lean ====
/-
  The quantising call as a whole, over the extended reals: its four result arrays as functions of its arguments. Grid step `t` of 129 takes the rows of
  block `min t 127` and leaves their codes and statistics, and the product of the rows of block `t - 1`.
-/
module

public import proofs.«01_k».proof.Proof.DxMath
public import proofs.«01_k».proof.Proof.DxFrame
public import Idealize.ShloMosaic.Lib.Pipeline.Value
public import Idealize.ShloMosaic.Lib.Pipeline.ValueKit.Point

@[expose] public section

set_option maxRecDepth 16384

noncomputable section

namespace Cert.KDxIdeal.Dx

open Cert.KDxIdeal Cert.KDxIdeal.Gen Idealize.ShloMosaic Idealize.ShloMosaic.TcCoe Idealize.ShloMosaic.Pointwise Cert.DxRow

variable (m : (ℓ : Loc nD τ sig) → Buf (Elt Ideal) ℓ) (c : Dev nD)

/-! ### Where the blocks lie -/

theorem idx0 : ∀ t : Fin cfg0.N, win0_0.index t (0 : Fin 2) = min t.val 127 ∧ win0_0.index t (1 : Fin 2) = 0 := (by decide +kernel : ∀ t : Fin grid0.N, _)
theorem idx1 : ∀ t : Fin cfg0.N, win0_1.index t (0 : Fin 2) = min t.val 127 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val - 1 ∧ win0_4.index t (1 : Fin 2) = 0 := (by decide +kernel : ∀ t : Fin grid0.N, _)
theorem idx5 : ∀ t : Fin cfg0.N, win0_5.index t (0 : Fin 2) = min t.val 127 ∧ win0_5.index t (1 : Fin 2) = 0 := (by decide +kernel : ∀ t : Fin grid0.N, _)
theorem idx6 : ∀ t : Fin cfg0.N, win0_6.index t (0 : Fin 2) = min t.val 127 ∧ win0_6.index t (1 : Fin 2) = 0 := (by decide +kernel : ∀ t : Fin grid0.N, _)
theorem idx7 : ∀ t : Fin cfg0.N, win0_7.index t (0 : Fin 3) = min t.val 127 ∧ win0_7.index t (1 : Fin 3) = 0 ∧ win0_7.index t (2 : Fin 3) = 0 :=
  (by decide +kernel : ∀ t : Fin grid0.N, _)

/-- The block of rows of grid step `t`. -/
def blkOf (t : ℕ) : Fin 128 := ⟨min t 127, by omega⟩

theorem iblk0_apply (t : Fin cfg0.N) (r : Fin 256) (o : Fin 4864) :
    iblk m c 0 t (ix2 r o) = m ((c : Thread nD τ).loc main_arg0) (ix2 (rowIn (blkOf t.val) r) o) := by
  unfold rowIn blkOf
  blk_ext! [iblk, V, idx0 t]
theorem iblk1_apply (t : Fin cfg0.N) (r : Fin 256) (o : Fin 448) :
    iblk m c 1 t (ix2 r o) = m ((c : Thread nD τ).loc main_arg1) (ix2 (rowIn (blkOf t.val) r) o) := by
  unfold rowIn blkOf
  blk_ext! [iblk, V, idx1 t]
theorem iblk2_apply (t : Fin cfg0.N) (k : Fin 4864) (o : Fin 896) :
    iblk m c 2 t (ix2 k o) = m ((c : Thread nD τ).loc main_arg2) (ix2 k o) := by
  blk_ext! [iblk, V, idx2 t]
theorem iblk3_apply (t : Fin cfg0.N) (o : Fin 896) :
    iblk m c 3 t (ix2 0 o) = m ((c : Thread nD τ).loc main_arg3) (ix2 0 o) := by
  blk_ext! [iblk, V, idx3 t]

theorem emb4_apply (t : Fin cfg0.N) (ht : t.val ≠ 0) (r : Fin 256) (o : Fin 896) :
    (win0_4.blk t).view.emb (ix2 r o) = ix2 (rowIn (blkOf (t.val - 1)) r) o := by
  have e0 := idx4 t
  have hN : t.val < 129 := lt_of_lt_of_eq t.isLt N_0
  funext a
  match a with
  | ⟨0, _⟩ => exact Fin.ext (by show win0_4.index t (0 : Fin 2) * 256 + 1 * r.val = min (t.val - 1) 127 * 256 + r.val; rw [e0.1]; omega)
  | ⟨1, _⟩ => exact Fin.ext (by show win0_4.index t (1 : Fin 2) * 896 + 1 * o.val = o.val; rw [e0.2]; omega)
theorem emb5_apply (t : Fin cfg0.N) (r : Fin 256) (o : Fin 4864) : (win0_5.blk t).view.emb (ix2 r o) = ix2 (rowIn (blkOf t.val) r) o := by
  have e0 := idx5 t
  funext a
  match a with
  | ⟨0, _⟩ => exact Fin.ext (by show win0_5.index t (0 : Fin 2) * 256 + 1 * r.val = min t.val 127 * 256 + r.val; rw [e0.1]; omega)
  | ⟨1, _⟩ => exact Fin.ext (by show win0_5.index t (1 : Fin 2) * 4864 + 1 * o.val = o.val; rw [e0.2]; omega)
theorem emb6_apply (t : Fin cfg0.N) (r : Fin 256) (o : Fin 4864) : (win0_6.blk t).view.emb (ix2 r o) = ix2 (rowIn (blkOf t.val) r) o := by
  have e0 := idx6 t
  funext a
  match a with
  | ⟨0, _⟩ => exact Fin.ext (by show win0_6.index t (0 : Fin 2) * 256 + 1 * r.val = min t.val 127 * 256 + r.val; rw [e0.1]; omega)
  | ⟨1, _⟩ => exact Fin.ext (by show win0_6.index t (1 : Fin 2) * 4864 + 1 * o.val = o.val; rw [e0.2]; omega)
theorem emb7_apply (t : Fin cfg0.N) (k : Fin 8) (l : Fin 256) : (win0_7.blk t).view.emb (ix3 0 k l) = ix3 (blkOf t.val) k l := by
  have e0 := idx7 t
  funext a
  match a with
  | ⟨0, _⟩ => exact Fin.ext (by show win0_7.index t (0 : Fin 3) * 1 + 1 * 0 = min t.val 127; rw [e0.1]; omega)
  | ⟨1, _⟩ => exact Fin.ext (by show win0_7.index t (1 : Fin 3) * 8 + 1 * k.val = k.val; rw [e0.2.1]; omega)
  | ⟨2, _⟩ => exact Fin.ext (by show win0_7.index t (2 : Fin 3) * 256 + 1 * l.val = l.val; rw [e0.2.2]; omega)

/-! ### What each step leaves -/

theorem row_eq (t : Fin cfg0.N) (r : Fin 256) : rowB (iblk m c 0 t) r = rowA (m ((c : Thread nD τ).loc main_arg0)) (rowIn (blkOf t.val) r) :=
  funext fun k => iblk0_apply m c t r k

theorem dx_point (t : Fin cfg0.N) (ht : t.val ≠ 0) (r : Fin 256) (o : Fin 896) :
    dxAt m c t (ix2 r o) = dxOf (m ((c : Thread nD τ).loc main_arg0)) (m ((c : Thread nD τ).loc main_arg2)) (m ((c : Thread nD τ).loc main_arg3))
      (ix2 (rowIn (blkOf (t.val - 1)) r) o) := by
  have hN : t.val < 129 := lt_of_lt_of_eq t.isLt N_0
  have hX : X m c (t.val - 1) = iblk m c 0 (⟨t.val - 1, lt_of_le_of_lt (Nat.sub_le _ _) t.isLt⟩ : Fin cfg0.N) := X_val m c ⟨t.val - 1, _⟩
  unfold dxAt
  rw [if_neg ht, hX]
  refine (product_at _ _ _ r o).trans ?_
  rw [row_eq]
  have hw : (fun k : Fin 4864 => iblk m c 2 t (ix2 k o)) = fun k => m ((c : Thread nD τ).loc main_arg2) (ix2 k o) := funext fun k => iblk2_apply m c t k o
  rw [hw, iblk3_apply]
  rfl

theorem high_point (t : Fin cfg0.N) (r : Fin 256) (o : Fin 4864) :
    qhOf (iblk m c 0 t) (ix2 r o) = highOf (m ((c : Thread nD τ).loc main_arg0)) (ix2 (rowIn (blkOf t.val) r) o) := by
  refine (qhOf_at _ r o).trans ?_
  rw [row_eq]
  rfl

theorem low_point (t : Fin cfg0.N) (r : Fin 256) (o : Fin 4864) :
    qlOf (iblk m c 0 t) (ix2 r o) = lowOf (m ((c : Thread nD τ).loc main_arg0)) (ix2 (rowIn (blkOf t.val) r) o) := by
  refine (qlOf_at _ r o).trans ?_
  rw [row_eq]
  rfl

theorem stat_point (t : Fin cfg0.N) (k : Fin 8) (l : Fin 256) :
    statOf (iblk m c 0 t) (iblk m c 1 t) (ix3 0 k l)
      = statsOf (m ((c : Thread nD τ).loc main_arg0)) (m ((c : Thread nD τ).loc main_arg1)) (ix3 (blkOf t.val) k l) := by
  refine (statOf_at _ _ k l).trans ?_
  have hp : (fun n : Fin 448 => iblk m c 1 t (ix2 l n)) = fun n => m ((c : Thread nD τ).loc main_arg1) (ix2 (rowIn (blkOf t.val) l) n) :=
    funext fun n => iblk1_apply m c t l n
  rw [row_eq, hp]
  rfl

/-! ### The result arrays -/

theorem flush4 : ∀ t : Fin cfg0.N, (cfg0.win 4).flush t = true → t.val ≠ 0 := (by decide +kernel : ∀ t : Fin grid0.N, _)

theorem dx_eq : (dats m 0 c).arrAt 4 cfg0.N
    = dxOf (m ((c : Thread nD τ).loc main_arg0)) (m ((c : Thread nD τ).loc main_arg2)) (m ((c : Thread nD τ).loc main_arg3)) := by
  refine (dats m 0 c).arrAt_eq_of_covers 4 _ (by decide +kernel) fun t hf y => ?_
  blk_simp
  rw [after0_4]
  have ht := flush4 t hf
  have hy : y = ix2 (n0 := 256) (n1 := 896) (y 0) (y 1) := eq_ix2 (n0 := 256) (n1 := 896) y
  generalize hr0 : (y 0 : Fin 256) = r at hy
  generalize hr1 : (y 1 : Fin 896) = o at hy
  subst hy
  refine (dx_point m c t ht r o).trans ?_
  exact congrArg (dxOf (m ((c : Thread nD τ).loc main_arg0)) (m ((c : Thread nD τ).loc main_arg2)) (m ((c : Thread nD τ).loc main_arg3)))
    (emb4_apply t ht r o).symm

theorem high_eq : (dats m 0 c).arrAt 5 cfg0.N = highOf (m ((c : Thread nD τ).loc main_arg0)) := by
  refine (dats m 0 c).arrAt_eq_of_covers 5 _ (by decide +kernel) fun t hf y => ?_
  blk_simp
  rw [after0_5]
  have hy : y = ix2 (n0 := 256) (n1 := 4864) (y 0) (y 1) := eq_ix2 (n0 := 256) (n1 := 4864) y
  generalize hr0 : (y 0 : Fin 256) = r at hy
  generalize hr1 : (y 1 : Fin 4864) = o at hy
  subst hy
  refine (high_point m c t r o).trans ?_
  exact congrArg (highOf (m ((c : Thread nD τ).loc main_arg0))) (emb5_apply t r o).symm

theorem low_eq : (dats m 0 c).arrAt 6 cfg0.N = lowOf (m ((c : Thread nD τ).loc main_arg0)) := by
  refine (dats m 0 c).arrAt_eq_of_covers 6 _ (by decide +kernel) fun t hf y => ?_
  blk_simp
  rw [after0_6]
  have hy : y = ix2 (n0 := 256) (n1 := 4864) (y 0) (y 1) := eq_ix2 (n0 := 256) (n1 := 4864) y
  generalize hr0 : (y 0 : Fin 256) = r at hy
  generalize hr1 : (y 1 : Fin 4864) = o at hy
  subst hy
  refine (low_point m c t r o).trans ?_
  exact congrArg (lowOf (m ((c : Thread nD τ).loc main_arg0))) (emb6_apply t r o).symm

theorem stats_eq : (dats m 0 c).arrAt 7 cfg0.N
    = statsOf (m ((c : Thread nD τ).loc main_arg0)) (m ((c : Thread nD τ).loc main_arg1)) := by
  refine (dats m 0 c).arrAt_eq_of_covers 7 _ (by decide +kernel) fun t hf y => ?_
  blk_simp
  rw [after0_7]
  have hy : y = ix3 (n0 := 1) (n1 := 8) (n2 := 256) 0 (y 1) (y 2) := (eq_ix3 (n0 := 1) (n1 := 8) (n2 := 256) y).trans
    (congrArg (fun a : Fin 1 => ix3 (n0 := 1) (n1 := 8) (n2 := 256) a (y 1) (y 2)) (Subsingleton.elim (α := Fin 1) (y 0) 0))
  generalize hr1 : (y 1 : Fin 8) = k at hy
  generalize hr2 : (y 2 : Fin 256) = l at hy
  subst hy
  refine (stat_point m c t k l).trans ?_
  exact congrArg (statsOf (m ((c : Thread nD τ).loc main_arg0)) (m ((c : Thread nD τ).loc main_arg1))) (emb7_apply t k l).symm

end Cert.KDxIdeal.Dx

end
-- ==== Proof.Nibble.lean ====
/-
  The two ways of decoding the signed four-bit halves of a byte agree: the kernel shifts the byte up and arithmetically down again, the reference masks
  the half out and subtracts 16 where it is 8 or more.
-/
module

public import Idealize.ShloMosaic.Lib.Pointwise

@[expose] public section

namespace Cert.Nibble

open Idealize.ShloMosaic

theorem lo (b : BitVec 8) :
    IntOp.shrsi .vector (IntOp.shli .vector (BitVec.setWidth 32 b) 28#32) 28#32
      = IntOp.andi (BitVec.setWidth 32 b) 15#32 - 16#32 * BitVec.setWidth 32 (IntOp.cmpi .sge (IntOp.andi (BitVec.setWidth 32 b) 15#32) 8#32) := by
  revert b; decide +kernel

theorem hi (b : BitVec 8) :
    IntOp.shrsi .vector (IntOp.shli .vector (BitVec.setWidth 32 b) 24#32) 28#32
      = IntOp.andi (IntOp.shrsi .vector (BitVec.setWidth 32 b) 4#32) 15#32
        - 16#32 * BitVec.setWidth 32 (IntOp.cmpi .sge (IntOp.andi (IntOp.shrsi .vector (BitVec.setWidth 32 b) 4#32) 15#32) 8#32) := by
  revert b; decide +kernel

end Cert.Nibble
-- ==== Proof.DxRef.lean ====
/-
  The quantising call's reference over the extended reals, one index at a time: its scales, codes and residual are those of `DxRow` on the row,
  its product is `DxRow.dxV`, and its statistics are the scales, the sums of squares and the sum of the squared activations.
-/
module

public import proofs.«01_k».proof.Proof.Gen.RDxIdeal.Value
public import proofs.«01_k».proof.Proof.DxRow
public import proofs.«01_k».proof.Proof.Nibble
public import Idealize.ShloMosaic.Lib.Pointwise

@[expose] public section
set_option maxRecDepth 16384

noncomputable section

namespace Cert.RDxIdeal.Dx

open Cert.RDxIdeal Cert.RDxIdeal.Gen Idealize.ShloMosaic Idealize.ShloMosaic.TcCoe Idealize.ShloMosaic.Pointwise Cert.DxRow

/-! ### The steps, for any array -/

/-- A row of an array. -/
def rowOf (x : FVec Ideal S32768x4864 .f32) (r : Fin 32768) : Row := fun k => x (ix2 r k)

theorem scale_of (m : FVec Ideal S32768 .f32) (r : Fin 32768) (c : Fin 1) :
    select (cmpf .oeq (shapeCast S32768x1 m shapeCasts_S32768_S32768x1) (broadcast S32768x1 (Scalar.ofBits .f32 0x00000000#32)))
      (broadcast S32768x1 (Scalar.ofBits .f32 0x3F800000#32))
      (divf (shapeCast S32768x1 m shapeCasts_S32768_S32768x1) (broadcast S32768x1 (Scalar.ofBits .f32 0x40E00000#32))) (ix2 r c)
      = sc (m (ix1 r)) := by
  pointwise []
  rfl

/-- The largest absolute value of each row. -/
def tops (x : FVec Ideal S32768x4864 .f32) : FVec Ideal S32768 .f32 :=
  multiReduction .maximumf [1] S32768 (absf x) 0xFF800000#32 reduces_S32768x4864_S32768 (.inl rfl) rfl

theorem tops_at (x : FVec Ideal S32768x4864 .f32) (r : Fin 32768) : tops x (ix1 r) = amax (rowOf x r) := by
  unfold tops amax
  exact rowMax_at (absf x) _ _ _ r

/-- The scale of each row. -/
def scales (x : FVec Ideal S32768x4864 .f32) : FVec Ideal S32768x1 .f32 :=
  select (cmpf .oeq (shapeCast S32768x1 (tops x) shapeCasts_S32768_S32768x1) (broadcast S32768x1 (Scalar.ofBits .f32 0x00000000#32)))
    (broadcast S32768x1 (Scalar.ofBits .f32 0x3F800000#32))
    (divf (shapeCast S32768x1 (tops x) shapeCasts_S32768_S32768x1) (broadcast S32768x1 (Scalar.ofBits .f32 0x40E00000#32)))

theorem scale_at (x : FVec Ideal S32768x4864 .f32) (r : Fin 32768) (c : Fin 1) : scales x (ix2 r c) = sc (amax (rowOf x r)) :=
  (scale_of (tops x) r c).trans (congrArg sc (tops_at x r))

theorem code_at (x : FVec Ideal S32768x4864 .f32) (s : FVec Ideal S32768x1 .f32) (r : Fin 32768) (c : Fin 4864) :
    fptosi 8 (minimumf (broadcast S32768x4864 (Scalar.ofBits .f32 0x40E00000#32)) (maximumf (broadcast S32768x4864 (Scalar.ofBits .f32 0xC0E00000#32))
      (roundeven (divf x (broadcastTo S32768x4864 s broadcasts_S32768x1_S32768x4864))))) (ix2 r c)
      = Ideal.fptosi 8 (code (x (ix2 r c)) (s (ix2 r 0))) := by
  pointwise []
  rfl

theorem rest_at (x q : FVec Ideal S32768x4864 .f32) (s : FVec Ideal S32768x1 .f32) (r : Fin 32768) (c : Fin 4864) :
    subf x (mulf q (broadcastTo S32768x4864 s broadcasts_S32768x1_S32768x4864)) (ix2 r c) = x (ix2 r c) - q (ix2 r c) * s (ix2 r 0) := by
  pointwise []

theorem product_at (a b : FVec Ideal S32768x1 .f32) (e d : IVec S32768x4864 8) (w : Vec Ideal S4864x896 .fp8e4m3) (ws : Vec Ideal S1x896 .f32)
    (r : Fin 32768) (c : Fin 896) :
    k0_pay10 a e b d w ws (ix2 r c)
      = (a (ix2 r 0) * (∑ k : Fin 4864, FloatOps.sitofp (F := Ideal) .bf16 (e (ix2 r k)) * w (ix2 k c))
        + b (ix2 r 0) * (∑ k : Fin 4864, FloatOps.sitofp (F := Ideal) .bf16 (d (ix2 r k)) * w (ix2 k c))) * ws (ix2 0 c) := by
  pointwise [k0_pay10]

/-- The row of the whole gradient that row `l` of statistics block `a` is about. -/
abbrev rowIdx (a : Fin 128) (l : Fin 256) : Fin 32768 := rowIn a l

theorem high_cost_at (q : FVec Ideal S32768x4864 .f32) (a : Fin 128) (c : Fin 1) (l : Fin 256) :
    k0_pay18 (k0_pay14 q) (ix3 a c l) = cost (rowOf q (rowIdx a l)) := by
  pointwise [k0_pay18, k0_pay14]
  rfl

theorem low_cost_at (q : FVec Ideal S32768x4864 .f32) (a : Fin 128) (c : Fin 1) (l : Fin 256) :
    k0_pay19 q (ix3 a c l) = cost (rowOf q (rowIdx a l)) := by
  pointwise [k0_pay19]
  rfl

/-! ### The steps of this program -/

section steps
variable (v : Vec Ideal S32768x4864 .bf16)

/-- A row of the gradient. -/
def row (r : Fin 32768) : Row := fun k => v (ix2 r k)

theorem wide_row (r : Fin 32768) : rowOf (k0_pay2 v) r = row v r := rfl

theorem hiS_eq : k0_pay3 v = scales (k0_pay2 v) := rfl

theorem hiS_at (r : Fin 32768) (c : Fin 1) : k0_pay3 v (ix2 r c) = hiS (row v r) := by
  rw [hiS_eq, scale_at, wide_row]
  rfl

theorem hiC_at (r : Fin 32768) (c : Fin 4864) : k0_pay4 v (ix2 r c) = Ideal.fptosi 8 (hiQ (row v r) c) := by
  refine (code_at (k0_pay2 v) (k0_pay3 v) r c).trans ?_
  rw [hiS_at]
  rfl

theorem hiQ_at (r : Fin 32768) (c : Fin 4864) : k0_pay5 v (ix2 r c) = hiQ (row v r) c :=
  (congrArg (FloatOps.sitofp (F := Ideal) .f32) (hiC_at v r c)).trans (code_word .f32 _ _)

theorem res_at (r : Fin 32768) (c : Fin 4864) : k0_pay6 v (ix2 r c) = res (row v r) c := by
  refine (rest_at (k0_pay2 v) (k0_pay5 v) (k0_pay3 v) r c).trans ?_
  rw [hiS_at, hiQ_at]
  rfl

theorem res_row (r : Fin 32768) : rowOf (k0_pay6 v) r = res (row v r) := funext fun c => res_at v r c

theorem loS_eq : k0_pay7 v = scales (k0_pay6 v) := rfl

theorem loS_at (r : Fin 32768) (c : Fin 1) : k0_pay7 v (ix2 r c) = loS (row v r) := by
  rw [loS_eq, scale_at, res_row]
  rfl

theorem loC_at (r : Fin 32768) (c : Fin 4864) : k0_pay8 v (ix2 r c) = Ideal.fptosi 8 (loQ (row v r) c) := by
  refine (code_at (k0_pay6 v) (k0_pay7 v) r c).trans ?_
  rw [loS_at, res_at]
  rfl

theorem loQ_at (r : Fin 32768) (c : Fin 4864) : k0_pay9 v (ix2 r c) = loQ (row v r) c :=
  (congrArg (FloatOps.sitofp (F := Ideal) .f32) (loC_at v r c)).trans (code_word .f32 _ _)

/-- A column of the weight. -/
def colOf (w : Vec Ideal S4864x896 .fp8e4m3) (c : Fin 896) : Row := fun k => w (ix2 k c)

/-- The product with the weight. -/
theorem dx_at (w : Vec Ideal S4864x896 .fp8e4m3) (ws : Vec Ideal S1x896 .f32) (r : Fin 32768) (c : Fin 896) :
    k0_pay10 (k0_pay3 v) (k0_pay4 v) (k0_pay7 v) (k0_pay8 v) w ws (ix2 r c) = dxV (row v r) (colOf w c) (ws (ix2 0 c)) := by
  have hi : (∑ k : Fin 4864, FloatOps.sitofp (F := Ideal) .bf16 (k0_pay4 v (ix2 r k)) * w (ix2 k c)) = ∑ k : Fin 4864, hiQ (row v r) k * w (ix2 k c) :=
    Finset.sum_congr rfl fun k _ => congrArg (· * w (ix2 k c)) ((congrArg (FloatOps.sitofp (F := Ideal) .bf16) (hiC_at v r k)).trans (code_word .bf16 _ _))
  have lo : (∑ k : Fin 4864, FloatOps.sitofp (F := Ideal) .bf16 (k0_pay8 v (ix2 r k)) * w (ix2 k c)) = ∑ k : Fin 4864, loQ (row v r) k * w (ix2 k c) :=
    Finset.sum_congr rfl fun k _ => congrArg (· * w (ix2 k c)) ((congrArg (FloatOps.sitofp (F := Ideal) .bf16) (loC_at v r k)).trans (code_word .bf16 _ _))
  rw [product_at, hiS_at, loS_at, hi, lo]
  rfl

theorem hiS_row_at (a : Fin 128) (c : Fin 1) (l : Fin 256) : k0_pay16 (k0_pay3 v) (ix3 a c l) = hiS (row v (rowIdx a l)) := by
  pointwise [k0_pay16]
  exact hiS_at v (rowIdx a l) 0

theorem loS_row_at (a : Fin 128) (c : Fin 1) (l : Fin 256) : k0_pay17 (k0_pay7 v) (ix3 a c l) = loS (row v (rowIdx a l)) := by
  pointwise [k0_pay17]
  exact loS_at v (rowIdx a l) 0

theorem hiQ_row_at (a : Fin 128) (c : Fin 1) (l : Fin 256) :
    k0_pay18 (k0_pay14 (k0_pay5 v)) (ix3 a c l) = cost (hiQ (row v (rowIdx a l))) := by
  refine (high_cost_at (k0_pay5 v) a c l).trans ?_
  exact congrArg cost (funext fun k => hiQ_at v _ k)

theorem loQ_row_at (a : Fin 128) (c : Fin 1) (l : Fin 256) : k0_pay19 (k0_pay9 v) (ix3 a c l) = cost (loQ (row v (rowIdx a l))) := by
  refine (low_cost_at (k0_pay9 v) a c l).trans ?_
  exact congrArg cost (funext fun k => loQ_at v _ k)

theorem halves_at (x y : FVec Ideal S32768x448 .f32) (a : Fin 128) (c : Fin 1) (l : Fin 256) :
    k0_pay1 (k0_pay20 x y) (ix3 a c l) = ∑ k : Fin 448, x (ix2 (rowIdx a l) k) * x (ix2 (rowIdx a l) k) + ∑ k : Fin 448, y (ix2 (rowIdx a l) k) * y (ix2 (rowIdx a l) k) := by
  pointwise [k0_pay1, k0_pay20]
  rfl

theorem loN_at (p : Vec Ideal S32768x448 .i8) (r : Fin 32768) (k : Fin 448) : k0_pay12 p (ix2 r k) = loN (p (ix2 r k)) := by
  pointwise [k0_pay12, k0_pay11]
  unfold loN
  rw [Cert.Nibble.lo]
  rfl

theorem hiN_at (p : Vec Ideal S32768x448 .i8) (r : Fin 32768) (k : Fin 448) : k0_pay13 p (ix2 r k) = hiN (p (ix2 r k)) := by
  pointwise [k0_pay13, k0_pay11]
  unfold hiN
  rw [Cert.Nibble.hi]
  rfl

theorem costX_row_at (p : Vec Ideal S32768x448 .i8) (a : Fin 128) (c : Fin 1) (l : Fin 256) :
    k0_pay1 (k0_pay20 (k0_pay12 p) (k0_pay13 p)) (ix3 a c l) = costX fun k => p (ix2 (rowIdx a l) k) := by
  rw [halves_at]
  unfold costX
  refine congrArg₂ _ (Finset.sum_congr rfl fun k _ => ?_) (Finset.sum_congr rfl fun k _ => ?_)
  · rw [loN_at]
  · rw [hiN_at]

end steps

end Cert.RDxIdeal.Dx
-- ==== Proof.DxRefArr.lean ====
/-
  The quantising call's reference as a whole, over the extended reals: its four result arrays as functions of its arguments.
-/
module

public import proofs.«01_k».proof.Proof.DxRef
public import Idealize.ShloMosaic.Lib.WholeRead
public import Idealize.ShloMosaic.Lib.Writes
public import Idealize.ShloMosaic.Lib.Pipeline.ValueKit.Point

@[expose] public section

set_option maxRecDepth 16384

noncomputable section

namespace Cert.RDxIdeal.Dx

open Cert.RDxIdeal Cert.RDxIdeal.Gen Idealize.ShloMosaic Idealize.ShloMosaic.TcCoe Idealize.ShloMosaic.Pointwise Cert.DxRow

/-! ### Whole reads and writes -/

section whole
variable {κ : Kind} {sp : Space}

/-- A load of a whole operand is the operand. -/
theorem load_whole {d0 d1 : ℕ} {e : EltTy} (a : Memref sig .tc .vmem ⟨2, ![d0, d1]⟩ e) (h : a.IsWhole) (x : Vec Ideal ⟨2, ![d0, d1]⟩ e)
    (inb : ∀ k, (![0, 0] : Fin 2 → ℕ) k + (![d0, d1] : Fin 2 → ℕ) k ≤ (⟨2, ![d0, d1]⟩ : Shape).size k) :
    View.readAt (Elt Ideal) a.view (Rect.unit (s := ⟨2, ![d0, d1]⟩) ![0, 0] ![d0, d1] inb).toLoadRect (h.unread x) = x := by
  funext z
  refine (h.readAt_unread x _ z).trans (congrArg x (funext fun k => Fin.ext ?_))
  match k with
  | ⟨0, _⟩ => exact (Nat.zero_add _).trans (Nat.one_mul _)
  | ⟨1, _⟩ => exact (Nat.zero_add _).trans (Nat.one_mul _)

/-- A store of a whole array is the array. -/
theorem store_whole {d0 d1 : ℕ} {e : EltTy} (v : View sig κ sp ⟨2, ![d0, d1]⟩ e) (f : v.ty.Contents (Elt Ideal))
    (inb : ∀ k, (![0, 0] : Fin 2 → ℕ) k + (![d0, d1] : Fin 2 → ℕ) k ≤ (⟨2, ![d0, d1]⟩ : Shape).size k)
    (w : Vec Ideal ⟨2, ![d0, d1]⟩ e) (y : (⟨2, ![d0, d1]⟩ : Shape).Idx) :
    v.read (Elt Ideal) (v.writes (Elt Ideal) f [⟨Rect.unit (s := ⟨2, ![d0, d1]⟩) ![0, 0] ![d0, d1] inb, w⟩]) y = w y := by
  refine View.read_writes_cons_hit_of_coords v f (Rect.unit (s := ⟨2, ![d0, d1]⟩) ![0, 0] ![d0, d1] inb) w [] y y fun k => ?_
  match k with
  | ⟨0, _⟩ => exact ((Nat.zero_add _).trans (Nat.one_mul _)).symm
  | ⟨1, _⟩ => exact ((Nat.zero_add _).trans (Nat.one_mul _)).symm

variable (v : View sig κ sp S128x8x256 .f32) (f : v.ty.Contents (Elt Ideal)) (L : List (View.Piece (Elt Ideal) S128x8x256 .f32))

/-- The store of row `j` of the statistics, read in that row, -/
theorem row_hit (j : ℕ) (inb : ∀ k, (![0, j, 0] : Fin 3 → ℕ) k + S128x1x256.size k ≤ S128x8x256.size k) (w : Vec Ideal S128x1x256 .f32)
    (a : Fin 128) (k : Fin 8) (l : Fin 256) (hk : k.val = j) :
    v.read (Elt Ideal) (v.writes (Elt Ideal) f (⟨Rect.unit (s := S128x8x256) ![0, j, 0] S128x1x256.size inb, w⟩ :: L)) (ix3 a k l) = w (ix3 a 0 l) := by
  refine View.read_writes_cons_hit_of_coords v f (Rect.unit (s := S128x8x256) ![0, j, 0] S128x1x256.size inb) w L (ix3 a 0 l) (ix3 a k l) fun d => ?_
  match d with
  | ⟨0, _⟩ => show a.val = 0 + 1 * a.val; omega
  | ⟨1, _⟩ => show k.val = j + 1 * 0; omega
  | ⟨2, _⟩ => show l.val = 0 + 1 * l.val; omega

/-- and read in another row. -/
theorem row_miss (j : ℕ) (inb : ∀ k, (![0, j, 0] : Fin 3 → ℕ) k + S128x1x256.size k ≤ S128x8x256.size k) (w : Vec Ideal S128x1x256 .f32)
    (a : Fin 128) (k : Fin 8) (l : Fin 256) (hk : k.val ≠ j) :
    v.read (Elt Ideal) (v.writes (Elt Ideal) f (⟨Rect.unit (s := S128x8x256) ![0, j, 0] S128x1x256.size inb, w⟩ :: L)) (ix3 a k l)
      = v.read (Elt Ideal) (v.writes (Elt Ideal) f L) (ix3 a k l) := by
  refine View.read_writes_cons_miss_of_axis v f _ L _ (1 : Fin 3) j 1 rfl rfl rfl ?_
  show k.val < j ∨ j + 1 ≤ k.val
  omega

/-- A store of the whole of the statistics. -/
theorem all_hit (inb : ∀ k, (![0, 0, 0] : Fin 3 → ℕ) k + S128x8x256.size k ≤ S128x8x256.size k) (w : Vec Ideal S128x8x256 .f32) (y : S128x8x256.Idx) :
    v.read (Elt Ideal) (v.writes (Elt Ideal) f (⟨Rect.unit (s := S128x8x256) ![0, 0, 0] S128x8x256.size inb, w⟩ :: L)) y = w y := by
  refine View.read_writes_cons_hit_of_coords v f (Rect.unit (s := S128x8x256) ![0, 0, 0] S128x8x256.size inb) w L y y fun d => ?_
  match d with
  | ⟨0, _⟩ => exact ((Nat.zero_add _).trans (Nat.one_mul _)).symm
  | ⟨1, _⟩ => exact ((Nat.zero_add _).trans (Nat.one_mul _)).symm
  | ⟨2, _⟩ => exact ((Nat.zero_add _).trans (Nat.one_mul _)).symm

end whole

theorem zeros_at (y : S128x8x256.Idx) : k0_pay15 (F := Ideal) y = (0 : EReal) := Ideal.ofBits_zero .f32

/-! ### What the body leaves -/

section outs
variable (c : Dev nD) (arg0 : Memref sig .tc .vmem S32768x4864 .bf16) (harg0 : arg0.IsWhole) (arg1 : Memref sig .tc .vmem S32768x448 .i8) (harg1 : arg1.IsWhole)
  (arg2 : Memref sig .tc .vmem S4864x896 .fp8e4m3) (harg2 : arg2.IsWhole) (arg3 : Memref sig .tc .vmem S1x896 .f32) (harg3 : arg3.IsWhole)
  (arg4 : Memref sig .tc .vmem S32768x896 .bf16) (harg4 : arg4.IsWhole) (arg5 : Memref sig .tc .vmem S32768x4864 .i8) (harg5 : arg5.IsWhole)
  (arg6 : Memref sig .tc .vmem S32768x4864 .i8) (harg6 : arg6.IsWhole) (arg7 : Memref sig .tc .vmem S128x8x256 .f32) (harg7 : arg7.IsWhole)
  (x0 : Vec Ideal S32768x4864 .bf16) (x1 : Vec Ideal S32768x448 .i8) (x2 : Vec Ideal S4864x896 .fp8e4m3) (x3 : Vec Ideal S1x896 .f32)

theorem r_eq : kernelRun0_A.sl.r c arg0 harg0 x0 = k0_pay3 x0 := by unfold kernelRun0_A.sl.r; rw [load_whole arg0 harg0 x0]
theorem r1_eq : kernelRun0_A.sl.r_1 c arg0 harg0 x0 = k0_pay4 x0 := by unfold kernelRun0_A.sl.r_1; rw [load_whole arg0 harg0 x0]
theorem r2_eq : kernelRun0_A.sl.r_2 c arg0 harg0 x0 = k0_pay5 x0 := by unfold kernelRun0_A.sl.r_2; rw [load_whole arg0 harg0 x0]
theorem r3_eq : kernelRun0_A.sl.r_3 c arg0 harg0 x0 = k0_pay7 x0 := by unfold kernelRun0_A.sl.r_3; rw [load_whole arg0 harg0 x0]
theorem r4_eq : kernelRun0_A.sl.r_4 c arg0 harg0 x0 = k0_pay8 x0 := by unfold kernelRun0_A.sl.r_4; rw [load_whole arg0 harg0 x0]
theorem r5_eq : kernelRun0_A.sl.r_5 c arg0 harg0 x0 = k0_pay9 x0 := by unfold kernelRun0_A.sl.r_5; rw [load_whole arg0 harg0 x0]
theorem r6_eq : kernelRun0_A.sl.r_6 c arg1 harg1 x1 = k0_pay12 x1 := by unfold kernelRun0_A.sl.r_6; rw [load_whole arg1 harg1 x1]
theorem r7_eq : kernelRun0_A.sl.r_7 c arg1 harg1 x1 = k0_pay13 x1 := by unfold kernelRun0_A.sl.r_7; rw [load_whole arg1 harg1 x1]
theorem r8_eq : kernelRun0_A.sl.r_8 c arg0 harg0 x0 = k0_pay14 (k0_pay5 x0) := by unfold kernelRun0_A.sl.r_8; rw [r2_eq]
theorem r9_eq : kernelRun0_A.sl.r_9 c arg1 harg1 x1 = k0_pay20 (k0_pay12 x1) (k0_pay13 x1) := by unfold kernelRun0_A.sl.r_9; rw [r6_eq, r7_eq]

theorem out4_eq : out0_A_4 c arg0 harg0 arg1 harg1 arg2 harg2 arg3 harg3 arg4 harg4 arg5 harg5 arg6 harg6 arg7 harg7 x0 x1 x2 x3 = dxOf x0 x2 x3 := by
  funext y
  unfold out0_A_4 kernelRun0_A
  dsimp only
  rw [r_eq, r1_eq, r3_eq, r4_eq]
  refine (store_whole VO0_4 _ _ _ y).trans ?_
  rw [load_whole arg2 harg2 x2, load_whole arg3 harg3 x3, eq_ix2 (n0 := 32768) (n1 := 896) y]
  exact dx_at x0 x2 x3 (y 0) (y 1)

theorem out5_eq : out0_A_5 c arg0 harg0 arg1 harg1 arg2 harg2 arg3 harg3 arg4 harg4 arg5 harg5 arg6 harg6 arg7 harg7 x0 x1 x2 x3 = highOf x0 := by
  funext y
  unfold out0_A_5 kernelRun0_A
  dsimp only
  refine (store_whole VO0_5 _ _ _ y).trans ?_
  rw [load_whole arg0 harg0 x0, eq_ix2 (n0 := 32768) (n1 := 4864) y]
  exact hiC_at x0 (y 0) (y 1)

theorem out6_eq : out0_A_6 c arg0 harg0 arg1 harg1 arg2 harg2 arg3 harg3 arg4 harg4 arg5 harg5 arg6 harg6 arg7 harg7 x0 x1 x2 x3 = lowOf x0 := by
  funext y
  unfold out0_A_6 kernelRun0_A
  dsimp only
  rw [r4_eq]
  refine (store_whole VO0_6 _ _ _ y).trans ?_
  rw [eq_ix2 (n0 := 32768) (n1 := 4864) y]
  exact loC_at x0 (y 0) (y 1)

theorem out7_at (a : Fin 128) (k : Fin 8) (l : Fin 256) :
    out0_A_7 c arg0 harg0 arg1 harg1 arg2 harg2 arg3 harg3 arg4 harg4 arg5 harg5 arg6 harg6 arg7 harg7 x0 x1 x2 x3 (ix3 a k l)
      = statRow (row x0 (rowIdx a l)) (fun n => x1 (ix2 (rowIdx a l) n)) k.val := by
  unfold out0_A_7 kernelRun0_A
  dsimp only
  unfold kernelRun0_A.sl.H7_5
  rw [r_eq, r3_eq, r5_eq, r8_eq, r9_eq]
  unfold statRow
  by_cases h4 : k.val = 4
  · rw [if_neg (by omega), if_neg (by omega), if_neg (by omega), if_neg (by omega), if_pos h4]
    exact (row_hit VO0_7 _ _ 4 _ _ a k l h4).trans (costX_row_at x1 a 0 l)
  refine (row_miss VO0_7 _ _ 4 _ _ a k l h4).trans ?_
  by_cases h3 : k.val = 3
  · rw [if_neg (by omega), if_neg (by omega), if_neg (by omega), if_pos h3]
    exact (row_hit VO0_7 _ _ 3 _ _ a k l h3).trans (loQ_row_at x0 a 0 l)
  refine (row_miss VO0_7 _ _ 3 _ _ a k l h3).trans ?_
  by_cases h2 : k.val = 2
  · rw [if_neg (by omega), if_neg (by omega), if_pos h2]
    exact (row_hit VO0_7 _ _ 2 _ _ a k l h2).trans (hiQ_row_at x0 a 0 l)
  refine (row_miss VO0_7 _ _ 2 _ _ a k l h2).trans ?_
  by_cases h1 : k.val = 1
  · rw [if_neg (by omega), if_pos h1]
    exact (row_hit VO0_7 _ _ 1 _ _ a k l h1).trans (loS_row_at x0 a 0 l)
  refine (row_miss VO0_7 _ _ 1 _ _ a k l h1).trans ?_
  by_cases h0 : k.val = 0
  · rw [if_pos h0]
    exact (row_hit VO0_7 _ _ 0 _ _ a k l h0).trans (hiS_row_at x0 a 0 l)
  refine (row_miss VO0_7 _ _ 0 _ _ a k l h0).trans ?_
  rw [if_neg h0, if_neg h1, if_neg h2, if_neg h3, if_neg h4]
  exact (all_hit VO0_7 _ _ _ _ _).trans (zeros_at _)

theorem out7_eq : out0_A_7 c arg0 harg0 arg1 harg1 arg2 harg2 arg3 harg3 arg4 harg4 arg5 harg5 arg6 harg6 arg7 harg7 x0 x1 x2 x3 = statsOf x0 x1 := by
  funext y
  rw [eq_ix3 (n0 := 128) (n1 := 8) (n2 := 256) y]
  exact out7_at c arg0 harg0 arg1 harg1 arg2 harg2 arg3 harg3 arg4 harg4 arg5 harg5 arg6 harg6 arg7 harg7 x0 x1 x2 x3 (y 0) (y 1) (y 2)

end outs

/-! ### The result arrays -/

variable (m : (ℓ : Loc nD τ sig) → Buf (Elt Ideal) ℓ) (c : Dev nD)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)

theorem in0_at (t : Fin cfg0.N) (r : Fin 32768) (o : Fin 4864) : iblk m c 0 t (ix2 r o) = m ((c : Thread nD τ).loc main_arg0) (ix2 r o) := by
  blk_ext! [iblk, V, idx0 t]
theorem in1_at (t : Fin cfg0.N) (r : Fin 32768) (o : Fin 448) : iblk m c 1 t (ix2 r o) = m ((c : Thread nD τ).loc main_arg1) (ix2 r o) := by
  blk_ext! [iblk, V, idx1 t]
theorem in2_at (t : Fin cfg0.N) (r : Fin 4864) (o : Fin 896) : iblk m c 2 t (ix2 r o) = m ((c : Thread nD τ).loc main_arg2) (ix2 r o) := by
  blk_ext! [iblk, V, idx2 t]
theorem in3_at (t : Fin cfg0.N) (r : Fin 1) (o : Fin 896) : iblk m c 3 t (ix2 r o) = m ((c : Thread nD τ).loc main_arg3) (ix2 r o) := by
  blk_ext! [iblk, V, idx3 t]

theorem in0_eq (t : Fin cfg0.N) : (iblk m c 0 t : Vec Ideal S32768x4864 .bf16) = m ((c : Thread nD τ).loc main_arg0) := by
  funext y
  rw [eq_ix2 (n0 := 32768) (n1 := 4864) y]
  exact in0_at m c t (y 0) (y 1)
theorem in1_eq (t : Fin cfg0.N) : (iblk m c 1 t : Vec Ideal S32768x448 .i8) = m ((c : Thread nD τ).loc main_arg1) := by
  funext y
  rw [eq_ix2 (n0 := 32768) (n1 := 448) y]
  exact in1_at m c t (y 0) (y 1)
theorem in2_eq (t : Fin cfg0.N) : (iblk m c 2 t : Vec Ideal S4864x896 .fp8e4m3) = m ((c : Thread nD τ).loc main_arg2) := by
  funext y
  rw [eq_ix2 (n0 := 4864) (n1 := 896) y]
  exact in2_at m c t (y 0) (y 1)
theorem in3_eq (t : Fin cfg0.N) : (iblk m c 3 t : Vec Ideal S1x896 .f32) = m ((c : Thread nD τ).loc main_arg3) := by
  funext y
  rw [eq_ix2 (n0 := 1) (n1 := 896) y]
  exact in3_at m c t (y 0) (y 1)

/-- The one grid point. -/
abbrev only : Fin cfg0.N := ⟨0, by decide⟩

theorem whole4 : (cfg0.win 4).WholeAt only := by decide +kernel
theorem whole5 : (cfg0.win 5).WholeAt only := by decide +kernel
theorem whole6 : (cfg0.win 6).WholeAt only := by decide +kernel
theorem whole7 : (cfg0.win 7).WholeAt only := by decide +kernel

theorem dx_body (t : Fin cfg0.N) : (outsAt0 m c t).1
    = dxOf (m ((c : Thread nD τ).loc main_arg0)) (m ((c : Thread nD τ).loc main_arg2)) (m ((c : Thread nD τ).loc main_arg3)) := by
  unfold outsAt0
  dsimp only
  refine (out4_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (iblk m c 0 t) (iblk m c 1 t) (iblk m c 2 t) (iblk m c 3 t)).trans ?_
  rw [in0_eq, in2_eq, in3_eq]

theorem dx_eq : (dats m 0 c).arrAt 4 cfg0.N
    = dxOf (m ((c : Thread nD τ).loc main_arg0)) (m ((c : Thread nD τ).loc main_arg2)) (m ((c : Thread nD τ).loc main_arg3)) := by
  refine Pipeline.Dat.arrAt_eq_of_after_last _ 4 only whole4 _ fun j => ?_
  rw [after0_4, cast_eq]
  have h := congrFun (dx_body m c only) j
  exact h

theorem high_body (t : Fin cfg0.N) : (outsAt0 m c t).2.1
    = highOf (m ((c : Thread nD τ).loc main_arg0)) := by
  unfold outsAt0
  dsimp only
  refine (out5_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (iblk m c 0 t) (iblk m c 1 t) (iblk m c 2 t) (iblk m c 3 t)).trans ?_
  rw [in0_eq]

theorem high_eq : (dats m 0 c).arrAt 5 cfg0.N
    = highOf (m ((c : Thread nD τ).loc main_arg0)) := by
  refine Pipeline.Dat.arrAt_eq_of_after_last _ 5 only whole5 _ fun j => ?_
  rw [after0_5, cast_eq]
  have h := congrFun (high_body m c only) j
  exact h

theorem low_body (t : Fin cfg0.N) : (outsAt0 m c t).2.2.1
    = lowOf (m ((c : Thread nD τ).loc main_arg0)) := by
  unfold outsAt0
  dsimp only
  refine (out6_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (iblk m c 0 t) (iblk m c 1 t) (iblk m c 2 t) (iblk m c 3 t)).trans ?_
  rw [in0_eq]

theorem low_eq : (dats m 0 c).arrAt 6 cfg0.N
    = lowOf (m ((c : Thread nD τ).loc main_arg0)) := by
  refine Pipeline.Dat.arrAt_eq_of_after_last _ 6 only whole6 _ fun j => ?_
  rw [after0_6, cast_eq]
  have h := congrFun (low_body m c only) j
  exact h

theorem stats_body (t : Fin cfg0.N) : (outsAt0 m c t).2.2.2
    = statsOf (m ((c : Thread nD τ).loc main_arg0)) (m ((c : Thread nD τ).loc main_arg1)) := by
  unfold outsAt0
  dsimp only
  refine (out7_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (iblk m c 0 t) (iblk m c 1 t) (iblk m c 2 t) (iblk m c 3 t)).trans ?_
  rw [in0_eq, in1_eq]

theorem stats_eq : (dats m 0 c).arrAt 7 cfg0.N
    = statsOf (m ((c : Thread nD τ).loc main_arg0)) (m ((c : Thread nD τ).loc main_arg1)) := by
  refine Pipeline.Dat.arrAt_eq_of_after_last _ 7 only whole7 _ fun j => ?_
  rw [after0_7, cast_eq]
  have h := congrFun (stats_body m c only) j
  exact h

end Cert.RDxIdeal.Dx

end
-- ==== Proof.DxEq.lean ====
/-
  The quantising call and its reference leave the same four arrays, over the extended reals.
-/
module

public import proofs.«01_k».proof.Defs
public import proofs.«01_k».proof.Proof.DxFinal
public import proofs.«01_k».proof.Proof.DxRefArr
public import proofs.«01_k».proof.Proof.Gen.RDxIdeal.Value
public import Idealize.ShloMosaic.Adequacy

@[expose] public section

noncomputable section

namespace Cert.DxEq

open Idealize.ShloMosaic Idealize.SL.Sem Idealize.ShloMosaic.TcCoe Cert.DxRow

open Cert.KDxIdeal Cert.KDxIdeal.Gen in
/-- What the call leaves. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = dxOf (m ((c.tc : Thread nD τ).loc main_arg0)) (m ((c.tc : Thread nD τ).loc main_arg2)) (m ((c.tc : Thread nD τ).loc main_arg3))
      ∧ r.2.mem ((c.tc : Thread nD τ).loc main_v0_1) = highOf (m ((c.tc : Thread nD τ).loc main_arg0))
      ∧ r.2.mem ((c.tc : Thread nD τ).loc main_v0_2) = lowOf (m ((c.tc : Thread nD τ).loc main_arg0))
      ∧ r.2.mem ((c.tc : Thread nD τ).loc main_v0_3) = statsOf (m ((c.tc : Thread nD τ).loc main_arg0)) (m ((c.tc : Thread nD τ).loc main_arg1))) :=
  (θ_run _ _ _).mono (fun _ h c =>
    ⟨((h c).1 4).trans (Cert.KDxIdeal.Dx.dx_eq m c), ((h c).1 5).trans (Cert.KDxIdeal.Dx.high_eq m c),
      ((h c).1 6).trans (Cert.KDxIdeal.Dx.low_eq m c), ((h c).1 7).trans (Cert.KDxIdeal.Dx.stats_eq m c)⟩)
    (Cert.KDxIdeal.Dx.run_main (F := Ideal) m g)

/-- The quantising call computes the reference's four arrays. -/
theorem algebraic_dx : Cert.algebraic_KDxIdeal_RDxIdeal (hKDxIdeal := Cert.KDxIdeal.Gen.facts) (hRDxIdeal := Cert.RDxIdeal.Gen.facts) := by
  intro m g m' g' _ hargs
  have hrun := θ_run_and (kernel_run m g) (Cert.KDxIdeal.Dx.unchanged (F := Ideal) m g)
  refine ⟨fun c => dxOf (m ((c.tc : Thread Cert.KDxIdeal.nD Cert.KDxIdeal.τ).loc Cert.KDxIdeal.main_arg0)) (m ((c.tc : Thread Cert.KDxIdeal.nD Cert.KDxIdeal.τ).loc Cert.KDxIdeal.main_arg2))
      (m ((c.tc : Thread Cert.KDxIdeal.nD Cert.KDxIdeal.τ).loc Cert.KDxIdeal.main_arg3)),
    fun c => highOf (m ((c.tc : Thread Cert.KDxIdeal.nD Cert.KDxIdeal.τ).loc Cert.KDxIdeal.main_arg0)),
    fun c => lowOf (m ((c.tc : Thread Cert.KDxIdeal.nD Cert.KDxIdeal.τ).loc Cert.KDxIdeal.main_arg0)),
    fun c => statsOf (m ((c.tc : Thread Cert.KDxIdeal.nD Cert.KDxIdeal.τ).loc Cert.KDxIdeal.main_arg0)) (m ((c.tc : Thread Cert.KDxIdeal.nD Cert.KDxIdeal.τ).loc Cert.KDxIdeal.main_arg1)),
    (θ_run _ _ _).mono (fun r h c => ?_) hrun, ?_⟩
  · obtain ⟨hv, hk⟩ := h
    obtain ⟨h0, h1, h2, h3⟩ := hv c
    exact ⟨h0, h1, h2, h3, hk c⟩
  refine (θ_run (Cert.RDxIdeal.defs (F := Ideal)) _ _).mono (fun r h c => ?_) (Cert.RDxIdeal.Value.run_blocks (F := Ideal) m' g')
  obtain ⟨h0, h1, h2, h3, hk⟩ := h c
  obtain ⟨a0, a1, a2, a3⟩ := hargs c
  refine ⟨(h0.trans (Cert.RDxIdeal.Dx.dx_eq m' c)).trans ?_, (h1.trans (Cert.RDxIdeal.Dx.high_eq m' c)).trans ?_,
    (h2.trans (Cert.RDxIdeal.Dx.low_eq m' c)).trans ?_, (h3.trans (Cert.RDxIdeal.Dx.stats_eq m' c)).trans ?_, hk⟩
  · rw [a0, a2, a3]
  · rw [a0]
  · rw [a0]
  · rw [a0, a1]

end Cert.DxEq

end
-- ==== Proof.DwBody.lean ====
/-
  One point of the `dw` call, at the ideal instance: what the body leaves in the accumulator block, index by index.
  The 76 tiles the body stores into the scratch operand are read back as ONE function of the index (`aAt`), and the two
  products contract that function over the 512 rows.
-/
module

public import proofs.«01_k».proof.Proof.Gen.KDwIdeal.Value
public import Idealize.ShloMosaic.Lib.Pointwise
public import Idealize.ShloMosaic.Lib.WholeRead
public import Idealize.ShloMosaic.Lib.VecWindow
public import Idealize.ShloMosaic.Lib.Writes

@[expose] public section

set_option maxRecDepth 16384

noncomputable section

namespace Cert.KDwIdeal.DwBody

open Cert.KDwIdeal Cert.KDwIdeal.Gen Idealize.ShloMosaic Idealize.ShloMosaic.TcCoe Idealize.ShloMosaic.Pointwise

/-- The sampled rows, stacked: rows 0 to 255 the high parts scaled by their coefficients, rows 256 to 511 the low parts by theirs. -/
def aAt (x0 x1 : Vec Ideal S256x4864 .i8) (x3 : Vec Ideal S1x2x256 .f32) : Vec Ideal S512x4864 .bf16 := fun y =>
  if h : (y 0).val < 256 then FloatOps.sitofp (F := Ideal) .bf16 (x0 (ix2 ⟨(y 0).val, h⟩ (y 1))) * x3 (ix3 0 0 ⟨(y 0).val, h⟩)
  else FloatOps.sitofp (F := Ideal) .bf16 (x1 (ix2 ⟨(y 0).val - 256, by have : (y 0).val < 512 := (y 0).isLt; omega⟩ (y 1)))
    * x3 (ix3 0 1 ⟨(y 0).val - 256, by have : (y 0).val < 512 := (y 0).isLt; omega⟩)

variable (arg1 : Memref sig .tc .vmem S256x4864 .i8) (harg1 : arg1.IsWhole) (arg2 : Memref sig .tc .vmem S256x4864 .i8) (harg2 : arg2.IsWhole)
variable (arg4 : Memref sig .tc .vmem S1x2x256 .f32) (harg4 : arg4.IsWhole)
variable (x0 x1 : Vec Ideal S256x4864 .i8) (x3 : Vec Ideal S1x2x256 .f32)

/-- The coefficients as the body loads them. -/
abbrev cLoad : Vec Ideal S1x2x256 .f32 :=
  View.readAt (Elt Ideal) arg4.view (Rect.unit (s := S1x2x256) ![0, 0, 0] S1x2x256.size inb_S1x2x256_S1x2x256_0_0_0).toLoadRect (harg4.unread x3)

theorem cLoad_apply (a : Fin 2) (r : Fin 256) : cLoad arg4 harg4 x3 (ix3 0 a r) = x3 (ix3 0 a r) := by
  show View.readAt (Elt Ideal) arg4.view _ (harg4.unread x3) _ = _
  rw [harg4.readAt_unread]
  exact congrArg x3 (by funext d; match d with | ⟨0, _⟩ => rfl | ⟨1, _⟩ => exact Fin.ext (by show 0 + 1 * a.val = a.val; omega) | ⟨2, _⟩ => exact Fin.ext (by show 0 + 1 * r.val = r.val; omega))

/-- A tile of the high half of the scratch: `aAt` at the tile's place. -/
theorem tileHi {k : ℕ} (inb : ∀ a, (![0, k] : Fin 2 → ℕ) a + S256x128.size a ≤ S512x4864.size a)
    (inb' : ∀ a, (![0, k] : Fin 2 → ℕ) a + S256x128.size a ≤ S256x4864.size a)
    (w : S256x128.Idx → Elt Ideal .bf16)
    (hw : w = k0_pay6 (cLoad arg4 harg4 x3) (View.readAt (Elt Ideal) arg1.view (Rect.unit (s := S256x4864) ![0, k] S256x128.size inb').toLoadRect (harg1.unread x0)))
    (z : S256x128.Idx) : w z = aAt x0 x1 x3 ((Rect.unit (s := S512x4864) ![0, k] S256x128.size inb).emb z) := by
  subst hw
  idx_vars z
  pointwise [k0_pay6, k0_pay4, k0_pay3, cLoad_apply]
  rw [harg1.readAt_unread]
  have hk : k + 128 ≤ 4864 := inb 1
  unfold aAt
  rw [dif_pos (show (((Rect.unit (s := S512x4864) ![0, k] S256x128.size inb).emb (ix2 z0 z1)) 0).val < 256 by
    show 0 + 1 * z0.val < 256; omega)]
  congr 3
  · funext d
    match d with
    | ⟨0, _⟩ => rfl
    | ⟨1, _⟩ => rfl
  · congr 1
    exact Fin.ext (show z0.val = 0 + 1 * z0.val by omega)

/-- A tile of the low half. -/
theorem tileLo {k : ℕ} (inb : ∀ a, (![256, k] : Fin 2 → ℕ) a + S256x128.size a ≤ S512x4864.size a)
    (inb' : ∀ a, (![0, k] : Fin 2 → ℕ) a + S256x128.size a ≤ S256x4864.size a)
    (w : S256x128.Idx → Elt Ideal .bf16)
    (hw : w = k0_pay7 (cLoad arg4 harg4 x3) (View.readAt (Elt Ideal) arg2.view (Rect.unit (s := S256x4864) ![0, k] S256x128.size inb').toLoadRect (harg2.unread x1)))
    (z : S256x128.Idx) : w z = aAt x0 x1 x3 ((Rect.unit (s := S512x4864) ![256, k] S256x128.size inb).emb z) := by
  subst hw
  idx_vars z
  pointwise [k0_pay7, k0_pay5, k0_pay3, cLoad_apply]
  rw [harg2.readAt_unread]
  have hk : k + 128 ≤ 4864 := inb 1
  unfold aAt
  rw [dif_neg (show ¬ (((Rect.unit (s := S512x4864) ![256, k] S256x128.size inb).emb (ix2 z0 z1)) 0).val < 256 by
    show ¬ (256 + 1 * z0.val < 256); omega)]
  congr 3
  · funext d
    match d with
    | ⟨0, _⟩ => exact Fin.ext (show 0 + 1 * z0.val = 256 + 1 * z0.val - 256 by omega)
    | ⟨1, _⟩ => rfl
  · congr 1
    exact Fin.ext (show z0.val = 256 + 1 * z0.val - 256 by omega)

variable (arg6 : Memref sig .tc .vmem S512x4864 .bf16) (c : Dev nD)

set_option maxHeartbeats 800000

/-- The scratch operand as the products load it, in case A of the body. -/
theorem scratchA : arg6.view.readCov (kernelRun0_A.sl.HS0_76 c arg1 harg1 arg2 harg2 arg4 harg4 x0 x1 x3)
    (Rect.unit (s := S512x4864) ![0, 0] S512x4864.size inb_S512x4864_S512x4864_0_0).toLoadRect = aAt x0 x1 x3 := by
  unfold View.readCov
  rw [View.readAt_full]
  funext y
  refine View.read_writes_apply_of_pieces _ _ (aAt x0 x1 x3) _ ?_ y
    (View.cover_of_tiledL (kernelRun0_A.sl.HS0_76 c arg1 harg1 arg2 harg2 arg4 harg4 x0 x1 x3) S256x128.size (by sl_kernel_rfl) y)
  unfold kernelRun0_A.sl.HS0_76
  iterate 38
    refine List.forall_mem_cons.mpr ⟨tileLo arg2 harg2 arg4 harg4 x0 x1 x3 (by decide) (by decide) _ rfl, ?_⟩
    refine List.forall_mem_cons.mpr ⟨tileHi arg1 harg1 arg4 harg4 x0 x1 x3 (by decide) (by decide) _ rfl, ?_⟩
  exact fun x hx => absurd hx List.not_mem_nil

/-- The scratch operand as the products load it, in case B of the body. -/
theorem scratchB : arg6.view.readCov (kernelRun0_B.sl.HS0_76 c arg1 harg1 arg2 harg2 arg4 harg4 x0 x1 x3)
    (Rect.unit (s := S512x4864) ![0, 0] S512x4864.size inb_S512x4864_S512x4864_0_0).toLoadRect = aAt x0 x1 x3 := by
  unfold View.readCov
  rw [View.readAt_full]
  funext y
  refine View.read_writes_apply_of_pieces _ _ (aAt x0 x1 x3) _ ?_ y
    (View.cover_of_tiledL (kernelRun0_B.sl.HS0_76 c arg1 harg1 arg2 harg2 arg4 harg4 x0 x1 x3) S256x128.size (by sl_kernel_rfl) y)
  unfold kernelRun0_B.sl.HS0_76
  iterate 38
    refine List.forall_mem_cons.mpr ⟨tileLo arg2 harg2 arg4 harg4 x0 x1 x3 (by decide) (by decide) _ rfl, ?_⟩
    refine List.forall_mem_cons.mpr ⟨tileHi arg1 harg1 arg4 harg4 x0 x1 x3 (by decide) (by decide) _ rfl, ?_⟩
  exact fun x hx => absurd hx List.not_mem_nil

end Cert.KDwIdeal.DwBody

end
-- ==== Proof.DwPoint.lean ====
/-
  One grid step of the `dw` call as a function of the index: the first step leaves its products, a later step adds its products to what it found.
-/
module

public import proofs.«01_k».proof.Proof.DwBody
public import Idealize.ShloMosaic.Lib.WritesUnit

@[expose] public section

set_option maxRecDepth 16384

noncomputable section

namespace Cert.KDwIdeal.DwBody

open Cert.KDwIdeal Cert.KDwIdeal.Gen Idealize.ShloMosaic Idealize.ShloMosaic.TcCoe Idealize.ShloMosaic.Pointwise

/-- The signed nibble `k` of a byte as the body decodes it: low half for `k = 0`, high half for `k = 1`. -/
def nib (k : Fin 2) (b : BitVec 8) : BitVec 32 :=
  IntOp.shrsi .vector (IntOp.shli .vector (BitVec.setWidth 32 b) (if k = 0 then 28#32 else 24#32)) 28#32

/-- The products of one grid step at index `(k, i, o)` of the result: 256 rows of the high part, then 256 rows of the low part. -/
def term (x0 x1 : Vec Ideal S256x4864 .i8) (x2 : Vec Ideal S256x448 .i8) (x3 : Vec Ideal S1x2x256 .f32) (k : Fin 2) (i : Fin 448) (o : Fin 4864) : EReal :=
  (∑ r : Fin 256, (FloatOps.sitofp (F := Ideal) .f32 (nib k (x2 (ix2 r i))) : EReal) * ((FloatOps.sitofp (F := Ideal) .bf16 (x0 (ix2 r o)) : EReal) * x3 (ix3 0 0 r)))
    + ∑ r : Fin 256, (FloatOps.sitofp (F := Ideal) .f32 (nib k (x2 (ix2 r i))) : EReal) * ((FloatOps.sitofp (F := Ideal) .bf16 (x1 (ix2 r o)) : EReal) * x3 (ix3 0 1 r))

theorem aAt_hi (x0 x1 : Vec Ideal S256x4864 .i8) (x3 : Vec Ideal S1x2x256 .f32) (r : Fin 256) (h : r.val < 512) (o : Fin 4864) :
    aAt x0 x1 x3 (ix2 ⟨r.val, h⟩ o) = FloatOps.sitofp (F := Ideal) .bf16 (x0 (ix2 r o)) * x3 (ix3 0 0 r) :=
  dif_pos (show r.val < 256 from r.isLt)

theorem aAt_lo (x0 x1 : Vec Ideal S256x4864 .i8) (x3 : Vec Ideal S1x2x256 .f32) (r : Fin 256) (h : 256 + r.val < 512) (o : Fin 4864) :
    aAt x0 x1 x3 (ix2 ⟨256 + r.val, h⟩ o) = FloatOps.sitofp (F := Ideal) .bf16 (x1 (ix2 r o)) * x3 (ix3 0 1 r) := by
  unfold aAt
  refine (dif_neg (show ¬ 256 + r.val < 256 by omega)).trans ?_
  have key : ∀ r' : Fin 256, r' = r → (FloatOps.sitofp (F := Ideal) .bf16 (x1 (ix2 r' o)) : EReal) * x3 (ix3 0 1 r') = (FloatOps.sitofp (F := Ideal) .bf16 (x1 (ix2 r o)) : EReal) * x3 (ix3 0 1 r) := by
    rintro _ rfl; rfl
  exact key _ (Fin.ext (by show 256 + r.val - 256 = r.val; omega))

/-- The store of the low nibbles' products. -/
theorem pay90_apply (x0 x1 : Vec Ideal S256x4864 .i8) (x : Vec Ideal S256x448 .i8) (x3 : Vec Ideal S1x2x256 .f32) (o : Vec Ideal S1x448x4864 .f32) (i : Fin 448) (j : Fin 4864) :
    k0_pay90 x o (aAt x0 x1 x3) (ix3 0 i j) = (o (ix3 0 i j) : EReal) + term x0 x1 x x3 0 i j := by
  pointwise [k0_pay90, k0_pay89]
  simp only [aAt_hi, aAt_lo]
  rfl

/-- The store of the high nibbles' products. -/
theorem pay1_apply (x0 x1 : Vec Ideal S256x4864 .i8) (x : Vec Ideal S256x448 .i8) (x3 : Vec Ideal S1x2x256 .f32) (o : Vec Ideal S1x448x4864 .f32) (i : Fin 448) (j : Fin 4864) :
    k0_pay1 (k0_pay91 x) o (aAt x0 x1 x3) (ix3 0 i j) = (o (ix3 0 i j) : EReal) + term x0 x1 x x3 1 i j := by
  pointwise [k0_pay1, k0_pay91, k0_pay89]
  simp only [aAt_hi, aAt_lo]
  rfl

variable (arg1 : Memref sig .tc .vmem S256x4864 .i8) (harg1 : arg1.IsWhole) (arg2 : Memref sig .tc .vmem S256x4864 .i8) (harg2 : arg2.IsWhole)
variable (arg4 : Memref sig .tc .vmem S1x2x256 .f32) (harg4 : arg4.IsWhole) (arg6 : Memref sig .tc .vmem S512x4864 .bf16)
variable (x0 x1 : Vec Ideal S256x4864 .i8) (x3 : Vec Ideal S1x2x256 .f32)
variable (arg3 : Memref sig .tc .vmem S256x448 .i8) (harg3 : arg3.IsWhole) (arg5 : Memref sig .tc .vmem S2x448x4864 .f32) (harg5 : arg5.IsWhole)
variable (x2 : Vec Ideal S256x448 .i8) (xo : Vec Ideal S2x448x4864 .f32)

/-- The block of bytes as the body loads it. -/
theorem xLoad : View.readAt (Elt Ideal) arg3.view (Rect.unit (s := S256x448) ![0, 0] S256x448.size inb_S256x448_S256x448_0_0).toLoadRect (harg3.unread x2) = x2 := by
  rw [View.readAt_full]; exact harg3.read_unread x2

theorem emb3 (k : Fin 2) (inb : ∀ a, (![k.val, 0, 0] : Fin 3 → ℕ) a + S1x448x4864.size a ≤ S2x448x4864.size a) (i : Fin 448) (j : Fin 4864) :
    (Rect.unit (s := S2x448x4864) ![k.val, 0, 0] S1x448x4864.size inb).emb (ix3 0 i j) = ix3 k i j := by
  funext d
  match d with
  | ⟨0, _⟩ => exact Fin.ext (by show k.val + 1 * 0 = k.val; omega)
  | ⟨1, _⟩ => exact Fin.ext (by show 0 + 1 * i.val = i.val; omega)
  | ⟨2, _⟩ => exact Fin.ext (by show 0 + 1 * j.val = j.val; omega)

/-- A later step: what it found, plus its products. -/
theorem out_B (i : grid0.Coords) (harg6 : arg6.IsWhole) (hc0 : ¬cond0_0 i) (c : Dev nD) :
    out0_B_4 c i arg1 harg1 arg2 harg2 arg3 harg3 arg4 harg4 arg5 harg5 arg6 harg6 hc0 x0 x1 x2 x3 xo
      = fun y => (xo y : EReal) + term x0 x1 x2 x3 (y 0) (y 1) (y 2) := by
  funext y
  refine View.read_writes_apply_of_pieces _ _ (fun y => (xo y : EReal) + term x0 x1 x2 x3 (y 0) (y 1) (y 2)) _ ?_ y
    (cover0_B_4 c i arg1 harg1 arg2 harg2 arg3 harg3 arg4 harg4 arg5 harg5 arg6 harg6 hc0 x0 x1 x2 x3 xo y)
  unfold kernelRun0_B
  dsimp only
  refine List.forall_mem_cons.mpr ⟨?_, List.forall_mem_cons.mpr ⟨?_, fun x hx => absurd hx List.not_mem_nil⟩⟩
  · intro z
    idx_vars z
    rw [show z0 = 0 from Subsingleton.elim _ _]
    unfold kernelRun0_B.sl.r_12 kernelRun0_B.sl.v499 kernelRun0_B.sl.v497
    rw [scratchB, xLoad, pay1_apply]
    refine Eq.trans ?_ (congrArg (fun w : S2x448x4864.Idx => (xo w : EReal) + term x0 x1 x2 x3 (w 0) (w 1) (w 2)) (emb3 1 (by decide) z1 z2)).symm
    rw [harg5.readAt_unread]
    exact congrArg (fun w => (xo w : EReal) + term x0 x1 x2 x3 1 z1 z2) (emb3 1 (by decide) z1 z2)
  · intro z
    idx_vars z
    rw [show z0 = 0 from Subsingleton.elim _ _]
    unfold kernelRun0_B.sl.v490
    rw [scratchB, xLoad, pay90_apply]
    refine Eq.trans ?_ (congrArg (fun w : S2x448x4864.Idx => (xo w : EReal) + term x0 x1 x2 x3 (w 0) (w 1) (w 2)) (emb3 0 (by decide) z1 z2)).symm
    rw [harg5.readAt_unread]
    exact congrArg (fun w => (xo w : EReal) + term x0 x1 x2 x3 0 z1 z2) (emb3 0 (by decide) z1 z2)

/-- The accumulator after the first step has cleared it reads zero everywhere. -/
theorem cleared (y : S2x448x4864.Idx) :
    View.read (Elt Ideal) arg5.view (arg5.view.writes (Elt Ideal) arg5.view.junk (kernelRun0_A.sl.H4_1 (F := Ideal))) y = (0 : EReal) := by
  unfold kernelRun0_A.sl.H4_1
  refine (View.read_writes_cons_unit_of_mem (off' := ![0, 0, 0]) arg5.view _ _ _ _ _ y rfl
    (fun a => by match a with | ⟨0, _⟩ => exact (Nat.zero_add _).symm | ⟨1, _⟩ => exact (Nat.zero_add _).symm | ⟨2, _⟩ => exact (Nat.zero_add _).symm)).trans ?_
  idx_vars y
  pointwise [k0_pay2]

/-- The first step: its products alone. -/
theorem out_A (i : grid0.Coords) (harg6 : arg6.IsWhole) (hc0 : cond0_0 i) (c : Dev nD) :
    out0_A_4 c i arg1 harg1 arg2 harg2 arg3 harg3 arg4 harg4 arg5 harg5 arg6 harg6 hc0 x0 x1 x2 x3
      = fun y => (0 : EReal) + term x0 x1 x2 x3 (y 0) (y 1) (y 2) := by
  funext y
  unfold out0_A_4 kernelRun0_A
  dsimp only
  unfold kernelRun0_A.sl.r_12 kernelRun0_A.sl.v499 kernelRun0_A.sl.v497 kernelRun0_A.sl.H4_2
  rw [scratchA, xLoad]
  idx_vars y
  match y0 with
  | ⟨1, _⟩ =>
    refine (View.read_writes_cons_unit_of_mem (off' := ![1, 0, 0]) VO0_4 _ _ _ _ _ (ix3 0 y1 y2) rfl
      (fun a => by match a with | ⟨0, _⟩ => rfl | ⟨1, _⟩ => exact (Nat.zero_add _).symm | ⟨2, _⟩ => exact (Nat.zero_add _).symm)).trans ?_
    rw [pay1_apply]
    refine congrArg (· + term x0 x1 x2 x3 1 y1 y2) ?_
    unfold View.readCov
    refine (View.read_writes_cons_unit_of_not_mem (off' := ![0, 0, 0]) arg5.view _ _ _ _ _ rfl 0 (Or.inr (by show 0 + 1 ≤ 1 + 1 * 0; decide))).trans ?_
    exact cleared arg5 _
  | ⟨0, _⟩ =>
    refine (View.read_writes_cons_unit_of_not_mem (off' := ![1, 0, 0]) VO0_4 _ _ _ _ _ rfl 0 (Or.inl (by show 0 < 1; decide))).trans ?_
    refine (View.read_writes_cons_unit_of_mem (off' := ![0, 0, 0]) VO0_4 _ _ _ _ _ (ix3 0 y1 y2) rfl
      (fun a => by match a with | ⟨0, _⟩ => rfl | ⟨1, _⟩ => exact (Nat.zero_add _).symm | ⟨2, _⟩ => exact (Nat.zero_add _).symm)).trans ?_
    unfold kernelRun0_A.sl.v490
    rw [scratchA, pay90_apply]
    refine congrArg (· + term x0 x1 x2 x3 0 y1 y2) ?_
    unfold kernelRun0_A.sl.v488 View.readCov
    exact cleared arg5 _

end Cert.KDwIdeal.DwBody
end
-- ==== Proof.DwFold.lean ====
/-
  The `dw` call as a whole: the accumulator after grid step `n` is the sum of the first `n + 1` steps' products, and the result array is the accumulator
  after the last step.
-/
module

public import proofs.«01_k».proof.Proof.DwPoint
public import Idealize.ShloMosaic.Lib.Pipeline.ValueKit.Point

@[expose] public section

set_option maxRecDepth 16384

noncomputable section

namespace Cert.KDwIdeal.DwBody

open Cert.KDwIdeal Cert.KDwIdeal.Gen Idealize.ShloMosaic Idealize.ShloMosaic.TcCoe Idealize.ShloMosaic.Pointwise

variable (m : (ℓ : Loc nD τ sig) → Buf (Elt Ideal) ℓ) (c : Dev nD)

/-- The products of grid step `t`, of the launch arguments' blocks. -/
abbrev stepTerm (t : Fin cfg0.N) (y : S2x448x4864.Idx) : EReal :=
  term (iblk m c 0 t) (iblk m c 1 t) (iblk m c 2 t) (iblk m c 3 t) (y 0) (y 1) (y 2)

/-- The products of grid step `n`, zero past the grid. -/
def stepTermN (y : S2x448x4864.Idx) (n : ℕ) : EReal := if h : n < cfg0.N then stepTerm m c ⟨n, h⟩ y else 0

/-- The accumulator after step `n`. -/
theorem outsAt_eq (n : ℕ) (hn : n < cfg0.N) (y : S2x448x4864.Idx) :
    outsAt0 m c n hn y = ∑ k ∈ Finset.range (n + 1), stepTermN m c y k := by
  induction n with
  | zero =>
    rw [Finset.sum_range_one]
    unfold stepTermN
    rw [dif_pos hn]
    refine (congrFun (outsAt0_A m c ⟨0, hn⟩ rfl) y).trans ?_
    rw [out_A]
    exact zero_add _
  | succ n ih =>
    rw [Finset.sum_range_succ, ← ih (Nat.lt_of_succ_lt hn)]
    have h128 : n + 1 < 128 := hn
    have h0 : ¬ (n + 1) % 128 = 0 := by omega
    refine (congrFun (outsAt0_B m c ⟨n + 1, hn⟩ h0) y).trans ?_
    rw [out_B]
    unfold stepTermN
    rw [dif_pos hn]
    rfl

/-- A grid step's block index along the contracted axis is the step's number; the other axes have one block. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

theorem iblk0_apply (t : Fin cfg0.N) (r : Fin 256) (o : Fin 4864) (h : t.val * 256 + r.val < 32768) :
    iblk m c 0 t (ix2 r o) = m ((c : Thread nD τ).loc main_arg0) (ix2 ⟨t.val * 256 + r.val, h⟩ o) := by
  blk_ext! [iblk, V, idx0 t]
theorem iblk1_apply (t : Fin cfg0.N) (r : Fin 256) (o : Fin 4864) (h : t.val * 256 + r.val < 32768) :
    iblk m c 1 t (ix2 r o) = m ((c : Thread nD τ).loc main_arg1) (ix2 ⟨t.val * 256 + r.val, h⟩ o) := by
  blk_ext! [iblk, V, idx1 t]
theorem iblk2_apply (t : Fin cfg0.N) (r : Fin 256) (o : Fin 448) (h : t.val * 256 + r.val < 32768) :
    iblk m c 2 t (ix2 r o) = m ((c : Thread nD τ).loc main_arg2) (ix2 ⟨t.val * 256 + r.val, h⟩ o) := by
  blk_ext! [iblk, V, idx2 t]
theorem iblk3_apply (t : Fin cfg0.N) (k : Fin 2) (r : Fin 256) :
    iblk m c 3 t (ix3 0 k r) = m ((c : Thread nD τ).loc main_arg3) (ix3 t k r) := by
  blk_ext! [iblk, V, idx3 t]

/-- The result array: the sum of all the steps' products. -/
def total (y : S2x448x4864.Idx) : EReal := ∑ k ∈ Finset.range 128, stepTermN m c y k

theorem whole4 : (cfg0.win 4).WholeAt (⟨127, by decide⟩ : Fin cfg0.N) := by decide +kernel

/-- The result array after the run is the accumulator after the last step. -/
theorem final_eq : (dats m 0 c).arrAt 4 cfg0.N = total m c := by
  refine Pipeline.Dat.arrAt_eq_of_after_last _ 4 (⟨127, by decide⟩ : Fin cfg0.N) whole4 _ fun j => ?_
  rw [after0_4, cast_eq]
  have h := outsAt_eq m c 127 (by decide) j
  exact h

end Cert.KDwIdeal.DwBody
end
-- ==== Proof.DwRef.lean ====
/-
  The reference of the `dw` call, read at an index: for each of the two nibbles, one sum over all 32768 rows of the high part and one of the low part.
-/
module

public import proofs.«01_k».proof.Proof.Gen.RDwIdeal.Value
public import proofs.«01_k».proof.Proof.Nibble
public import Idealize.ShloMosaic.Lib.Pointwise
public import Idealize.ShloMosaic.Lib.Pipeline.ValueKit.Tiles

@[expose] public section

set_option maxRecDepth 16384

noncomputable section

namespace Cert.RDwIdeal.DwRef

open Cert.RDwIdeal Cert.RDwIdeal.Gen Idealize.ShloMosaic Idealize.ShloMosaic.TcCoe Idealize.ShloMosaic.Pointwise

/-- The signed nibble `k` of a byte: low half for `k = 0`, high half for `k = 1`. -/
def nib (k : Fin 2) (b : BitVec 8) : BitVec 32 :=
  IntOp.shrsi .vector (IntOp.shli .vector (BitVec.setWidth 32 b) (if k = 0 then 28#32 else 24#32)) 28#32

/-- One row's product: nibble times code times coefficient. -/
def rowTerm (x : BitVec 8) (q : BitVec 8) (w : EReal) (k : Fin 2) : EReal :=
  (FloatOps.sitofp (F := Ideal) .bf16 (nib k x) : EReal) * ((FloatOps.sitofp (F := Ideal) .bf16 q : EReal) * w)

variable (a0 : Vec Ideal S32768x4864 .i8) (a1 : Vec Ideal S32768x4864 .i8) (a2 : Vec Ideal S32768x448 .i8) (a3 : Vec Ideal S128x2x256 .f32)

/-- The reference's result at `(k, i, j)`. -/
def value (k : Fin 2) (i : Fin 448) (j : Fin 4864) : EReal :=
  (∑ l : Fin 32768, rowTerm (a2 (ix2 l i)) (a0 (ix2 l j)) (a3 (ix3 ⟨l.val / 256, by omega⟩ 0 ⟨l.val % 256, by omega⟩)) k)
    + ∑ l : Fin 32768, rowTerm (a2 (ix2 l i)) (a1 (ix2 l j)) (a3 (ix3 ⟨l.val / 256, by omega⟩ 1 ⟨l.val % 256, by omega⟩)) k

theorem pay1_eq (i : Fin 448) (j : Fin 4864) : k0_pay1 (F := Ideal) (k0_pay7 a2 a3 a0 a1) (ix3 0 i j) = value a0 a1 a2 a3 0 i j := by
  pointwise [k0_pay7, k0_pay1, k0_pay5, k0_pay6, k0_pay3]
  unfold value rowTerm nib
  simp only [if_true, Nibble.lo]
  rfl

theorem pay2_eq (i : Fin 448) (j : Fin 4864) :
    k0_pay2 (F := Ideal) (k0_pay4 a2) (k0_pay5 a3 a0) (k0_pay6 a3 a1) (ix3 0 i j) = value a0 a1 a2 a3 1 i j := by
  pointwise [k0_pay2, k0_pay4, k0_pay5, k0_pay6, k0_pay3]
  unfold value rowTerm nib
  simp only [if_neg (by decide : ¬ (1 : Fin 2) = 0), Nibble.hi]
  rfl

theorem emb_row (k : Fin 2) (inb : ∀ a, (![k.val, 0, 0] : Fin 3 → ℕ) a + S1x448x4864.size a ≤ S2x448x4864.size a) (i : Fin 448) (j : Fin 4864) :
    (Rect.unit (s := S2x448x4864) ![k.val, 0, 0] S1x448x4864.size inb).emb (ix3 0 i j) = ix3 k i j := by
  funext d
  match d with
  | ⟨0, _⟩ => exact Fin.ext (by show k.val + 1 * 0 = k.val; omega)
  | ⟨1, _⟩ => exact Fin.ext (by show 0 + 1 * i.val = i.val; omega)
  | ⟨2, _⟩ => exact Fin.ext (by show 0 + 1 * j.val = j.val; omega)

/-- The reference's array, index by index. -/
theorem G4_apply (k : Fin 2) (i : Fin 448) (j : Fin 4864) : Value.G4 a0 a1 a2 a3 (ix3 k i j) = value a0 a1 a2 a3 k i j := by
  have e1 := emb_row 1 (by decide) i j
  have e0 := emb_row 0 (by decide) i j
  unfold Value.G4
  rw [View.canon_cons]
  match k with
  | ⟨1, _⟩ =>
    refine Eq.trans ?_ (pay2_eq a0 a1 a2 a3 i j)
    refine (congrArg _ e1.symm).trans ?_
    exact Rect.overlay_emb _ _ _ _
  | ⟨0, _⟩ =>
    refine Eq.trans ?_ (pay1_eq a0 a1 a2 a3 i j)
    refine (Rect.overlay_of_not_mem _ _ _ ?_).trans ?_
    · intro h
      have h1 : (1 : ℕ) ≤ 0 := ((Rect.mem_set_unit (s := S2x448x4864) (off := ![1, 0, 0]) (size := S1x448x4864.size) (inb := by decide) (i := ix3 0 i j)).mp h (0 : Fin 3)).1
      omega
    rw [View.canon_cons]
    refine (congrArg _ e0.symm).trans ?_
    exact Rect.overlay_emb _ _ _ _

end Cert.RDwIdeal.DwRef

end
-- ==== Proof.DwEq.lean ====
/-
  The `dw` call and its reference compute the same array: a sum over 128 grid steps of 256 rows each is the sum over all 32768 rows.
-/
module

public import proofs.«01_k».proof.Proof.DwFold
public import proofs.«01_k».proof.Proof.DwRef

@[expose] public section

set_option maxRecDepth 16384

noncomputable section

namespace Cert.DwEq

open Idealize.ShloMosaic Idealize.ShloMosaic.TcCoe Idealize.ShloMosaic.Pointwise

open Cert.KDwIdeal Cert.KDwIdeal.Gen Cert.KDwIdeal.DwBody in
theorem total_eq (m : (ℓ : Loc nD τ sig) → Buf (Elt Ideal) ℓ) (c : Dev nD) (k : Fin 2) (i : Fin 448) (o : Fin 4864) :
    total m c (ix3 k i o)
      = Cert.RDwIdeal.DwRef.value (m ((c : Thread nD τ).loc main_arg0)) (m ((c : Thread nD τ).loc main_arg1)) (m ((c : Thread nD τ).loc main_arg2))
          (m ((c : Thread nD τ).loc main_arg3)) k i o := by
  unfold total
  rw [Finset.sum_range]
  have hstep : ∀ s : Fin 128, stepTermN m c (ix3 k i o) s.val
      = stepTerm m c s (ix3 k i o) := fun s => dif_pos s.isLt
  simp only [hstep]
  unfold stepTerm term
  rw [Finset.sum_add_distrib]
  unfold Cert.RDwIdeal.DwRef.value
  refine congrArg₂ (fun a b : EReal => a + b) ?_ ?_
  · refine Fin.sum_mul_add_congr (S := 128) (n := 256) (L := 32768) (f := fun l => _) ?_
    intro s r hl
    have h1 := iblk2_apply m c s r i hl
    have h2 := iblk0_apply m c s r o hl
    have h3 := iblk3_apply m c s 0 r
    have e1 : (⟨(s.val * 256 + r.val) / 256, by omega⟩ : Fin 128) = s := Fin.ext (by show (s.val * 256 + r.val) / 256 = s.val; omega)
    have e2 : (⟨(s.val * 256 + r.val) % 256, by omega⟩ : Fin 256) = r := Fin.ext (by show (s.val * 256 + r.val) % 256 = r.val; omega)
    unfold Cert.RDwIdeal.DwRef.rowTerm
    show _ * (FloatOps.sitofp (F := Ideal) .bf16 (iblk m c 0 s (ix2 r o)) * iblk m c 3 s (ix3 0 0 r)) = _
    rw [h2, h3, e1, e2]
    refine congrArg (fun b : BitVec 8 => (FloatOps.sitofp (F := Ideal) .f32 (nib k b) : EReal) * _) h1
  · refine Fin.sum_mul_add_congr (S := 128) (n := 256) (L := 32768) (f := fun l => _) ?_
    intro s r hl
    have h1 := iblk2_apply m c s r i hl
    have h2 := iblk1_apply m c s r o hl
    have h3 := iblk3_apply m c s 1 r
    have e1 : (⟨(s.val * 256 + r.val) / 256, by omega⟩ : Fin 128) = s := Fin.ext (by show (s.val * 256 + r.val) / 256 = s.val; omega)
    have e2 : (⟨(s.val * 256 + r.val) % 256, by omega⟩ : Fin 256) = r := Fin.ext (by show (s.val * 256 + r.val) % 256 = r.val; omega)
    unfold Cert.RDwIdeal.DwRef.rowTerm
    show _ * (FloatOps.sitofp (F := Ideal) .bf16 (iblk m c 1 s (ix2 r o)) * iblk m c 3 s (ix3 0 1 r)) = _
    rw [h2, h3, e1, e2]
    refine congrArg (fun b : BitVec 8 => (FloatOps.sitofp (F := Ideal) .f32 (nib k b) : EReal) * _) h1

end Cert.DwEq

end
-- ==== Proof.CEq.lean ====
/-
  The coefficient call and its reference compute the same array: the total over all samples is one sum, taken in either order.
-/
module

public import proofs.«01_k».proof.Proof.Gen.KCIdeal.Value
public import proofs.«01_k».proof.Proof.Gen.RCIdeal.Read
public import Idealize.ShloMosaic.Lib.Pointwise

@[expose] public section

set_option maxRecDepth 16384

noncomputable section

namespace Cert.CEq

open Idealize.ShloMosaic Idealize.ShloMosaic.TcCoe Idealize.ShloMosaic.Pointwise

open Cert.KCIdeal Cert.KCIdeal.Gen

variable (a0 : Vec Ideal S128x8x256 .f32) (a1 : Vec Ideal S128x1x256 .f32) (a2 : Vec Ideal S128x2x256 .f32)

/-- The unnormalised coefficients as the kernel computes them, as an array. -/
abbrev weights : FVec Ideal S128x2x256 .f32 :=
  mulf (mulf (mulf (View.ld a0 r0_0) (sqrt (View.ld a0 r0_2))) (broadcastTo S128x2x256 a1 broadcasts_S128x1x256_S128x2x256))
    (broadcastTo S128x2x256 (sqrt (View.ld a0 r0_3)) broadcasts_S128x1x256_S128x2x256)

/-- The kernel's total: one sum over every index. -/
theorem total_eq (j : S1.Idx) :
    Ideal.reduceAdd reduces_S1x128x2x256_S1 (shapeCast S1x128x2x256 (weights a0 a1) shapeCasts_S128x2x256_S1x128x2x256) j
      = ∑ i : S128x2x256.Idx, weights a0 a1 i := by
  rw [Ideal.reduceAdd_total reduces_S1x128x2x256_S1 (by decide)]
  exact Equiv.sum_comp (Shape.reshapeEquiv shapeCasts_S128x2x256_S1x128x2x256) (weights a0 a1)

/-- The reference's unnormalised coefficients are the kernel's. -/
theorem weights_eq (i : S128x2x256.Idx) : Cert.RCIdeal.Read.val_main_v9 (F := Ideal) a0 a1 i = weights a0 a1 i := by
  idx_vars i
  pointwise [weights, Cert.RCIdeal.Read.val_main_v9, Cert.RCIdeal.Read.val_main_v8, Cert.RCIdeal.Read.val_main_v7, Cert.RCIdeal.Read.val_main_v6,
    Cert.RCIdeal.Read.val_main_v5, Cert.RCIdeal.Read.val_main_v4, Cert.RCIdeal.Read.val_main_v3, Cert.RCIdeal.Read.val_main_v2,
    Cert.RCIdeal.Read.val_main_v1, Cert.RCIdeal.Read.val_main_v0]

theorem refTotal_eq (j : Cert.RCIdeal.S_.Idx) :
    Cert.RCIdeal.Read.val_main_v10 (F := Ideal) a0 a1 j = ∑ i : S128x2x256.Idx, weights a0 a1 i := by
  rw [Cert.RCIdeal.Read.val_main_v10_apply, Finset.sum_congr rfl fun i _ => weights_eq a0 a1 i]
  have h0 : (Cert.RCIdeal.Read.val_main_cst (F := Ideal)) (Shape.Idx.first Cert.RCIdeal.Gen.h_S_) = (0 : EReal) := Ideal.ofBits_zero .f32
  rw [h0, zero_add]

open Cert.RCIdeal.Read in
theorem value_eq (i : S128x2x256.Idx) : Cert.KCIdeal.Value.G3 a0 a1 a2 i = Cert.RCIdeal.Read.val_main_v22 (F := Ideal) a0 a1 a2 i := by
  have hr := refTotal_eq a0 a1
  have hk := total_eq a0 a1
  unfold weights at hk
  generalize (∑ i : S128x2x256.Idx, weights a0 a1 i) = T at hr hk
  idx_vars i
  pointwise [val_main_v0, val_main_v1, val_main_v2, val_main_v3, val_main_v4, val_main_v5, val_main_v6, val_main_v7, val_main_v8, val_main_v9, val_main_v11, val_main_v12, val_main_v13, val_main_v14, val_main_v15, val_main_v16, val_main_v17, val_main_v18, val_main_v19, val_main_v20, val_main_v21, val_main_v22, val_main_cst, val_main_cst_0, val_main_cst_1, val_main_cst_2, val_main_cst_3, val_main_cst_4, val_main_cst_5, val_main_call0_v0, val_main_call1_v0, val_main_call1_v1, val_main_call1_v2, val_main_call1_v3, val_main_call1_v4, val_main_call2_v0, val_main_call2_v1, Cert.KCIdeal.Value.G3, Cert.KCIdeal.Gen.k0_pay1]
  rw [hk]
  simp only [hr, id_eq]
  pointwise []

end Cert.CEq

end
-- ==== Proof.WEq.lean ====
/-
  The weight decoding call and its reference compute the same array.
-/
module

public import proofs.«01_k».proof.Proof.Gen.KWIdeal.Value
public import proofs.«01_k».proof.Proof.Gen.RWIdeal.Value
public import proofs.«01_k».proof.Proof.Nibble
public import Idealize.ShloMosaic.Lib.Pointwise
public import Idealize.ShloMosaic.Lib.Pipeline.ValueKit.Point

@[expose] public section

set_option maxRecDepth 16384

noncomputable section

namespace Cert.WEq

open Idealize.ShloMosaic Idealize.ShloMosaic.TcCoe Idealize.ShloMosaic.Pointwise

/-- Row `i` of the reference's array is row `i / 2` of the packed one: the low nibble of an even row, the high nibble of an odd one. -/
theorem ref_apply (a0 : Vec Ideal Cert.RWIdeal.S2432x896 .i8) (i : Fin 4864) (j : Fin 896) :
    Cert.RWIdeal.Value.G1 a0 (ix2 i j)
      = FloatOps.sitofp (F := Ideal) .f32 (IntOp.shrsi .vector (IntOp.shli .vector (BitVec.setWidth 32 (a0 (ix2 ⟨i.val / 2, by omega⟩ j)))
          (if i.val % 2 < 1 then 28#32 else 24#32)) 28#32) := by
  pointwise [Cert.RWIdeal.Value.G1, Cert.RWIdeal.Gen.k0_pay1]
  by_cases h : i.val % 2 < 1
  · rw [dif_pos h, if_pos h, Nibble.lo]; rfl
  · rw [dif_neg h, if_neg h, Nibble.hi]; rfl

/-- The same of one block of the kernel. -/
theorem ker_apply (a0 : Vec Ideal Cert.KWIdeal.S128x896 .i8) (i : Fin 256) (j : Fin 896) :
    Cert.KWIdeal.Gen.k0_pay1 a0 (ix2 i j)
      = FloatOps.sitofp (F := Ideal) .f32 (IntOp.shrsi .vector (IntOp.shli .vector (BitVec.setWidth 32 (a0 (ix2 ⟨i.val / 2, by omega⟩ j)))
          (if i.val % 2 < 1 then 28#32 else 24#32)) 28#32) := by
  pointwise [Cert.KWIdeal.Gen.k0_pay1]
  by_cases h : i.val % 2 < 1
  · rw [dif_pos h, if_pos h]
  · rw [dif_neg h, if_neg h]

section
open Cert.KWIdeal Cert.KWIdeal.Gen

variable (m : (ℓ : Loc nD τ sig) → Buf (Elt Ideal) ℓ) (c : Dev nD)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)

theorem iblk0_apply (t : Fin cfg0.N) (r : Fin 128) (o : Fin 896) (h : t.val * 128 + r.val < 2432) :
    iblk m c 0 t (ix2 r o) = m ((c : Thread nD τ).loc main_arg0) (ix2 ⟨t.val * 128 + r.val, h⟩ o) := by
  blk_ext! [iblk, V, idx0 t]

/-- Block `t` of the result begins at row `256 t`. -/
theorem emb_apply (t : Fin cfg0.N) (r : Fin 256) (o : Fin 896) (h : t.val * 256 + r.val < 4864) :
    (win0_1.blk t).view.emb (ix2 r o) = ix2 ⟨t.val * 256 + r.val, h⟩ o := by
  have e0 := idx1 t
  funext a
  match a with
  | ⟨0, _⟩ => exact Fin.ext (by show win0_1.index t (0 : Fin 2) * 256 + 1 * r.val = t.val * 256 + r.val; rw [e0.1, Nat.one_mul])
  | ⟨1, _⟩ => exact Fin.ext (by show win0_1.index t (1 : Fin 2) * 896 + 1 * o.val = o.val; rw [e0.2, Nat.one_mul, Nat.zero_mul, Nat.zero_add])

/-- What grid step `t` stores is the reference's array at the block's rows. -/
theorem point (t : Fin cfg0.N) (r : Fin 256) (o : Fin 896) (h : t.val * 256 + r.val < 4864) :
    k0_pay1 (iblk m c 0 t) (ix2 r o) = Cert.RWIdeal.Value.G1 (m ((c : Thread nD τ).loc main_arg0)) (ix2 ⟨t.val * 256 + r.val, h⟩ o) := by
  have hq : t.val * 128 + r.val / 2 < 2432 := by omega
  have hr := r.isLt
  refine (ker_apply _ r o).trans ((?_ : _ = _).trans (ref_apply _ ⟨t.val * 256 + r.val, h⟩ o).symm)
  have e := iblk0_apply m c t ⟨r.val / 2, by omega⟩ o hq
  have e1 : (⟨(t.val * 256 + r.val) / 2, by omega⟩ : Fin 2432) = ⟨t.val * 128 + r.val / 2, hq⟩ := Fin.ext (by show (t.val * 256 + r.val) / 2 = t.val * 128 + r.val / 2; omega)
  have e2 : (t.val * 256 + r.val) % 2 = r.val % 2 := by omega
  show _ = FloatOps.sitofp (F := Ideal) .f32 (IntOp.shrsi .vector (IntOp.shli .vector (BitVec.setWidth 32 (m ((c : Thread nD τ).loc main_arg0) (ix2 ⟨(t.val * 256 + r.val) / 2, by omega⟩ o)))
        (if (t.val * 256 + r.val) % 2 < 1 then 28#32 else 24#32)) 28#32)
  rw [e1, e2]
  exact congrArg (fun b : BitVec 8 => FloatOps.sitofp (F := Ideal) .f32 (IntOp.shrsi .vector (IntOp.shli .vector (BitVec.setWidth 32 b)
        (if r.val % 2 < 1 then 28#32 else 24#32)) 28#32)) e

theorem final_eq : (dats m 0 c).arrAt 1 cfg0.N = Cert.RWIdeal.Value.G1 (m ((c : Thread nD τ).loc main_arg0)) := by
  refine (dats m 0 c).arrAt_eq_of_covers 1 _ (by decide +kernel) fun t hf y => ?_
  blk_simp
  rw [after0_1]
  frame_out
  have hlt : t.val < 19 := t.isLt
  have hr : ∀ r : Fin 256, t.val * 256 + r.val < 4864 := fun r => by have := r.isLt; omega
  have hy : y = ix2 (n0 := 256) (n1 := 896) (y 0) (y 1) := eq_ix2 (n0 := 256) (n1 := 896) y
  generalize hr0 : (y 0 : Fin 256) = r at hy
  generalize hr1 : (y 1 : Fin 896) = o at hy
  subst hy
  refine (point m c t r o (hr r)).trans ?_
  exact congrArg (Cert.RWIdeal.Value.G1 (F := Ideal) (m ((c : Thread nD τ).loc main_arg0))) (emb_apply t r o (hr r)).symm

end

end Cert.WEq

end
-- ==== Proof.lean ====
module

public import proofs.«01_k».proof.Defs
public import proofs.«01_k».proof.Proof.Gen.KDx
public import proofs.«01_k».proof.Proof.Gen.KDxIdeal
public import proofs.«01_k».proof.Proof.Gen.RDxIdeal
public import proofs.«01_k».proof.Proof.Gen.RDxIdeal.Frame
public import proofs.«01_k».proof.Proof.Gen.KDw
public import proofs.«01_k».proof.Proof.Gen.KDw.Skeleton
public import proofs.«01_k».proof.Proof.Gen.KDw.Launch
public import proofs.«01_k».proof.Proof.Gen.KDw.Points
public import proofs.«01_k».proof.Proof.Gen.KDw.Frame
public import proofs.«01_k».proof.Proof.Gen.KDwIdeal
public import proofs.«01_k».proof.Proof.Gen.KDwIdeal.Skeleton
public import proofs.«01_k».proof.Proof.Gen.KDwIdeal.Launch
public import proofs.«01_k».proof.Proof.Gen.KDwIdeal.Points
public import proofs.«01_k».proof.Proof.Gen.KDwIdeal.Frame
public import proofs.«01_k».proof.Proof.Gen.RDwIdeal
public import proofs.«01_k».proof.Proof.Gen.RDwIdeal.Skeleton
public import proofs.«01_k».proof.Proof.Gen.RDwIdeal.Launch
public import proofs.«01_k».proof.Proof.Gen.RDwIdeal.Points
public import proofs.«01_k».proof.Proof.Gen.RDwIdeal.Frame
public import proofs.«01_k».proof.Proof.Gen.KC
public import proofs.«01_k».proof.Proof.Gen.KC.Skeleton
public import proofs.«01_k».proof.Proof.Gen.KC.Launch
public import proofs.«01_k».proof.Proof.Gen.KC.Points
public import proofs.«01_k».proof.Proof.Gen.KC.Frame
public import proofs.«01_k».proof.Proof.Gen.KCIdeal
public import proofs.«01_k».proof.Proof.Gen.KCIdeal.Skeleton
public import proofs.«01_k».proof.Proof.Gen.KCIdeal.Launch
public import proofs.«01_k».proof.Proof.Gen.KCIdeal.Points
public import proofs.«01_k».proof.Proof.Gen.KCIdeal.Frame
public import proofs.«01_k».proof.Proof.Gen.RCIdeal
public import proofs.«01_k».proof.Proof.Gen.KW
public import proofs.«01_k».proof.Proof.Gen.KW.Skeleton
public import proofs.«01_k».proof.Proof.Gen.KW.Launch
public import proofs.«01_k».proof.Proof.Gen.KW.Points
public import proofs.«01_k».proof.Proof.Gen.KW.Frame
public import proofs.«01_k».proof.Proof.Gen.KWIdeal
public import proofs.«01_k».proof.Proof.Gen.KWIdeal.Skeleton
public import proofs.«01_k».proof.Proof.Gen.KWIdeal.Launch
public import proofs.«01_k».proof.Proof.Gen.KWIdeal.Points
public import proofs.«01_k».proof.Proof.Gen.KWIdeal.Frame
public import proofs.«01_k».proof.Proof.Gen.RWIdeal
public import proofs.«01_k».proof.Proof.Gen.RWIdeal.Skeleton
public import proofs.«01_k».proof.Proof.Gen.RWIdeal.Launch
public import proofs.«01_k».proof.Proof.Gen.RWIdeal.Points
public import proofs.«01_k».proof.Proof.Gen.RWIdeal.Frame
public import proofs.«01_k».proof.Proof.Gen.KDwIdeal.Value
public import proofs.«01_k».proof.Proof.Gen.KCIdeal.Value
public import proofs.«01_k».proof.Proof.Gen.KWIdeal.Value
public import proofs.«01_k».proof.Proof.Gen.RDwIdeal.Value
public import proofs.«01_k».proof.Proof.Gen.RWIdeal.Value
public import proofs.«01_k».proof.Proof.Gen.RCIdeal.Run
public import proofs.«01_k».proof.Proof.Gen.RCIdeal.Read
public import proofs.«01_k».proof.Proof.DxBits
public import proofs.«01_k».proof.Proof.DxFrame
public import proofs.«01_k».proof.Proof.DxEq
public import proofs.«01_k».proof.Proof.DwEq
public import proofs.«01_k».proof.Proof.CEq
public import proofs.«01_k».proof.Proof.WEq
public import Idealize.ShloMosaic.Adequacy
public import Idealize.ShloMosaic.Init

@[expose] public section

noncomputable section

namespace Cert.Proof

open Idealize.ShloMosaic Idealize.SL.Sem Cert.KDw

open Cert.KDwIdeal Cert.KDwIdeal.Gen Cert.KDwIdeal.DwBody Idealize.ShloMosaic.TcCoe Idealize.ShloMosaic.Pointwise in
/-- The weight gradient call computes the reference's array. -/
theorem algebraic_dw : Cert.algebraic_KDwIdeal_RDwIdeal (hKDwIdeal := Cert.KDwIdeal.Gen.facts) (hRDwIdeal := Cert.RDwIdeal.Gen.facts) := by
  intro m g m' g' _ hargs
  have hrun := Cert.KDwIdeal.Value.run_blocks (F := Ideal) m g
  refine ⟨fun c => total m c, (θ_run _ _ _).mono (fun r h c => ?_) hrun, ?_⟩
  · obtain ⟨hv, h⟩ := h c
    exact ⟨hv.trans (final_eq m c), h⟩
  refine (θ_run (Cert.RDwIdeal.defs (F := Ideal)) _ _).mono (fun r h c => ?_) (Cert.RDwIdeal.Value.run (F := Ideal) m' g')
  obtain ⟨hv, h⟩ := h c
  refine ⟨hv.trans ?_, h⟩
  rw [(hargs c).1, (hargs c).2.1, (hargs c).2.2.1, (hargs c).2.2.2]
  funext y
  have hy : y = ix3 (n0 := 2) (n1 := 448) (n2 := 4864) (y 0) (y 1) (y 2) := eq_ix3 (n0 := 2) (n1 := 448) (n2 := 4864) y
  rw [hy]
  exact (Cert.RDwIdeal.DwRef.G4_apply _ _ _ _ _ _ _).trans (Cert.DwEq.total_eq m c _ _ _).symm

/-- The coefficient call computes the reference's array. -/
theorem algebraic_c : Cert.algebraic_KCIdeal_RCIdeal (hKCIdeal := Cert.KCIdeal.Gen.facts) (hRCIdeal := Cert.RCIdeal.Gen.facts) := by
  intro m g m' g' _ hargs
  refine ⟨_, Cert.KCIdeal.Value.run (F := Ideal) m g, ?_⟩
  refine (θ_run (Cert.RCIdeal.defs (F := Ideal)) _ _).mono (fun r h c => ?_) (Cert.RCIdeal.Value.run (F := Ideal) m' g')
  obtain ⟨hv, h⟩ := h c
  refine ⟨(hv.trans (Cert.RCIdeal.Read.val_main_v22_eq m' c)).trans ?_, h⟩
  rw [(hargs c).1, (hargs c).2.1, (hargs c).2.2]
  exact funext fun i => (Cert.CEq.value_eq _ _ _ i).symm

/-- The weight decoding call computes the reference's array. -/
theorem algebraic_w : Cert.algebraic_KWIdeal_RWIdeal (hKWIdeal := Cert.KWIdeal.Gen.facts) (hRWIdeal := Cert.RWIdeal.Gen.facts) := by
  intro m g m' g' _ hargs
  refine ⟨_, Cert.KWIdeal.Value.run_blocks (F := Ideal) m g, ?_⟩
  refine (θ_run (Cert.RWIdeal.defs (F := Ideal)) _ _).mono (fun r h c => ?_) (Cert.RWIdeal.Value.run (F := Ideal) m' g')
  obtain ⟨hv, h⟩ := h c
  refine ⟨hv.trans ?_, h⟩
  rw [hargs c]
  exact (Cert.WEq.final_eq m c).symm

theorem claim : Cert.Claim :=
  ⟨Cert.KDx.Gen.facts, Cert.KDxIdeal.Gen.facts, Cert.RDxIdeal.Gen.facts, Cert.KDw.Gen.facts, Cert.KDwIdeal.Gen.facts, Cert.RDwIdeal.Gen.facts, Cert.KC.Gen.facts, Cert.KCIdeal.Gen.facts, Cert.RCIdeal.Gen.facts,
    Cert.KW.Gen.facts, Cert.KWIdeal.Gen.facts, Cert.RWIdeal.Gen.facts,
    Cert.DxBits.frame_eq.mpr (fun m g _ => Cert.KDxIdeal.Dx.frame (F := Bits) m g), fun m ρ _ => Cert.KDxIdeal.Dx.frame (F := Ideal) m ρ, fun m ρ _ => Cert.RDxIdeal.Gen.frame m ρ,
    fun m ρ _ => Cert.KDw.Gen.frame m ρ, fun m ρ _ => Cert.KDwIdeal.Gen.frame m ρ, fun m ρ _ => Cert.RDwIdeal.Gen.frame m ρ,
    fun m ρ _ => Cert.KC.Gen.frame m ρ, fun m ρ _ => Cert.KCIdeal.Gen.frame m ρ, fun m ρ _ => (θ_run _ _ _).mono (fun _ h => ⟨fun c => (h c).2, funext fun g => nomatch g⟩) (Cert.RCIdeal.Value.run (F := Ideal) m ρ),
    fun m ρ _ => Cert.KW.Gen.frame m ρ, fun m ρ _ => Cert.KWIdeal.Gen.frame m ρ, fun m ρ _ => Cert.RWIdeal.Gen.frame m ρ,
    trivial, Cert.DxEq.algebraic_dx, trivial, algebraic_dw, trivial, algebraic_c, trivial, algebraic_w⟩

end Cert.Proof

end
